-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_all [hPre_finite_all : Cert.Pre_finite_all.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_all.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_all [hPre_finite_all : Cert.Pre_finite_all.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_all.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qkv [hPre_finite_qkv : Cert.Pre_finite_qkv.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qkv.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qkv [hPre_finite_qkv : Cert.Pre_finite_qkv.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qkv.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite_all [hKernel2Ideal : Cert.Kernel2Ideal.Facts] [hPre_finite_all : Cert.Pre_finite_all.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_all m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite_all [hReference2Ideal : Cert.Reference2Ideal.Facts] [hPre_finite_all : Cert.Pre_finite_all.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_all m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_qkv [hKernel3Ideal : Cert.Kernel3Ideal.Facts] [hPre_finite_qkv : Cert.Pre_finite_qkv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qkv m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_qkv [hReference3Ideal : Cert.Reference3Ideal.Facts] [hPre_finite_qkv : Cert.Pre_finite_qkv.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qkv m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_all [hKernel2Ideal : Cert.Kernel2Ideal.Facts] [hReference2Ideal : Cert.Reference2Ideal.Facts] [hPre_finite_all : Cert.Pre_finite_all.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_all m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)) (v4 : (c : Dev Cert.Kernel2Ideal.nD) → Buf (Elt Ideal) ((c.tc : Thread Cert.Kernel2Ideal.nD Cert.Kernel2Ideal.τ).loc Cert.Kernel2Ideal.main_v7_4)) (v5 : (c : Dev Cert.Kernel2Ideal.nD) → Buf (Elt Ideal) ((c.tc : Thread Cert.Kernel2Ideal.nD Cert.Kernel2Ideal.τ).loc Cert.Kernel2Ideal.main_v7_5)) (v6 : (c : Dev Cert.Kernel2Ideal.nD) → Buf (Elt Ideal) ((c.tc : Thread Cert.Kernel2Ideal.nD Cert.Kernel2Ideal.τ).loc Cert.Kernel2Ideal.main_v7_6)) (v7 : (c : Dev Cert.Kernel2Ideal.nD) → Buf (Elt Ideal) ((c.tc : Thread Cert.Kernel2Ideal.nD Cert.Kernel2Ideal.τ).loc Cert.Kernel2Ideal.main_v7_7)) (v8 : (c : Dev Cert.Kernel2Ideal.nD) → Buf (Elt Ideal) ((c.tc : Thread Cert.Kernel2Ideal.nD Cert.Kernel2Ideal.τ).loc Cert.Kernel2Ideal.main_v7_8)) (v9 : (c : Dev Cert.Kernel2Ideal.nD) → Buf (Elt Ideal) ((c.tc : Thread Cert.Kernel2Ideal.nD Cert.Kernel2Ideal.τ).loc Cert.Kernel2Ideal.main_v7_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_v7_4) = v4 c
          ∧ r.2.mem ((c.tc : Thread Cert.Kernel2Ideal.nD Cert.Kernel2Ideal.τ).loc Cert.Kernel2Ideal.main_v7_5) = v5 c
          ∧ r.2.mem ((c.tc : Thread Cert.Kernel2Ideal.nD Cert.Kernel2Ideal.τ).loc Cert.Kernel2Ideal.main_v7_6) = v6 c
          ∧ r.2.mem ((c.tc : Thread Cert.Kernel2Ideal.nD Cert.Kernel2Ideal.τ).loc Cert.Kernel2Ideal.main_v7_7) = v7 c
          ∧ r.2.mem ((c.tc : Thread Cert.Kernel2Ideal.nD Cert.Kernel2Ideal.τ).loc Cert.Kernel2Ideal.main_v7_8) = v8 c
          ∧ r.2.mem ((c.tc : Thread Cert.Kernel2Ideal.nD Cert.Kernel2Ideal.τ).loc Cert.Kernel2Ideal.main_v7_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v113) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_v115) = v4 c
          ∧ r.2.mem ((c.tc : Thread Cert.Reference2Ideal.nD Cert.Reference2Ideal.τ).loc Cert.Reference2Ideal.main_v107) = v5 c
          ∧ r.2.mem ((c.tc : Thread Cert.Reference2Ideal.nD Cert.Reference2Ideal.τ).loc Cert.Reference2Ideal.main_v110) = v6 c
          ∧ r.2.mem ((c.tc : Thread Cert.Reference2Ideal.nD Cert.Reference2Ideal.τ).loc Cert.Reference2Ideal.main_v116) = v7 c
          ∧ r.2.mem ((c.tc : Thread Cert.Reference2Ideal.nD Cert.Reference2Ideal.τ).loc Cert.Reference2Ideal.main_v117) = v8 c
          ∧ r.2.mem ((c.tc : Thread Cert.Reference2Ideal.nD Cert.Reference2Ideal.τ).loc Cert.Reference2Ideal.main_v106) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "mask" .f32 0xF149F2CA#32 ⊥

def algebraic_Kernel3Ideal_Reference3Ideal_pre_finite_qkv [hKernel3Ideal : Cert.Kernel3Ideal.Facts] [hReference3Ideal : Cert.Reference3Ideal.Facts] [hPre_finite_qkv : Cert.Pre_finite_qkv.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qkv m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v110_0)) (v1 : (c : Dev Cert.Kernel3Ideal.nD) → Buf (Elt Ideal) ((c.tc : Thread Cert.Kernel3Ideal.nD Cert.Kernel3Ideal.τ).loc Cert.Kernel3Ideal.main_v110_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v110_0) = v0 c
          ∧ r.2.mem ((c.tc : Thread Cert.Kernel3Ideal.nD Cert.Kernel3Ideal.τ).loc Cert.Kernel3Ideal.main_v110_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v333) = v0 c
          ∧ r.2.mem ((c.tc : Thread Cert.Reference3Ideal.nD Cert.Reference3Ideal.τ).loc Cert.Reference3Ideal.main_v336) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v83)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v83) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v137) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "mask" .f32 0xF149F2CA#32 ⊥

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v83)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v83) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_args : Cert.Pre_finite_args.Facts) (hPre_finite_all : Cert.Pre_finite_all.Facts) (hPre_finite_qkv : Cert.Pre_finite_qkv.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_all (hKernel2Ideal := hKernel2Ideal) (hPre_finite_all := hPre_finite_all)
    ∧ quiescent_Reference2Ideal (hReference2Ideal := hReference2Ideal)
    ∧ quiescent_Reference2Ideal_pre_finite_all (hReference2Ideal := hReference2Ideal) (hPre_finite_all := hPre_finite_all)
    ∧ quiescent_Kernel3 (hKernel3 := hKernel3)
    ∧ quiescent_Kernel3Ideal (hKernel3Ideal := hKernel3Ideal)
    ∧ quiescent_Kernel3Ideal_pre_finite_qkv (hKernel3Ideal := hKernel3Ideal) (hPre_finite_qkv := hPre_finite_qkv)
    ∧ quiescent_Reference3Ideal (hReference3Ideal := hReference3Ideal)
    ∧ quiescent_Reference3Ideal_pre_finite_qkv (hReference3Ideal := hReference3Ideal) (hPre_finite_qkv := hPre_finite_qkv)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_all (hKernel2Ideal := hKernel2Ideal) (hReference2Ideal := hReference2Ideal) (hPre_finite_all := hPre_finite_all)
    ∧ preserves_Kernel3_Kernel3Ideal
    ∧ algebraic_Kernel3Ideal_Reference3Ideal_pre_finite_qkv (hKernel3Ideal := hKernel3Ideal) (hReference3Ideal := hReference3Ideal) (hPre_finite_qkv := hPre_finite_qkv)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_all.lean ====
abbrev S8192x1024 : Shape := ⟨2, ![8192, 1024]⟩
abbrev S8192x512 : Shape := ⟨2, ![8192, 512]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg8 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4096x1024 .f32 := Host.absf main_arg8
  let main_cst_14 : FVec F S_ .f32 := constant S_ .f32 0x7F800000#32
  let main_v33 : FVec F S4096x1024 .f32 := broadcastInDim S4096x1024 ![] bcast_S_S4096x1024 main_cst_14
  let main_v34 : IVec S4096x1024 1 := cmpf .olt main_v32 main_v33
  let main_c_15 : IVec S_ 1 := constantI S_ 1 1#1
  let main_v35 : IVec S_ 1 := (fun x v => Host.reduce IntOp.andi x v reducesTo_S4096x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024 .f32) (main_arg5 : FVec F S1024 .f32) (main_arg6 : FVec F S1024x1024 .f32) (main_arg7 : FVec F S1024x4096 .f32) (main_arg8 : FVec F S4096x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S1024x4096 .f32 := Host.absf main_arg7
  let main_cst_12 : FVec F S_ .f32 := constant S_ .f32 0x7F800000#32
  let main_v29 : FVec F S1024x4096 .f32 := broadcastInDim S1024x4096 ![] bcast_S_S1024x4096 main_cst_12
  let main_v30 : IVec S1024x4096 1 := cmpf .olt main_v28 main_v29
  let main_c_13 : IVec S_ 1 := constantI S_ 1 1#1
  let main_v31 : IVec S_ 1 := (fun x v => Host.reduce IntOp.andi x v reducesTo_S1024x4096_S_d0_1 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S8192x512 .f32) (main_arg2 : FVec F S8192x512 .f32) (main_arg3 : FVec F S8192x1024 .f32) (main_arg4 : FVec F S1x1024 .f32) (main_arg5 : FVec F S1024 .f32) (main_arg6 : FVec F S1024x1024 .f32) (main_arg7 : FVec F S1024x4096 .f32) (main_arg8 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_arg6 main_arg7 main_arg8 main_v3 main_v7 main_v11 main_v15
-- ==== Pre_finite_args.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3088 : S_.BroadcastsInDim S1024x3088 (![] : Fin 0 → Fin S1024x3088.rank)
  reducesTo_S1024x3088_S_d0_1 : S1024x3088.ReducesTo [0, 1] S_
  bcast_S_S8192x3088 : S_.BroadcastsInDim S8192x3088 (![] : Fin 0 → Fin S8192x3088.rank)
  reducesTo_S8192x3088_S_d0_1 : S8192x3088.ReducesTo [0, 1] S_

variable [Facts]

def fn_part1 {F : FTy → Type} [FloatOps F] (main_v13 : IVec S_ 1) (main_v16 : IVec S8192x3088 1) : IVec S_ 1 :=
  let main_c_5 : IVec S_ 1 := constantI S_ 1 1#1
  let main_v17 : IVec S_ 1 := (fun x v => Host.reduce IntOp.andi x v reducesTo_S8192x3088_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S1024x3088 .f32) (main_arg3 : FVec F S8192x1024 .f32) (main_arg4 : FVec F S8192x3088 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3088 .f32 := Host.absf main_arg2
  let main_cst_2 : FVec F S_ .f32 := constant S_ .f32 0x7F800000#32
  let main_v10 : FVec F S1024x3088 .f32 := broadcastInDim S1024x3088 ![] bcast_S_S1024x3088 main_cst_2
  let main_v11 : IVec S1024x3088 1 := cmpf .olt main_v9 main_v10
  let main_c_3 : IVec S_ 1 := constantI S_ 1 1#1
  let main_v12 : IVec S_ 1 := (fun x v => Host.reduce IntOp.andi x v reducesTo_S1024x3088_S_d0_1 h_S_) main_v11 main_c_3
  let main_v13 : IVec S_ 1 := andi main_v8 main_v12
  let main_v14 : FVec F S8192x3088 .f32 := Host.absf main_arg4
  let main_cst_4 : FVec F S_ .f32 := constant S_ .f32 0x7F800000#32
  let main_v15 : FVec F S8192x3088 .f32 := broadcastInDim S8192x3088 ![] bcast_S_S8192x3088 main_cst_4
  let main_v16 : IVec S8192x3088 1 := cmpf .olt main_v14 main_v15
  fn_part1 (F := F) main_v13 main_v16
-- ==== Pre_finite_qkv.lean ====
abbrev S8192x1536 : Shape := ⟨2, ![8192, 1536]⟩
abbrev S32x8 : Shape := ⟨2, ![32, 8]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S8192x1536 .f32) (main_arg1 : FVec F S32x8 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  main_v8
-- ==== Kernel.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S1024x1552 : Shape := ⟨2, ![1024, 1552]⟩
abbrev S_ : Shape := ⟨0, ![]⟩
abbrev S1024x112 : Shape := ⟨2, ![1024, 112]⟩
abbrev S1024x1536 : Shape := ⟨2, ![1024, 1536]⟩
abbrev S1024x3200 : Shape := ⟨2, ![1024, 3200]⟩
abbrev S8192x1552 : Shape := ⟨2, ![8192, 1552]⟩
abbrev S8192x112 : Shape := ⟨2, ![8192, 112]⟩
abbrev S8192x1664 : Shape := ⟨2, ![8192, 1664]⟩
abbrev S8192x512 : Shape := ⟨2, ![8192, 512]⟩
abbrev S512x1024 : Shape := ⟨2, ![512, 1024]⟩
abbrev S512x1664 : Shape := ⟨2, ![512, 1664]⟩
abbrev S512x512 : Shape := ⟨2, ![512, 512]⟩
abbrev S1024x1664 : Shape := ⟨2, ![1024, 1664]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S8192x1024, .f32⟩
  | .hbm, ⟨4, _⟩ => ⟨S8192x3088, .f32⟩
  | .hbm, ⟨5, _⟩ => ⟨S1024x3088, .bf16⟩
  | .hbm, ⟨6, _⟩ => ⟨S1024x1552, .bf16⟩
  | .hbm, ⟨7, _⟩ => ⟨S_, .bf16⟩
  | .hbm, ⟨8, _⟩ => ⟨S1024x112, .bf16⟩
  | .hbm, ⟨9, _⟩ => ⟨S1024x1536, .bf16⟩
  | .hbm, ⟨10, _⟩ => ⟨S1024x3200, .bf16⟩
  | .hbm, ⟨11, _⟩ => ⟨S8192x1552, .f32⟩
  | .hbm, ⟨12, _⟩ => ⟨S_, .f32⟩
  | .hbm, ⟨13, _⟩ => ⟨S8192x112, .f32⟩
  | .hbm, ⟨14, _⟩ => ⟨S8192x1664, .f32⟩
  | .hbm, ⟨15, _⟩ => ⟨S8192x1664, .bf16⟩
  | .hbm, ⟨16, _⟩ => ⟨S8192x512, .f32⟩
  | .hbm, ⟨17, _⟩ => ⟨S8192x512, .bf16⟩
  | .hbm, ⟨18, _⟩ => ⟨S8192x512, .f32⟩
  | .hbm, ⟨19, _⟩ => ⟨S8192x512, .bf16⟩
  | .hbm, ⟨20, _⟩ => ⟨S8192x512, .f32⟩
  | .hbm, ⟨21, _⟩ => ⟨S8192x512, .bf16⟩
  | .hbm, ⟨22, _⟩ => ⟨S8192x1024, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1664, .bf16⟩
  | .local _ .vmem, ⟨6, _⟩ => ⟨S512x1664, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1x1024 : Shape := ⟨2, ![1, 1024]⟩
abbrev S1024x3088 : Shape := ⟨2, ![1024, 3088]⟩
abbrev S8192x3088 : Shape := ⟨2, ![8192, 3088]⟩
abbrev S1024 : Shape := ⟨1, ![1024]⟩
abbrev S_ : Shape := ⟨0, ![]⟩
abbrev S8192 : Shape := ⟨1, ![8192]⟩
abbrev S8192x1 : Shape := ⟨2, ![8192, 1]⟩
abbrev S3088x1024 : Shape := ⟨2, ![3088, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S8192x1024, .f32⟩
  | .hbm, ⟨4, _⟩ => ⟨S8192x3088, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x3088, .f32⟩
  | .hbm, ⟨27, _⟩ => ⟨S3088x1024, .f32⟩
  | .hbm, ⟨28, _⟩ => ⟨S1024x3088, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S8192x4096 : Shape := ⟨2, ![8192, 4096]⟩
abbrev S1x1 : Shape := ⟨2, ![1, 1]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩

abbrev nBuf : Space → Nat
  | .hbm => 26
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | .hbm, ⟨12, _⟩ => ⟨S8192x512, .bf16⟩
  | .hbm, ⟨13, _⟩ => ⟨S1x1024, .f32⟩
  | .hbm, ⟨14, _⟩ => ⟨S1024x1024, .bf16⟩
  | .hbm, ⟨15, _⟩ => ⟨S4096x1024, .bf16⟩
  | .hbm, ⟨16, _⟩ => ⟨S8192x1024, .bf16⟩
  | .hbm, ⟨17, _⟩ => ⟨S8192x1024, .bf16⟩
  | .hbm, ⟨18, _⟩ => ⟨S8192x4096, .bf16⟩
  | .hbm, ⟨19, _⟩ => ⟨S8192x4096, .bf16⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S1x1, .f32⟩
  | .hbm, ⟨24, _⟩ => ⟨S1x1024, .f32⟩
  | .hbm, ⟨25, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S4x1024x1024, .bf16⟩
  | .local _ .vmem, ⟨29, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_v7_8 : Ref sig .tc := ⟨.hbm, 24, rfl⟩
abbrev main_v7_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference2Ideal.lean ====
abbrev S8192x1024 : Shape := ⟨2, ![8192, 1024]⟩
abbrev S8192x512 : Shape := ⟨2, ![8192, 512]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1x1 : Shape := ⟨2, ![1, 1]⟩

abbrev nBuf : Space → Nat
  | .hbm => 159
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x1024, .f32⟩
  | 4 => ⟨S1x1024, .f32⟩
  | 5 => ⟨S1024, .f32⟩
  | 6 => ⟨S1024x1024, .f32⟩
  | 7 => ⟨S1024x4096, .f32⟩
  | 8 => ⟨S4096x1024, .f32⟩
  | 9 => ⟨S8192x1024, .f32⟩
  | 10 => ⟨S8192x1024, .f32⟩
  | 11 => ⟨S8192x1024, .f32⟩
  | 12 => ⟨S1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x4096, .f32⟩
  | 34 => ⟨S_, .f32⟩
  | 35 => ⟨S8192x4096, .f32⟩
  | 36 => ⟨S8192x4096, .f32⟩
  | 37 => ⟨S_, .f32⟩
  | 38 => ⟨S8192x4096, .f32⟩
  | 39 => ⟨S8192x4096, .i1⟩
  | 40 => ⟨S_, .f32⟩
  | 41 => ⟨S8192x4096, .f32⟩
  | 42 => ⟨S8192x4096, .f32⟩
  | 43 => ⟨S_, .f32⟩
  | 44 => ⟨S8192x4096, .f32⟩
  | 45 => ⟨S8192x4096, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S_, .f32⟩
  | 74 => ⟨S8192, .f32⟩
  | 75 => ⟨S_, .f32⟩
  | 76 => ⟨S8192, .f32⟩
  | 77 => ⟨S8192, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S8192, .f32⟩
  | 86 => ⟨S_, .f32⟩
  | 87 => ⟨S8192, .f32⟩
  | 88 => ⟨S8192, .f32⟩
  | 89 => ⟨S8192x1024, .f32⟩
  | 90 => ⟨S8192x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S_, .f32⟩
  | 98 => ⟨S1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x4096, .f32⟩
  | 117 => ⟨S8192x4096, .f32⟩
  | 118 => ⟨S_, .f32⟩
  | 119 => ⟨S8192x4096, .f32⟩
  | 120 => ⟨S8192x4096, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .bf16⟩
  | 25 => ⟨S8192x1024, .bf16⟩
  | 26 => ⟨S8192x4096, .bf16⟩
  | 27 => ⟨S8192x4096, .bf16⟩
  | 28 => ⟨S8192x1024, .bf16⟩
  | 29 => ⟨S1x1, .f32⟩
  | 30 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_cst_15 : Ref sig .tc := ⟨.hbm, 82, rfl⟩
abbrev main_cst_16 : Ref sig .tc := ⟨.hbm, 83, rfl⟩
abbrev main_v55 : Ref sig .tc := ⟨.hbm, 84, rfl⟩
abbrev main_v56 : Ref sig .tc := ⟨.hbm, 85, rfl⟩
abbrev main_cst_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_18 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_19 : Ref sig .tc := ⟨.hbm, 97, rfl⟩
abbrev main_v66 : Ref sig .tc := ⟨.hbm, 98, rfl⟩
abbrev main_v67 : Ref sig .tc := ⟨.hbm, 99, rfl⟩
abbrev main_cst_20 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_cst_22 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_23 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_24 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_v92 : Ref sig .tc := ⟨.hbm, 130, rfl⟩
abbrev main_cst_26 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_27 : Ref sig .tc := ⟨.hbm, 137, rfl⟩
abbrev main_v98 : Ref sig .tc := ⟨.hbm, 138, rfl⟩
abbrev main_v99 : Ref sig .tc := ⟨.hbm, 139, rfl⟩
abbrev main_cst_28 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]
-- ==== Kernel3.lean ====
abbrev S8192x1536 : Shape := ⟨2, ![8192, 1536]⟩
abbrev S32x8 : Shape := ⟨2, ![32, 8]⟩
abbrev S_ : Shape := ⟨0, ![]⟩
abbrev S8192x1664 : Shape := ⟨2, ![8192, 1664]⟩
abbrev S8192x3200 : Shape := ⟨2, ![8192, 3200]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x8x128x256 : Shape := ⟨4, ![1, 8, 128, 256]⟩
abbrev S3x8x128x256 : Shape := ⟨4, ![3, 8, 128, 256]⟩
abbrev S3x4x256x256 : Shape := ⟨4, ![3, 4, 256, 256]⟩
abbrev S8192x512 : Shape := ⟨2, ![8192, 512]⟩
abbrev S2048x128 : Shape := ⟨2, ![2048, 128]⟩
abbrev S3x1x256x256 : Shape := ⟨4, ![3, 1, 256, 256]⟩
abbrev S4096x128 : Shape := ⟨2, ![4096, 128]⟩
abbrev S3x2048x128 : Shape := ⟨3, ![3, 2048, 128]⟩
abbrev S3x2x256x256 : Shape := ⟨4, ![3, 2, 256, 256]⟩
abbrev S1x128 : Shape := ⟨2, ![1, 128]⟩
abbrev S256x256 : Shape := ⟨2, ![256, 256]⟩
abbrev S1x1x256x256 : Shape := ⟨4, ![1, 1, 256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S1x256x128 : Shape := ⟨3, ![1, 256, 128]⟩

abbrev nBuf : Space → Nat
  | .hbm => 163
  | .vmem => 21
  | .smem => 0
  | _ => 0

abbrev hbmTy0_0 (i : Nat) : BufTy := match i % 128 with
  | 0 => ⟨S8192x1536, .f32⟩
  | 1 => ⟨S32x8, .f32⟩
  | 2 => ⟨S_, .f32⟩
  | 3 => ⟨S8192x1664, .f32⟩
  | 4 => ⟨S8192x3200, .f32⟩
  | 5 => ⟨S128x256, .i32⟩
  | 6 => ⟨S_, .i32⟩
  | 7 => ⟨S128x256, .i32⟩
  | 8 => ⟨S128x256, .i32⟩
  | 9 => ⟨S128x256, .i32⟩
  | 10 => ⟨S128x256, .i32⟩
  | 11 => ⟨S_, .i32⟩
  | 12 => ⟨S128x256, .i32⟩
  | 13 => ⟨S128x256, .i1⟩
  | 14 => ⟨S_, .i32⟩
  | 15 => ⟨S128x256, .i32⟩
  | 16 => ⟨S128x256, .i1⟩
  | 17 => ⟨S128x256, .i1⟩
  | 18 => ⟨S_, .i32⟩
  | 19 => ⟨S128x256, .i32⟩
  | 20 => ⟨S128x256, .i32⟩
  | 21 => ⟨S_, .i32⟩
  | 22 => ⟨S128x256, .i32⟩
  | 23 => ⟨S128x256, .i32⟩
  | 24 => ⟨S_, .i32⟩
  | 25 => ⟨S128x256, .i32⟩
  | 26 => ⟨S128x256, .i32⟩
  | 27 => ⟨S128x256, .f32⟩
  | 28 => ⟨S_, .f32⟩
  | 29 => ⟨S128x256, .f32⟩
  | 30 => ⟨S128x256, .f32⟩
  | 31 => ⟨S128x256, .f32⟩
  | 32 => ⟨S_, .f32⟩
  | 33 => ⟨S128x256, .f32⟩
  | 34 => ⟨S128x256, .f32⟩
  | 35 => ⟨S_, .f32⟩
  | 36 => ⟨S128x256, .f32⟩
  | 37 => ⟨S128x256, .f32⟩
  | 38 => ⟨S128x256, .i32⟩
  | 39 => ⟨S_, .i32⟩
  | 40 => ⟨S128x256, .i32⟩
  | 41 => ⟨S128x256, .i32⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i32⟩
  | 55 => ⟨S128x256, .i32⟩
  | 56 => ⟨S128x256x1, .i32⟩
  | 57 => ⟨S128x256x8, .f32⟩
  | 58 => ⟨S8x128x256, .f32⟩
  | 59 => ⟨S_, .f32⟩
  | 60 => ⟨S_, .f32⟩
  | 61 => ⟨S8x128x256, .i1⟩
  | 62 => ⟨S8x128x256, .f32⟩
  | 63 => ⟨S8x128x256, .f32⟩
  | 64 => ⟨S_, .i32⟩
  | 65 => ⟨S128x256, .i32⟩
  | 66 => ⟨S128x256, .i32⟩
  | 67 => ⟨S_, .i32⟩
  | 68 => ⟨S128x256, .i32⟩
  | 69 => ⟨S128x256, .i32⟩
  | 70 => ⟨S_, .i32⟩
  | 71 => ⟨S128x256, .i32⟩
  | 72 => ⟨S128x256, .i32⟩
  | 73 => ⟨S128x256, .f32⟩
  | 74 => ⟨S_, .f32⟩
  | 75 => ⟨S128x256, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S_, .f32⟩
  | 82 => ⟨S128x256, .f32⟩
  | 83 => ⟨S128x256, .f32⟩
  | 84 => ⟨S128x256, .i32⟩
  | 85 => ⟨S_, .i32⟩
  | 86 => ⟨S128x256, .i32⟩
  | 87 => ⟨S128x256, .i32⟩
  | 88 => ⟨S_, .i32⟩
  | 89 => ⟨S128x256, .i32⟩
  | 90 => ⟨S128x256, .i32⟩
  | 91 => ⟨S_, .i32⟩
  | 92 => ⟨S128x256, .i32⟩
  | 93 => ⟨S128x256, .i1⟩
  | 94 => ⟨S128x256, .i32⟩
  | 95 => ⟨S_, .i32⟩
  | 96 => ⟨S128x256, .i32⟩
  | 97 => ⟨S128x256, .i1⟩
  | 98 => ⟨S_, .i32⟩
  | 99 => ⟨S128x256, .i32⟩
  | 100 => ⟨S128x256, .i32⟩
  | 101 => ⟨S128x256, .i32⟩
  | 102 => ⟨S128x256x1, .i32⟩
  | 103 => ⟨S128x256x8, .f32⟩
  | 104 => ⟨S8x128x256, .f32⟩
  | 105 => ⟨S_, .f32⟩
  | 106 => ⟨S_, .f32⟩
  | 107 => ⟨S8x128x256, .i1⟩
  | 108 => ⟨S8x128x256, .f32⟩
  | 109 => ⟨S8x128x256, .f32⟩
  | 110 => ⟨S_, .i32⟩
  | 111 => ⟨S128x256, .i32⟩
  | 112 => ⟨S128x256, .i32⟩
  | 113 => ⟨S_, .i32⟩
  | 114 => ⟨S128x256, .i32⟩
  | 115 => ⟨S128x256, .i32⟩
  | 116 => ⟨S_, .i32⟩
  | 117 => ⟨S128x256, .i32⟩
  | 118 => ⟨S128x256, .i32⟩
  | 119 => ⟨S128x256, .f32⟩
  | 120 => ⟨S_, .f32⟩
  | 121 => ⟨S128x256, .f32⟩
  | 122 => ⟨S128x256, .f32⟩
  | 123 => ⟨S128x256, .f32⟩
  | 124 => ⟨S_, .f32⟩
  | 125 => ⟨S128x256, .f32⟩
  | 126 => ⟨S128x256, .f32⟩
  | 127 => ⟨S_, .f32⟩
  | _ => ⟨S8192x1536, .f32⟩

abbrev hbmTy0_1 (i : Nat) : BufTy := match i % 128 with
  | 0 => ⟨S128x256, .f32⟩
  | 1 => ⟨S128x256, .f32⟩
  | 2 => ⟨S128x256, .i32⟩
  | 3 => ⟨S_, .i32⟩
  | 4 => ⟨S128x256, .i32⟩
  | 5 => ⟨S128x256, .i32⟩
  | 6 => ⟨S_, .i32⟩
  | 7 => ⟨S128x256, .i32⟩
  | 8 => ⟨S128x256, .i32⟩
  | 9 => ⟨S_, .i32⟩
  | 10 => ⟨S128x256, .i32⟩
  | 11 => ⟨S128x256, .i1⟩
  | 12 => ⟨S128x256, .i32⟩
  | 13 => ⟨S_, .i32⟩
  | 14 => ⟨S128x256, .i32⟩
  | 15 => ⟨S128x256, .i1⟩
  | 16 => ⟨S_, .i32⟩
  | 17 => ⟨S128x256, .i32⟩
  | 18 => ⟨S128x256, .i32⟩
  | 19 => ⟨S128x256, .i32⟩
  | 20 => ⟨S128x256x1, .i32⟩
  | 21 => ⟨S128x256x8, .f32⟩
  | 22 => ⟨S8x128x256, .f32⟩
  | 23 => ⟨S_, .f32⟩
  | 24 => ⟨S_, .f32⟩
  | 25 => ⟨S8x128x256, .i1⟩
  | 26 => ⟨S8x128x256, .f32⟩
  | 27 => ⟨S8x128x256, .f32⟩
  | 28 => ⟨S1x8x128x256, .f32⟩
  | 29 => ⟨S1x8x128x256, .f32⟩
  | 30 => ⟨S1x8x128x256, .f32⟩
  | 31 => ⟨S3x8x128x256, .f32⟩
  | 32 => ⟨S3x4x256x256, .f32⟩
  | 33 => ⟨S8192x512, .f32⟩
  | 34 => ⟨S8192x512, .f32⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S3x1x256x256, .f32⟩
  | .local _ .vmem, ⟨11, _⟩ => ⟨S3x1x256x256, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S4096x128, .f32⟩
  | .local _ .vmem, ⟨17, _⟩ => ⟨S4096x128, .f32⟩
  | .local _ .vmem, ⟨18, _⟩ => ⟨S3x2048x128, .f32⟩
  | .local _ .vmem, ⟨19, _⟩ => ⟨S3x2048x128, .f32⟩
  | .local _ .vmem, ⟨20, _⟩ => ⟨S3x2x256x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_c_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_11 : Ref sig .tc := ⟨.hbm, 49, rfl⟩
abbrev main_v34 : Ref sig .tc := ⟨.hbm, 50, rfl⟩
abbrev main_v35 : Ref sig .tc := ⟨.hbm, 51, rfl⟩
abbrev main_c_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_v44 : Ref sig .tc := ⟨.hbm, 66, rfl⟩
abbrev main_c_15 : Ref sig .tc := ⟨.hbm, 67, rfl⟩
abbrev main_v45 : Ref sig .tc := ⟨.hbm, 68, rfl⟩
abbrev main_v46 : Ref sig .tc := ⟨.hbm, 69, rfl⟩
abbrev main_c_16 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_17 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_18 : Ref sig .tc := ⟨.hbm, 78, rfl⟩
abbrev main_v53 : Ref sig .tc := ⟨.hbm, 79, rfl⟩
abbrev main_v54 : Ref sig .tc := ⟨.hbm, 80, rfl⟩
abbrev main_cst_19 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_20 : Ref sig .tc := ⟨.hbm, 85, rfl⟩
abbrev main_v58 : Ref sig .tc := ⟨.hbm, 86, rfl⟩
abbrev main_v59 : Ref sig .tc := ⟨.hbm, 87, rfl⟩
abbrev main_c_21 : Ref sig .tc := ⟨.hbm, 88, rfl⟩
abbrev main_v60 : Ref sig .tc := ⟨.hbm, 89, rfl⟩
abbrev main_v61 : Ref sig .tc := ⟨.hbm, 90, rfl⟩
abbrev main_c_22 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_23 : Ref sig .tc := ⟨.hbm, 95, rfl⟩
abbrev main_v65 : Ref sig .tc := ⟨.hbm, 96, rfl⟩
abbrev main_v66 : Ref sig .tc := ⟨.hbm, 97, rfl⟩
abbrev main_c_24 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_25 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v73 : Ref sig .tc := ⟨.hbm, 109, rfl⟩
abbrev main_c_26 : Ref sig .tc := ⟨.hbm, 110, rfl⟩
abbrev main_v74 : Ref sig .tc := ⟨.hbm, 111, rfl⟩
abbrev main_v75 : Ref sig .tc := ⟨.hbm, 112, rfl⟩
abbrev main_c_27 : Ref sig .tc := ⟨.hbm, 113, rfl⟩
abbrev main_v76 : Ref sig .tc := ⟨.hbm, 114, rfl⟩
abbrev main_v77 : Ref sig .tc := ⟨.hbm, 115, rfl⟩
abbrev main_c_28 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_29 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_30 : Ref sig .tc := ⟨.hbm, 124, rfl⟩
abbrev main_v84 : Ref sig .tc := ⟨.hbm, 125, rfl⟩
abbrev main_v85 : Ref sig .tc := ⟨.hbm, 126, rfl⟩
abbrev main_cst_31 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_32 : Ref sig .tc := ⟨.hbm, 131, rfl⟩
abbrev main_v89 : Ref sig .tc := ⟨.hbm, 132, rfl⟩
abbrev main_v90 : Ref sig .tc := ⟨.hbm, 133, rfl⟩
abbrev main_c_33 : Ref sig .tc := ⟨.hbm, 134, rfl⟩
abbrev main_v91 : Ref sig .tc := ⟨.hbm, 135, rfl⟩
abbrev main_v92 : Ref sig .tc := ⟨.hbm, 136, rfl⟩
abbrev main_c_34 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_35 : Ref sig .tc := ⟨.hbm, 141, rfl⟩
abbrev main_v96 : Ref sig .tc := ⟨.hbm, 142, rfl⟩
abbrev main_v97 : Ref sig .tc := ⟨.hbm, 143, rfl⟩
abbrev main_c_36 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_37 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110_0 : Ref sig .tc := ⟨.hbm, 161, rfl⟩
abbrev main_v110_1 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_off1 (i : grid0.Coords) : Fin 4 → Nat :=
  let c0_24 : Index := 0#32
  let arg1 : BitVec 32 := BitVec.ofNat 32 (i 1).val
  let c0_i32_23 : BitVec 32 := 0#32
  let v45 : BitVec 1 := Scalar.cmpi .eq arg1 c0_i32_23
  let v46 : BitVec 32 := Scalar.extui v45
  let v47 : Index := Scalar.indexCast v46
  let c0_25 : Index := 0#32
  let c0_26 : Index := 0#32
  ![0, v47.toNat, 0, 0]
def k0_off2 (i : grid0.Coords) : Fin 4 → Nat :=
  let c1 : Index := 1#32
  let arg1 : BitVec 32 := BitVec.ofNat 32 (i 1).val
  let c0_i32_363 : BitVec 32 := 0#32
  let v896 : BitVec 1 := Scalar.cmpi .eq arg1 c0_i32_363
  let v897 : BitVec 32 := Scalar.extui v896
  let v898 : Index := Scalar.indexCast v897
  let c0_364 : Index := 0#32
  let c0_365 : Index := 0#32
  ![1, v898.toNat, 0, 0]
def k0_off3 (i : grid0.Coords) : Fin 4 → Nat :=
  let c2_711 : Index := 2#32
  let arg1 : BitVec 32 := BitVec.ofNat 32 (i 1).val
  let c0_i32_710 : BitVec 32 := 0#32
  let v1756 : BitVec 1 := Scalar.cmpi .eq arg1 c0_i32_710
  let v1757 : BitVec 32 := Scalar.extui v1756
  let v1758 : Index := Scalar.indexCast v1757
  let c0_712 : Index := 0#32
  let c0_713 : Index := 0#32
  ![2, v1758.toNat, 0, 0]
@[reducible] def k0_t1_loop : Scf.Loop 32 :=
  let c0_i32_1056 : BitVec 32 := 0#32
  let c8_i32 : BitVec 32 := 8#32
  let v2633 : BitVec 32 := Scalar.addi c0_i32_1056 c8_i32
  let c1_i32 : BitVec 32 := 1#32
  ⟨c0_i32_1056, v2633, c1_i32⟩
def k0_mult1 (k0_t1 : Fin k0_t1_loop.trips) : BitVec 32 :=
  let c0_i32_1056 : BitVec 32 := 0#32
  let c1_i32 : BitVec 32 := 1#32
  let arg15 : BitVec 32 := Scf.iv c0_i32_1056 c1_i32 k0_t1
  let c256_i32 : BitVec 32 := 256#32
  let v2634 : BitVec 32 := Scalar.muli arg15 c256_i32
  v2634
def k0_off4 (k0_t1 : Fin k0_t1_loop.trips) : Fin 3 → Nat :=
  let c0_1058 : Index := 0#32
  let c0_i32_1056 : BitVec 32 := 0#32
  let c1_i32 : BitVec 32 := 1#32
  let arg15 : BitVec 32 := Scf.iv c0_i32_1056 c1_i32 k0_t1
  let c256_i32 : BitVec 32 := 256#32
  let v2634 : BitVec 32 := Scalar.muli arg15 c256_i32
  let v2635 : BitVec 32 := v2634
  let v2636 : Index := Scalar.indexCast v2635
  let c0_1059 : Index := 0#32
  ![0, v2636.toNat, 0]
def k0_off5 (k0_t1 : Fin k0_t1_loop.trips) : Fin 3 → Nat :=
  let c1_1060 : Index := 1#32
  let c0_i32_1056 : BitVec 32 := 0#32
  let c1_i32 : BitVec 32 := 1#32
  let arg15 : BitVec 32 := Scf.iv c0_i32_1056 c1_i32 k0_t1
  let c256_i32 : BitVec 32 := 256#32
  let v2634 : BitVec 32 := Scalar.muli arg15 c256_i32
  let v2635 : BitVec 32 := v2634
  let v2639 : Index := Scalar.indexCast v2635
  let c0_1061 : Index := 0#32
  ![1, v2639.toNat, 0]
def k0_off6 (k0_t1 : Fin k0_t1_loop.trips) : Fin 3 → Nat :=
  let c2_1062 : Index := 2#32
  let c0_i32_1056 : BitVec 32 := 0#32
  let c1_i32 : BitVec 32 := 1#32
  let arg15 : BitVec 32 := Scf.iv c0_i32_1056 c1_i32 k0_t1
  let c256_i32 : BitVec 32 := 256#32
  let v2634 : BitVec 32 := Scalar.muli arg15 c256_i32
  let v2635 : BitVec 32 := v2634
  let v2642 : Index := Scalar.indexCast v2635
  let c0_1063 : Index := 0#32
  ![2, v2642.toNat, 0]
def k0_off7 (k0_t1 : Fin k0_t1_loop.trips) : Fin 2 → Nat :=
  let c0_i32_1056 : BitVec 32 := 0#32
  let c1_i32 : BitVec 32 := 1#32
  let arg15 : BitVec 32 := Scf.iv c0_i32_1056 c1_i32 k0_t1
  let c256_i32 : BitVec 32 := 256#32
  let v2634 : BitVec 32 := Scalar.muli arg15 c256_i32
  let v2635 : BitVec 32 := v2634
  let v2670 : Index := Scalar.indexCast v2635
  let c0_1070 : Index := 0#32
  ![v2670.toNat, 0]
def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c17_i32 : BitVec 32 := 17#32
  let v2 : BitVec 32 := Scalar.addi c17_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c21_i32 : BitVec 32 := 21#32
  let v2 : BitVec 32 := Scalar.addi c21_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S8192x1536 : Shape := ⟨2, ![8192, 1536]⟩
abbrev S32x8 : Shape := ⟨2, ![32, 8]⟩
abbrev S8192x512 : Shape := ⟨2, ![8192, 512]⟩
abbrev S8192x8x64 : Shape := ⟨3, ![8192, 8, 64]⟩
abbrev S_ : Shape := ⟨0, ![]⟩
abbrev S8192x1x8x64 : Shape := ⟨4, ![8192, 1, 8, 64]⟩
abbrev S1x8x8192x64 : Shape := ⟨4, ![1, 8, 8192, 64]⟩
abbrev S1x8x64x128x64 : Shape := ⟨5, ![1, 8, 64, 128, 64]⟩
abbrev S1x8x128x64 : Shape := ⟨4, ![1, 8, 128, 64]⟩
abbrev S1x8x8320x64 : Shape := ⟨4, ![1, 8, 8320, 64]⟩
abbrev S1x8x65x128x64 : Shape := ⟨5, ![1, 8, 65, 128, 64]⟩
abbrev S1x8x64x256x64 : Shape := ⟨5, ![1, 8, 64, 256, 64]⟩
abbrev S128x256 : Shape := ⟨2, ![128, 256]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S128x256x1 : Shape := ⟨3, ![128, 256, 1]⟩
abbrev S128x256x8 : Shape := ⟨3, ![128, 256, 8]⟩
abbrev S8x128x256 : Shape := ⟨3, ![8, 128, 256]⟩
abbrev S1x8x64x128x256 : Shape := ⟨5, ![1, 8, 64, 128, 256]⟩
abbrev S8x1x128x256 : Shape := ⟨4, ![8, 1, 128, 256]⟩
abbrev S1x8x1x128x256 : Shape := ⟨5, ![1, 8, 1, 128, 256]⟩
abbrev S1x8x64x128 : Shape := ⟨4, ![1, 8, 64, 128]⟩
abbrev S1x8x64x128x1 : Shape := ⟨5, ![1, 8, 64, 128, 1]⟩
abbrev S1x8x8192 : Shape := ⟨3, ![1, 8, 8192]⟩
abbrev S8192x1x8 : Shape := ⟨3, ![8192, 1, 8]⟩
abbrev S8192x8 : Shape := ⟨2, ![8192, 8]⟩
abbrev S2048x4x8x64 : Shape := ⟨4, ![2048, 4, 8, 64]⟩
abbrev S4x8x2048x64 : Shape := ⟨4, ![4, 8, 2048, 64]⟩
abbrev S4x8x16x128x64 : Shape := ⟨5, ![4, 8, 16, 128, 64]⟩
abbrev S4x8x128x64 : Shape := ⟨4, ![4, 8, 128, 64]⟩
abbrev S4x8x2176x64 : Shape := ⟨4, ![4, 8, 2176, 64]⟩
abbrev S4x8x17x128x64 : Shape := ⟨5, ![4, 8, 17, 128, 64]⟩
abbrev S4x8x16x256x64 : Shape := ⟨5, ![4, 8, 16, 256, 64]⟩
abbrev S16x256 : Shape := ⟨2, ![16, 256]⟩
abbrev S16x1x256 : Shape := ⟨3, ![16, 1, 256]⟩
abbrev S16x128x256 : Shape := ⟨3, ![16, 128, 256]⟩
abbrev S4x8x16x128x256 : Shape := ⟨5, ![4, 8, 16, 128, 256]⟩
abbrev S4x8x16x128 : Shape := ⟨4, ![4, 8, 16, 128]⟩
abbrev S4x8x16x128x1 : Shape := ⟨5, ![4, 8, 16, 128, 1]⟩
abbrev S4x8x2048 : Shape := ⟨3, ![4, 8, 2048]⟩
abbrev S2048x4x8 : Shape := ⟨3, ![2048, 4, 8]⟩
abbrev S512x16x8x64 : Shape := ⟨4, ![512, 16, 8, 64]⟩
abbrev S16x8x512x64 : Shape := ⟨4, ![16, 8, 512, 64]⟩
abbrev S16x8x4x128x64 : Shape := ⟨5, ![16, 8, 4, 128, 64]⟩
abbrev S16x8x128x64 : Shape := ⟨4, ![16, 8, 128, 64]⟩
abbrev S16x8x640x64 : Shape := ⟨4, ![16, 8, 640, 64]⟩
abbrev S16x8x5x128x64 : Shape := ⟨5, ![16, 8, 5, 128, 64]⟩
abbrev S16x8x4x256x64 : Shape := ⟨5, ![16, 8, 4, 256, 64]⟩
abbrev S4x256 : Shape := ⟨2, ![4, 256]⟩
abbrev S4x1x256 : Shape := ⟨3, ![4, 1, 256]⟩
abbrev S4x128x256 : Shape := ⟨3, ![4, 128, 256]⟩
abbrev S16x8x4x128x256 : Shape := ⟨5, ![16, 8, 4, 128, 256]⟩
abbrev S16x8x4x128 : Shape := ⟨4, ![16, 8, 4, 128]⟩
abbrev S16x8x4x128x1 : Shape := ⟨5, ![16, 8, 4, 128, 1]⟩
abbrev S16x8x512 : Shape := ⟨3, ![16, 8, 512]⟩
abbrev S512x16x8 : Shape := ⟨3, ![512, 16, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8192x8x1 : Shape := ⟨3, ![8192, 8, 1]⟩

abbrev nBuf : Space → Nat
  | .hbm => 421
  | .vmem => 0
  | .smem => 0
  | _ => 0

abbrev hbmTy0_0 (i : Nat) : BufTy := match i % 128 with
  | 0 => ⟨S8192x1536, .f32⟩
  | 1 => ⟨S32x8, .f32⟩
  | 2 => ⟨S8192x512, .f32⟩
  | 3 => ⟨S8192x8x64, .f32⟩
  | 4 => ⟨S8192x512, .f32⟩
  | 5 => ⟨S8192x8x64, .f32⟩
  | 6 => ⟨S8192x512, .f32⟩
  | 7 => ⟨S8192x8x64, .f32⟩
  | 8 => ⟨S_, .f32⟩
  | 9 => ⟨S8192x8x64, .f32⟩
  | 10 => ⟨S8192x8x64, .f32⟩
  | 11 => ⟨S8192x1x8x64, .f32⟩
  | 12 => ⟨S1x8x8192x64, .f32⟩
  | 13 => ⟨S1x8x64x128x64, .f32⟩
  | 14 => ⟨S8192x1x8x64, .f32⟩
  | 15 => ⟨S1x8x8192x64, .f32⟩
  | 16 => ⟨S_, .f32⟩
  | 17 => ⟨S1x8x128x64, .f32⟩
  | 18 => ⟨S1x8x8320x64, .f32⟩
  | 19 => ⟨S1x8x65x128x64, .f32⟩
  | 20 => ⟨S1x8x64x128x64, .f32⟩
  | 21 => ⟨S1x8x64x128x64, .f32⟩
  | 22 => ⟨S1x8x64x256x64, .f32⟩
  | 23 => ⟨S8192x1x8x64, .f32⟩
  | 24 => ⟨S1x8x8192x64, .f32⟩
  | 25 => ⟨S_, .f32⟩
  | 26 => ⟨S1x8x128x64, .f32⟩
  | 27 => ⟨S1x8x8320x64, .f32⟩
  | 28 => ⟨S1x8x65x128x64, .f32⟩
  | 29 => ⟨S1x8x64x128x64, .f32⟩
  | 30 => ⟨S1x8x64x128x64, .f32⟩
  | 31 => ⟨S1x8x64x256x64, .f32⟩
  | 32 => ⟨S128x256, .i32⟩
  | 33 => ⟨S_, .i32⟩
  | 34 => ⟨S128x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S64x256, .i32⟩
  | 46 => ⟨S_, .i32⟩
  | 47 => ⟨S64x256, .i32⟩
  | 48 => ⟨S64x256, .i32⟩
  | 49 => ⟨S64x256, .i32⟩
  | 50 => ⟨S64x256, .i32⟩
  | 51 => ⟨S_, .i32⟩
  | 52 => ⟨S64x256, .i32⟩
  | 53 => ⟨S64x256, .i32⟩
  | 54 => ⟨S1x128x256, .i1⟩
  | 55 => ⟨S_, .i32⟩
  | 56 => ⟨S64x256, .i32⟩
  | 57 => ⟨S64x256, .i1⟩
  | 58 => ⟨S64x1x256, .i1⟩
  | 59 => ⟨S64x128x256, .i1⟩
  | 60 => ⟨S64x128x256, .i1⟩
  | 61 => ⟨S64x128x256, .i1⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S128x256, .f32⟩
  | 72 => ⟨S_, .f32⟩
  | 73 => ⟨S128x256, .f32⟩
  | 74 => ⟨S128x256, .f32⟩
  | 75 => ⟨S128x256, .f32⟩
  | 76 => ⟨S_, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S128x256, .i32⟩
  | 83 => ⟨S_, .i32⟩
  | 84 => ⟨S128x256, .i32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S128x256, .i32⟩
  | 93 => ⟨S_, .i32⟩
  | 94 => ⟨S128x256, .i32⟩
  | 95 => ⟨S128x256, .i1⟩
  | 96 => ⟨S_, .i32⟩
  | 97 => ⟨S128x256, .i32⟩
  | 98 => ⟨S128x256, .i32⟩
  | 99 => ⟨S128x256, .i32⟩
  | 100 => ⟨S128x256x1, .i32⟩
  | 101 => ⟨S128x256x8, .f32⟩
  | 102 => ⟨S8x128x256, .f32⟩
  | 103 => ⟨S1x8x64x128x256, .f32⟩
  | 104 => ⟨S8x1x128x256, .f32⟩
  | 105 => ⟨S1x8x1x128x256, .f32⟩
  | 106 => ⟨S1x8x64x128x256, .f32⟩
  | 107 => ⟨S1x8x64x128x256, .f32⟩
  | 108 => ⟨S_, .f32⟩
  | 109 => ⟨S_, .f32⟩
  | 110 => ⟨S1x8x64x128x256, .i1⟩
  | 111 => ⟨S1x8x64x128x256, .f32⟩
  | 112 => ⟨S1x8x64x128x256, .f32⟩
  | 113 => ⟨S_, .f32⟩
  | 114 => ⟨S1x8x64x128, .f32⟩
  | 115 => ⟨S1x8x64x128x1, .f32⟩
  | 116 => ⟨S1x8x64x128x256, .f32⟩
  | 117 => ⟨S1x8x64x128x256, .f32⟩
  | 118 => ⟨S1x8x64x128x256, .f32⟩
  | 119 => ⟨S_, .f32⟩
  | 120 => ⟨S1x8x64x128, .f32⟩
  | 121 => ⟨S1x8x64x128x1, .f32⟩
  | 122 => ⟨S1x8x64x128x64, .f32⟩
  | 123 => ⟨S1x8x64x128x64, .f32⟩
  | 124 => ⟨S1x8x64x128x64, .f32⟩
  | 125 => ⟨S1x8x64x128x1, .f32⟩
  | 126 => ⟨S1x8x64x128x1, .f32⟩
  | 127 => ⟨S1x8x64x128, .f32⟩
  | _ => ⟨S8192x1536, .f32⟩

abbrev hbmTy0_1 (i : Nat) : BufTy := match i % 128 with
  | 0 => ⟨S1x8x8192x64, .f32⟩
  | 1 => ⟨S8192x1x8x64, .f32⟩
  | 2 => ⟨S8192x8x64, .f32⟩
  | 3 => ⟨S1x8x8192, .f32⟩
  | 4 => ⟨S8192x1x8, .f32⟩
  | 5 => ⟨S8192x8, .f32⟩
  | 6 => ⟨S2048x4x8x64, .f32⟩
  | 7 => ⟨S4x8x2048x64, .f32⟩
  | 8 => ⟨S4x8x16x128x64, .f32⟩
  | 9 => ⟨S2048x4x8x64, .f32⟩
  | 10 => ⟨S4x8x2048x64, .f32⟩
  | 11 => ⟨S_, .f32⟩
  | 12 => ⟨S4x8x128x64, .f32⟩
  | 13 => ⟨S4x8x2176x64, .f32⟩
  | 14 => ⟨S4x8x17x128x64, .f32⟩
  | 15 => ⟨S4x8x16x128x64, .f32⟩
  | 16 => ⟨S4x8x16x128x64, .f32⟩
  | 17 => ⟨S4x8x16x256x64, .f32⟩
  | 18 => ⟨S2048x4x8x64, .f32⟩
  | 19 => ⟨S4x8x2048x64, .f32⟩
  | 20 => ⟨S_, .f32⟩
  | 21 => ⟨S4x8x128x64, .f32⟩
  | 22 => ⟨S4x8x2176x64, .f32⟩
  | 23 => ⟨S4x8x17x128x64, .f32⟩
  | 24 => ⟨S4x8x16x128x64, .f32⟩
  | 25 => ⟨S4x8x16x128x64, .f32⟩
  | 26 => ⟨S4x8x16x256x64, .f32⟩
  | 27 => ⟨S128x256, .i32⟩
  | 28 => ⟨S_, .i32⟩
  | 29 => ⟨S128x256, .i32⟩
  | 30 => ⟨S128x256, .i32⟩
  | 31 => ⟨S128x256, .i32⟩
  | 32 => ⟨S128x256, .i32⟩
  | 33 => ⟨S_, .i32⟩
  | 34 => ⟨S128x256, .i32⟩
  | 35 => ⟨S128x256, .i1⟩
  | 36 => ⟨S_, .i32⟩
  | 37 => ⟨S128x256, .i32⟩
  | 38 => ⟨S128x256, .i1⟩
  | 39 => ⟨S128x256, .i1⟩
  | 40 => ⟨S16x256, .i32⟩
  | 41 => ⟨S_, .i32⟩
  | 42 => ⟨S16x256, .i32⟩
  | 43 => ⟨S16x256, .i32⟩
  | 44 => ⟨S16x256, .i32⟩
  | 45 => ⟨S16x256, .i32⟩
  | 46 => ⟨S_, .i32⟩
  | 47 => ⟨S16x256, .i32⟩
  | 48 => ⟨S16x256, .i32⟩
  | 49 => ⟨S1x128x256, .i1⟩
  | 50 => ⟨S_, .i32⟩
  | 51 => ⟨S16x256, .i32⟩
  | 52 => ⟨S16x256, .i1⟩
  | 53 => ⟨S16x1x256, .i1⟩
  | 54 => ⟨S16x128x256, .i1⟩
  | 55 => ⟨S16x128x256, .i1⟩
  | 56 => ⟨S16x128x256, .i1⟩
  | 57 => ⟨S_, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i32⟩
  | 66 => ⟨S128x256, .f32⟩
  | 67 => ⟨S_, .f32⟩
  | 68 => ⟨S128x256, .f32⟩
  | 69 => ⟨S128x256, .f32⟩
  | 70 => ⟨S128x256, .f32⟩
  | 71 => ⟨S_, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S_, .i32⟩
  | 85 => ⟨S128x256, .i32⟩
  | 86 => ⟨S128x256, .i1⟩
  | 87 => ⟨S128x256, .i32⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i32⟩
  | 94 => ⟨S128x256, .i32⟩
  | 95 => ⟨S128x256x1, .i32⟩
  | 96 => ⟨S128x256x8, .f32⟩
  | 97 => ⟨S8x128x256, .f32⟩
  | 98 => ⟨S4x8x16x128x256, .f32⟩
  | 99 => ⟨S8x1x128x256, .f32⟩
  | 100 => ⟨S1x8x1x128x256, .f32⟩
  | 101 => ⟨S4x8x16x128x256, .f32⟩
  | 102 => ⟨S4x8x16x128x256, .f32⟩
  | 103 => ⟨S_, .f32⟩
  | 104 => ⟨S_, .f32⟩
  | 105 => ⟨S4x8x16x128x256, .i1⟩
  | 106 => ⟨S4x8x16x128x256, .f32⟩
  | 107 => ⟨S4x8x16x128x256, .f32⟩
  | 108 => ⟨S_, .f32⟩
  | 109 => ⟨S4x8x16x128, .f32⟩
  | 110 => ⟨S4x8x16x128x1, .f32⟩
  | 111 => ⟨S4x8x16x128x256, .f32⟩
  | 112 => ⟨S4x8x16x128x256, .f32⟩
  | 113 => ⟨S4x8x16x128x256, .f32⟩
  | 114 => ⟨S_, .f32⟩
  | 115 => ⟨S4x8x16x128, .f32⟩
  | 116 => ⟨S4x8x16x128x1, .f32⟩
  | 117 => ⟨S4x8x16x128x64, .f32⟩
  | 118 => ⟨S4x8x16x128x64, .f32⟩
  | 119 => ⟨S4x8x16x128x64, .f32⟩
  | 120 => ⟨S4x8x16x128x1, .f32⟩
  | 121 => ⟨S4x8x16x128x1, .f32⟩
  | 122 => ⟨S4x8x16x128, .f32⟩
  | 123 => ⟨S4x8x2048x64, .f32⟩
  | 124 => ⟨S2048x4x8x64, .f32⟩
  | 125 => ⟨S8192x8x64, .f32⟩
  | 126 => ⟨S4x8x2048, .f32⟩
  | 127 => ⟨S2048x4x8, .f32⟩
  | _ => ⟨S8192x1536, .f32⟩

abbrev hbmTy0_2 (i : Nat) : BufTy := match i % 128 with
  | 0 => ⟨S8192x8, .f32⟩
  | 1 => ⟨S512x16x8x64, .f32⟩
  | 2 => ⟨S16x8x512x64, .f32⟩
  | 3 => ⟨S16x8x4x128x64, .f32⟩
  | 4 => ⟨S512x16x8x64, .f32⟩
  | 5 => ⟨S16x8x512x64, .f32⟩
  | 6 => ⟨S_, .f32⟩
  | 7 => ⟨S16x8x128x64, .f32⟩
  | 8 => ⟨S16x8x640x64, .f32⟩
  | 9 => ⟨S16x8x5x128x64, .f32⟩
  | 10 => ⟨S16x8x4x128x64, .f32⟩
  | 11 => ⟨S16x8x4x128x64, .f32⟩
  | 12 => ⟨S16x8x4x256x64, .f32⟩
  | 13 => ⟨S512x16x8x64, .f32⟩
  | 14 => ⟨S16x8x512x64, .f32⟩
  | 15 => ⟨S_, .f32⟩
  | 16 => ⟨S16x8x128x64, .f32⟩
  | 17 => ⟨S16x8x640x64, .f32⟩
  | 18 => ⟨S16x8x5x128x64, .f32⟩
  | 19 => ⟨S16x8x4x128x64, .f32⟩
  | 20 => ⟨S16x8x4x128x64, .f32⟩
  | 21 => ⟨S16x8x4x256x64, .f32⟩
  | 22 => ⟨S128x256, .i32⟩
  | 23 => ⟨S_, .i32⟩
  | 24 => ⟨S128x256, .i32⟩
  | 25 => ⟨S128x256, .i32⟩
  | 26 => ⟨S128x256, .i32⟩
  | 27 => ⟨S128x256, .i32⟩
  | 28 => ⟨S_, .i32⟩
  | 29 => ⟨S128x256, .i32⟩
  | 30 => ⟨S128x256, .i1⟩
  | 31 => ⟨S_, .i32⟩
  | 32 => ⟨S128x256, .i32⟩
  | 33 => ⟨S128x256, .i1⟩
  | 34 => ⟨S128x256, .i1⟩
  | 35 => ⟨S4x256, .i32⟩
  | 36 => ⟨S_, .i32⟩
  | 37 => ⟨S4x256, .i32⟩
  | 38 => ⟨S4x256, .i32⟩
  | 39 => ⟨S4x256, .i32⟩
  | 40 => ⟨S4x256, .i32⟩
  | 41 => ⟨S_, .i32⟩
  | 42 => ⟨S4x256, .i32⟩
  | 43 => ⟨S4x256, .i32⟩
  | 44 => ⟨S1x128x256, .i1⟩
  | 45 => ⟨S_, .i32⟩
  | 46 => ⟨S4x256, .i32⟩
  | 47 => ⟨S4x256, .i1⟩
  | 48 => ⟨S4x1x256, .i1⟩
  | 49 => ⟨S4x128x256, .i1⟩
  | 50 => ⟨S4x128x256, .i1⟩
  | 51 => ⟨S4x128x256, .i1⟩
  | 52 => ⟨S_, .i32⟩
  | 53 => ⟨S128x256, .i32⟩
  | 54 => ⟨S128x256, .i32⟩
  | 55 => ⟨S_, .i32⟩
  | 56 => ⟨S128x256, .i32⟩
  | 57 => ⟨S128x256, .i32⟩
  | 58 => ⟨S_, .i32⟩
  | 59 => ⟨S128x256, .i32⟩
  | 60 => ⟨S128x256, .i32⟩
  | 61 => ⟨S128x256, .f32⟩
  | 62 => ⟨S_, .f32⟩
  | 63 => ⟨S128x256, .f32⟩
  | 64 => ⟨S128x256, .f32⟩
  | 65 => ⟨S128x256, .f32⟩
  | 66 => ⟨S_, .f32⟩
  | 67 => ⟨S128x256, .f32⟩
  | 68 => ⟨S128x256, .f32⟩
  | 69 => ⟨S_, .f32⟩
  | 70 => ⟨S128x256, .f32⟩
  | 71 => ⟨S128x256, .f32⟩
  | 72 => ⟨S128x256, .i32⟩
  | 73 => ⟨S_, .i32⟩
  | 74 => ⟨S128x256, .i32⟩
  | 75 => ⟨S128x256, .i32⟩
  | 76 => ⟨S_, .i32⟩
  | 77 => ⟨S128x256, .i32⟩
  | 78 => ⟨S128x256, .i32⟩
  | 79 => ⟨S_, .i32⟩
  | 80 => ⟨S128x256, .i32⟩
  | 81 => ⟨S128x256, .i1⟩
  | 82 => ⟨S128x256, .i32⟩
  | 83 => ⟨S_, .i32⟩
  | 84 => ⟨S128x256, .i32⟩
  | 85 => ⟨S128x256, .i1⟩
  | 86 => ⟨S_, .i32⟩
  | 87 => ⟨S128x256, .i32⟩
  | 88 => ⟨S128x256, .i32⟩
  | 89 => ⟨S128x256, .i32⟩
  | 90 => ⟨S128x256x1, .i32⟩
  | 91 => ⟨S128x256x8, .f32⟩
  | 92 => ⟨S8x128x256, .f32⟩
  | 93 => ⟨S16x8x4x128x256, .f32⟩
  | 94 => ⟨S8x1x128x256, .f32⟩
  | 95 => ⟨S1x8x1x128x256, .f32⟩
  | 96 => ⟨S16x8x4x128x256, .f32⟩
  | 97 => ⟨S16x8x4x128x256, .f32⟩
  | 98 => ⟨S_, .f32⟩
  | 99 => ⟨S_, .f32⟩
  | 100 => ⟨S16x8x4x128x256, .i1⟩
  | 101 => ⟨S16x8x4x128x256, .f32⟩
  | 102 => ⟨S16x8x4x128x256, .f32⟩
  | 103 => ⟨S_, .f32⟩
  | 104 => ⟨S16x8x4x128, .f32⟩
  | 105 => ⟨S16x8x4x128x1, .f32⟩
  | 106 => ⟨S16x8x4x128x256, .f32⟩
  | 107 => ⟨S16x8x4x128x256, .f32⟩
  | 108 => ⟨S16x8x4x128x256, .f32⟩
  | 109 => ⟨S_, .f32⟩
  | 110 => ⟨S16x8x4x128, .f32⟩
  | 111 => ⟨S16x8x4x128x1, .f32⟩
  | 112 => ⟨S16x8x4x128x64, .f32⟩
  | 113 => ⟨S16x8x4x128x64, .f32⟩
  | 114 => ⟨S16x8x4x128x64, .f32⟩
  | 115 => ⟨S16x8x4x128x1, .f32⟩
  | 116 => ⟨S16x8x4x128x1, .f32⟩
  | 117 => ⟨S16x8x4x128, .f32⟩
  | 118 => ⟨S16x8x512x64, .f32⟩
  | 119 => ⟨S512x16x8x64, .f32⟩
  | 120 => ⟨S8192x8x64, .f32⟩
  | 121 => ⟨S16x8x512, .f32⟩
  | 122 => ⟨S512x16x8, .f32⟩
  | 123 => ⟨S8192x8, .f32⟩
  | 124 => ⟨S1x8192x8, .f32⟩
  | 125 => ⟨S1x8192x8, .f32⟩
  | 126 => ⟨S1x8192x8, .f32⟩
  | 127 => ⟨S3x8192x8, .f32⟩
  | _ => ⟨S8192x1536, .f32⟩

abbrev hbmTy0_3 (i : Nat) : BufTy := match i % 128 with
  | 0 => ⟨S_, .f32⟩
  | 1 => ⟨S8192x8, .f32⟩
  | 2 => ⟨S_, .f32⟩
  | 3 => ⟨S8192x8, .f32⟩
  | 4 => ⟨S8192x8, .f32⟩
  | 5 => ⟨S1x8192x8, .f32⟩
  | 6 => ⟨S3x8192x8, .f32⟩
  | 7 => ⟨S3x8192x8, .f32⟩
  | 8 => ⟨S3x8192x8, .f32⟩
  | 9 => ⟨S_, .f32⟩
  | 10 => ⟨S8192x8, .f32⟩
  | 11 => ⟨S1x8192x8, .f32⟩
  | 12 => ⟨S3x8192x8, .f32⟩
  | 13 => ⟨S3x8192x8, .f32⟩
  | 14 => ⟨S_, .f32⟩
  | 15 => ⟨S8192x8, .f32⟩
  | 16 => ⟨S3x8192x8x1, .f32⟩
  | 17 => ⟨S1x8192x8x64, .f32⟩
  | 18 => ⟨S1x8192x8x64, .f32⟩
  | 19 => ⟨S1x8192x8x64, .f32⟩
  | 20 => ⟨S3x8192x8x64, .f32⟩
  | 21 => ⟨S3x8192x8x64, .f32⟩
  | 22 => ⟨S3x8192x8x64, .f32⟩
  | 23 => ⟨S_, .f32⟩
  | 24 => ⟨S8192x8x64, .f32⟩
  | 25 => ⟨S1x8192x8, .f32⟩
  | 26 => ⟨S3x8192x8, .f32⟩
  | 27 => ⟨S3x8192x8, .f32⟩
  | 28 => ⟨S3x8192x8, .f32⟩
  | 29 => ⟨S_, .f32⟩
  | 30 => ⟨S8192x8, .f32⟩
  | 31 => ⟨S8192x8, .f32⟩
  | 32 => ⟨S8192x8, .f32⟩
  | 33 => ⟨S8192x512, .f32⟩
  | 34 => ⟨S8192x8x1, .f32⟩
  | 35 => ⟨S8192x8x64, .f32⟩
  | 36 => ⟨S8192x512, .f32⟩
  | _ => ⟨S8192x1536, .f32⟩

abbrev hbmTy (i : Nat) : BufTy := match i / 128 with
  | 0 => hbmTy0_0 i
  | 1 => hbmTy0_1 i
  | 2 => hbmTy0_2 i
  | 3 => hbmTy0_3 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_7 : Ref sig .tc := ⟨.hbm, 62, rfl⟩
abbrev main_v51 : Ref sig .tc := ⟨.hbm, 63, rfl⟩
abbrev main_v52 : Ref sig .tc := ⟨.hbm, 64, rfl⟩
abbrev main_c_8 : Ref sig .tc := ⟨.hbm, 65, rfl⟩
abbrev main_v53 : Ref sig .tc := ⟨.hbm, 66, rfl⟩
abbrev main_v54 : Ref sig .tc := ⟨.hbm, 67, rfl⟩
abbrev main_c_9 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_13 : Ref sig .tc := ⟨.hbm, 83, rfl⟩
abbrev main_v66 : Ref sig .tc := ⟨.hbm, 84, rfl⟩
abbrev main_v67 : Ref sig .tc := ⟨.hbm, 85, rfl⟩
abbrev main_c_14 : Ref sig .tc := ⟨.hbm, 86, rfl⟩
abbrev main_v68 : Ref sig .tc := ⟨.hbm, 87, rfl⟩
abbrev main_v69 : Ref sig .tc := ⟨.hbm, 88, rfl⟩
abbrev main_c_15 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_16 : Ref sig .tc := ⟨.hbm, 93, rfl⟩
abbrev main_v73 : Ref sig .tc := ⟨.hbm, 94, rfl⟩
abbrev main_v74 : Ref sig .tc := ⟨.hbm, 95, rfl⟩
abbrev main_c_17 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_18 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_21 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_22 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_c_23 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_c_24 : Ref sig .tc := ⟨.hbm, 161, rfl⟩
abbrev main_v130 : Ref sig .tc := ⟨.hbm, 162, rfl⟩
abbrev main_v131 : Ref sig .tc := ⟨.hbm, 163, rfl⟩
abbrev main_c_25 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_c_26 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_c_27 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c_28 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_c_29 : Ref sig .tc := ⟨.hbm, 185, rfl⟩
abbrev main_v149 : Ref sig .tc := ⟨.hbm, 186, rfl⟩
abbrev main_v150 : Ref sig .tc := ⟨.hbm, 187, rfl⟩
abbrev main_c_30 : Ref sig .tc := ⟨.hbm, 188, rfl⟩
abbrev main_v151 : Ref sig .tc := ⟨.hbm, 189, rfl⟩
abbrev main_v152 : Ref sig .tc := ⟨.hbm, 190, rfl⟩
abbrev main_c_31 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_32 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_33 : Ref sig .tc := ⟨.hbm, 199, rfl⟩
abbrev main_v159 : Ref sig .tc := ⟨.hbm, 200, rfl⟩
abbrev main_v160 : Ref sig .tc := ⟨.hbm, 201, rfl⟩
abbrev main_cst_34 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_c_35 : Ref sig .tc := ⟨.hbm, 206, rfl⟩
abbrev main_v164 : Ref sig .tc := ⟨.hbm, 207, rfl⟩
abbrev main_v165 : Ref sig .tc := ⟨.hbm, 208, rfl⟩
abbrev main_c_36 : Ref sig .tc := ⟨.hbm, 209, rfl⟩
abbrev main_v166 : Ref sig .tc := ⟨.hbm, 210, rfl⟩
abbrev main_v167 : Ref sig .tc := ⟨.hbm, 211, rfl⟩
abbrev main_c_37 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_c_38 : Ref sig .tc := ⟨.hbm, 216, rfl⟩
abbrev main_v171 : Ref sig .tc := ⟨.hbm, 217, rfl⟩
abbrev main_v172 : Ref sig .tc := ⟨.hbm, 218, rfl⟩
abbrev main_c_39 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_cst_40 : Ref sig .tc := ⟨.hbm, 231, rfl⟩
abbrev main_call3_v0 : Ref sig .tc := ⟨.hbm, 232, rfl⟩
abbrev main_call3_v1 : Ref sig .tc := ⟨.hbm, 233, rfl⟩
abbrev main_call3_v2 : Ref sig .tc := ⟨.hbm, 234, rfl⟩
abbrev main_v184 : Ref sig .tc := ⟨.hbm, 235, rfl⟩
abbrev main_cst_41 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_42 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_cst_43 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_cst_44 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_c_45 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_c_46 : Ref sig .tc := ⟨.hbm, 284, rfl⟩
abbrev main_v228 : Ref sig .tc := ⟨.hbm, 285, rfl⟩
abbrev main_v229 : Ref sig .tc := ⟨.hbm, 286, rfl⟩
abbrev main_c_47 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_c_48 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_c_49 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_c_50 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_c_51 : Ref sig .tc := ⟨.hbm, 308, rfl⟩
abbrev main_v247 : Ref sig .tc := ⟨.hbm, 309, rfl⟩
abbrev main_v248 : Ref sig .tc := ⟨.hbm, 310, rfl⟩
abbrev main_c_52 : Ref sig .tc := ⟨.hbm, 311, rfl⟩
abbrev main_v249 : Ref sig .tc := ⟨.hbm, 312, rfl⟩
abbrev main_v250 : Ref sig .tc := ⟨.hbm, 313, rfl⟩
abbrev main_c_53 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_cst_54 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_cst_55 : Ref sig .tc := ⟨.hbm, 322, rfl⟩
abbrev main_v257 : Ref sig .tc := ⟨.hbm, 323, rfl⟩
abbrev main_v258 : Ref sig .tc := ⟨.hbm, 324, rfl⟩
abbrev main_cst_56 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_c_57 : Ref sig .tc := ⟨.hbm, 329, rfl⟩
abbrev main_v262 : Ref sig .tc := ⟨.hbm, 330, rfl⟩
abbrev main_v263 : Ref sig .tc := ⟨.hbm, 331, rfl⟩
abbrev main_c_58 : Ref sig .tc := ⟨.hbm, 332, rfl⟩
abbrev main_v264 : Ref sig .tc := ⟨.hbm, 333, rfl⟩
abbrev main_v265 : Ref sig .tc := ⟨.hbm, 334, rfl⟩
abbrev main_c_59 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_c_60 : Ref sig .tc := ⟨.hbm, 339, rfl⟩
abbrev main_v269 : Ref sig .tc := ⟨.hbm, 340, rfl⟩
abbrev main_v270 : Ref sig .tc := ⟨.hbm, 341, rfl⟩
abbrev main_c_61 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_cst_62 : Ref sig .tc := ⟨.hbm, 354, rfl⟩
abbrev main_call5_v0 : Ref sig .tc := ⟨.hbm, 355, rfl⟩
abbrev main_call5_v1 : Ref sig .tc := ⟨.hbm, 356, rfl⟩
abbrev main_call5_v2 : Ref sig .tc := ⟨.hbm, 357, rfl⟩
abbrev main_v282 : Ref sig .tc := ⟨.hbm, 358, rfl⟩
abbrev main_cst_63 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_cst_64 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_cst_65 : Ref sig .tc := ⟨.hbm, 384, rfl⟩
abbrev main_v306 : Ref sig .tc := ⟨.hbm, 385, rfl⟩
abbrev main_cst_66 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_cst_67 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_cst_68 : Ref sig .tc := ⟨.hbm, 398, rfl⟩
abbrev main_v317 : Ref sig .tc := ⟨.hbm, 399, rfl⟩
abbrev main_v318 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_cst_69 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_cst_70 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩

abbrev nD : Nat := 1
abbrev τ : Topo := Topo.v7x

variable {F : FTy → Type} [FloatOps F]

def κ : String → Option EReal := fun
  | "mask" => some ⊥
  | _ => none
-- ==== Kernel4.lean ====
abbrev S3x8x128x256 : Shape := ⟨4, ![3, 8, 128, 256]⟩
abbrev S128x256 : Shape := ⟨2, ![128, 256]⟩
abbrev S_ : Shape := ⟨0, ![]⟩
abbrev S1x128x256 : Shape := ⟨3, ![1, 128, 256]⟩
abbrev S3x128x256 : Shape := ⟨3, ![3, 128, 256]⟩
abbrev S32x8 : Shape := ⟨2, ![32, 8]⟩
abbrev S1x8x128x256 : Shape := ⟨4, ![1, 8, 128, 256]⟩
abbrev S1x1 : Shape := ⟨2, ![1, 1]⟩
abbrev S1x1x128x256 : Shape := ⟨4, ![1, 1, 128, 256]⟩
abbrev S1 : Shape := ⟨1, ![1]⟩
abbrev S1x1x1 : Shape := ⟨3, ![1, 1, 1]⟩

abbrev nBuf : Space → Nat
  | .hbm => 124
  | .vmem => 4
  | .smem => 1
  | _ => 0

abbrev bufTy : (tb : Table) → Fin (tcTables nBuf tb) → BufTy
  | .hbm, ⟨0, _⟩ => ⟨S3x8x128x256, .f32⟩
  | .hbm, ⟨1, _⟩ => ⟨S128x256, .i32⟩
  | .hbm, ⟨2, _⟩ => ⟨S_, .i32⟩
  | .hbm, ⟨3, _⟩ => ⟨S128x256, .i32⟩
  | .hbm, ⟨4, _⟩ => ⟨S128x256, .i32⟩
  | .hbm, ⟨5, _⟩ => ⟨S128x256, .i32⟩
  | .hbm, ⟨6, _⟩ => ⟨S128x256, .i32⟩
  | .hbm, ⟨7, _⟩ => ⟨S_, .i32⟩
  | .hbm, ⟨8, _⟩ => ⟨S128x256, .i32⟩
  | .hbm, ⟨9, _⟩ => ⟨S128x256, .i1⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i32⟩
  | .hbm, ⟨45, _⟩ => ⟨S_, .i32⟩
  | .hbm, ⟨46, _⟩ => ⟨S_, .i32⟩
  | .hbm, ⟨47, _⟩ => ⟨S128x256, .i32⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i32⟩
  | .hbm, ⟨58, _⟩ => ⟨S128x256, .f32⟩
  | .hbm, ⟨59, _⟩ => ⟨S_, .f32⟩
  | .hbm, ⟨60, _⟩ => ⟨S128x256, .f32⟩
  | .hbm, ⟨61, _⟩ => ⟨S128x256, .f32⟩
  | .hbm, ⟨62, _⟩ => ⟨S128x256, .f32⟩
  | .hbm, ⟨63, _⟩ => ⟨S_, .f32⟩
  | .hbm, ⟨64, _⟩ => ⟨S128x256, .f32⟩
  | .hbm, ⟨65, _⟩ => ⟨S128x256, .f32⟩
  | .hbm, ⟨66, _⟩ => ⟨S_, .f32⟩
  | .hbm, ⟨67, _⟩ => ⟨S128x256, .f32⟩
  | .hbm, ⟨68, _⟩ => ⟨S128x256, .f32⟩
  | .hbm, ⟨69, _⟩ => ⟨S128x256, .i32⟩
  | .hbm, ⟨70, _⟩ => ⟨S_, .i32⟩
  | .hbm, ⟨71, _⟩ => ⟨S128x256, .i32⟩
  | .hbm, ⟨72, _⟩ => ⟨S128x256, .i32⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S_, .i32⟩
  | .hbm, ⟨77, _⟩ => ⟨S128x256, .i32⟩
  | .hbm, ⟨78, _⟩ => ⟨S128x256, .i1⟩
  | .hbm, ⟨79, _⟩ => ⟨S128x256, .i32⟩
  | .hbm, ⟨80, _⟩ => ⟨S_, .i32⟩
  | .hbm, ⟨81, _⟩ => ⟨S_, .i32⟩
  | .hbm, ⟨82, _⟩ => ⟨S128x256, .i32⟩
  | .hbm, ⟨83, _⟩ => ⟨S128x256, .i32⟩
  | .hbm, ⟨84, _⟩ => ⟨S_, .i32⟩
  | .hbm, ⟨85, _⟩ => ⟨S128x256, .i32⟩
  | .hbm, ⟨86, _⟩ => ⟨S128x256, .i32⟩
  | .hbm, ⟨87, _⟩ => ⟨S_, .i32⟩
  | .hbm, ⟨88, _⟩ => ⟨S128x256, .i32⟩
  | .hbm, ⟨89, _⟩ => ⟨S128x256, .i32⟩
  | .hbm, ⟨90, _⟩ => ⟨S_, .i32⟩
  | .hbm, ⟨91, _⟩ => ⟨S128x256, .i32⟩
  | .hbm, ⟨92, _⟩ => ⟨S128x256, .i32⟩
  | .hbm, ⟨93, _⟩ => ⟨S128x256, .f32⟩
  | .hbm, ⟨94, _⟩ => ⟨S_, .f32⟩
  | .hbm, ⟨95, _⟩ => ⟨S128x256, .f32⟩
  | .hbm, ⟨96, _⟩ => ⟨S128x256, .f32⟩
  | .hbm, ⟨97, _⟩ => ⟨S128x256, .f32⟩
  | .hbm, ⟨98, _⟩ => ⟨S_, .f32⟩
  | .hbm, ⟨99, _⟩ => ⟨S128x256, .f32⟩
  | .hbm, ⟨100, _⟩ => ⟨S128x256, .f32⟩
  | .hbm, ⟨101, _⟩ => ⟨S_, .f32⟩
  | .hbm, ⟨102, _⟩ => ⟨S128x256, .f32⟩
  | .hbm, ⟨103, _⟩ => ⟨S128x256, .f32⟩
  | .hbm, ⟨104, _⟩ => ⟨S128x256, .i32⟩
  | .hbm, ⟨105, _⟩ => ⟨S_, .i32⟩
  | .hbm, ⟨106, _⟩ => ⟨S128x256, .i32⟩
  | .hbm, ⟨107, _⟩ => ⟨S128x256, .i32⟩
  | .hbm, ⟨108, _⟩ => ⟨S_, .i32⟩
  | .hbm, ⟨109, _⟩ => ⟨S128x256, .i32⟩
  | .hbm, ⟨110, _⟩ => ⟨S128x256, .i32⟩
  | .hbm, ⟨111, _⟩ => ⟨S_, .i32⟩
  | .hbm, ⟨112, _⟩ => ⟨S128x256, .i32⟩
  | .hbm, ⟨113, _⟩ => ⟨S128x256, .i1⟩
  | .hbm, ⟨114, _⟩ => ⟨S128x256, .i32⟩
  | .hbm, ⟨115, _⟩ => ⟨S_, .i32⟩
  | .hbm, ⟨116, _⟩ => ⟨S_, .i32⟩
  | .hbm, ⟨117, _⟩ => ⟨S128x256, .i32⟩
  | .hbm, ⟨118, _⟩ => ⟨S128x256, .i32⟩
  | .hbm, ⟨119, _⟩ => ⟨S1x128x256, .i32⟩
  | .hbm, ⟨120, _⟩ => ⟨S1x128x256, .i32⟩
  | .hbm, ⟨121, _⟩ => ⟨S1x128x256, .i32⟩
  | .hbm, ⟨122, _⟩ => ⟨S3x128x256, .i32⟩
  | .hbm, ⟨123, _⟩ => ⟨S32x8, .f32⟩
  | .local _ .vmem, ⟨0, _⟩ => ⟨S1x8x128x256, .f32⟩
  | .local _ .vmem, ⟨1, _⟩ => ⟨S1x8x128x256, .f32⟩
  | .local _ .vmem, ⟨2, _⟩ => ⟨S1x128x256, .i32⟩
  | .local _ .vmem, ⟨3, _⟩ => ⟨S1x128x256, .i32⟩
  | .local _ .smem, ⟨0, _⟩ => ⟨S32x8, .f32⟩
  | _, _ => ⟨S3x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_7 : Ref sig .tc := ⟨.hbm, 35, rfl⟩
abbrev main_v25 : Ref sig .tc := ⟨.hbm, 36, rfl⟩
abbrev main_v26 : Ref sig .tc := ⟨.hbm, 37, rfl⟩
abbrev main_c_8 : Ref sig .tc := ⟨.hbm, 38, rfl⟩
abbrev main_v27 : Ref sig .tc := ⟨.hbm, 39, rfl⟩
abbrev main_v28 : Ref sig .tc := ⟨.hbm, 40, rfl⟩
abbrev main_c_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_10 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_c_11 : Ref sig .tc := ⟨.hbm, 49, rfl⟩
abbrev main_v33 : Ref sig .tc := ⟨.hbm, 50, rfl⟩
abbrev main_v34 : Ref sig .tc := ⟨.hbm, 51, rfl⟩
abbrev main_c_12 : Ref sig .tc := ⟨.hbm, 52, rfl⟩
abbrev main_v35 : Ref sig .tc := ⟨.hbm, 53, rfl⟩
abbrev main_v36 : Ref sig .tc := ⟨.hbm, 54, rfl⟩
abbrev main_c_13 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_cst_16 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_17 : Ref sig .tc := ⟨.hbm, 70, rfl⟩
abbrev main_v48 : Ref sig .tc := ⟨.hbm, 71, rfl⟩
abbrev main_v49 : Ref sig .tc := ⟨.hbm, 72, rfl⟩
abbrev main_c_18 : Ref sig .tc := ⟨.hbm, 73, rfl⟩
abbrev main_v50 : Ref sig .tc := ⟨.hbm, 74, rfl⟩
abbrev main_v51 : Ref sig .tc := ⟨.hbm, 75, rfl⟩
abbrev main_c_19 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_20 : Ref sig .tc := ⟨.hbm, 80, rfl⟩
abbrev main_call3_v0 : Ref sig .tc := ⟨.hbm, 81, rfl⟩
abbrev main_call3_v1 : Ref sig .tc := ⟨.hbm, 82, rfl⟩
abbrev main_v55 : Ref sig .tc := ⟨.hbm, 83, rfl⟩
abbrev main_c_21 : Ref sig .tc := ⟨.hbm, 84, rfl⟩
abbrev main_v56 : Ref sig .tc := ⟨.hbm, 85, rfl⟩
abbrev main_v57 : Ref sig .tc := ⟨.hbm, 86, rfl⟩
abbrev main_c_22 : Ref sig .tc := ⟨.hbm, 87, rfl⟩
abbrev main_v58 : Ref sig .tc := ⟨.hbm, 88, rfl⟩
abbrev main_v59 : Ref sig .tc := ⟨.hbm, 89, rfl⟩
abbrev main_c_23 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_24 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_25 : Ref sig .tc := ⟨.hbm, 98, rfl⟩
abbrev main_v66 : Ref sig .tc := ⟨.hbm, 99, rfl⟩
abbrev main_v67 : Ref sig .tc := ⟨.hbm, 100, rfl⟩
abbrev main_cst_26 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_27 : Ref sig .tc := ⟨.hbm, 105, rfl⟩
abbrev main_v71 : Ref sig .tc := ⟨.hbm, 106, rfl⟩
abbrev main_v72 : Ref sig .tc := ⟨.hbm, 107, rfl⟩
abbrev main_c_28 : Ref sig .tc := ⟨.hbm, 108, rfl⟩
abbrev main_v73 : Ref sig .tc := ⟨.hbm, 109, rfl⟩
abbrev main_v74 : Ref sig .tc := ⟨.hbm, 110, rfl⟩
abbrev main_c_29 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_30 : Ref sig .tc := ⟨.hbm, 115, rfl⟩
abbrev main_call5_v0 : Ref sig .tc := ⟨.hbm, 116, rfl⟩
abbrev main_call5_v1 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S3x8x128x256 : Shape := ⟨4, ![3, 8, 128, 256]⟩
abbrev S_ : Shape := ⟨0, ![]⟩
abbrev S32x8 : Shape := ⟨2, ![32, 8]⟩
abbrev S128x256 : Shape := ⟨2, ![128, 256]⟩
abbrev S128x256x1 : Shape := ⟨3, ![128, 256, 1]⟩
abbrev S128x256x8 : Shape := ⟨3, ![128, 256, 8]⟩
abbrev S8x128x256 : Shape := ⟨3, ![8, 128, 256]⟩
abbrev S1x8x128x256 : Shape := ⟨4, ![1, 8, 128, 256]⟩

abbrev nBuf : Space → Nat
  | .hbm => 207
  | .vmem => 0
  | .smem => 0
  | _ => 0

abbrev hbmTy0_0 (i : Nat) : BufTy := match i % 128 with
  | 0 => ⟨S3x8x128x256, .f32⟩
  | 1 => ⟨S_, .f32⟩
  | 2 => ⟨S32x8, .f32⟩
  | 3 => ⟨S128x256, .i32⟩
  | 4 => ⟨S_, .i32⟩
  | 5 => ⟨S128x256, .i32⟩
  | 6 => ⟨S128x256, .i32⟩
  | 7 => ⟨S128x256, .i32⟩
  | 8 => ⟨S128x256, .i32⟩
  | 9 => ⟨S_, .i32⟩
  | 10 => ⟨S128x256, .i32⟩
  | 11 => ⟨S128x256, .i1⟩
  | 12 => ⟨S_, .i32⟩
  | 13 => ⟨S128x256, .i32⟩
  | 14 => ⟨S128x256, .i1⟩
  | 15 => ⟨S128x256, .i1⟩
  | 16 => ⟨S_, .i32⟩
  | 17 => ⟨S128x256, .i32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i32⟩
  | 25 => ⟨S128x256, .f32⟩
  | 26 => ⟨S_, .f32⟩
  | 27 => ⟨S128x256, .f32⟩
  | 28 => ⟨S128x256, .f32⟩
  | 29 => ⟨S128x256, .f32⟩
  | 30 => ⟨S_, .f32⟩
  | 31 => ⟨S128x256, .f32⟩
  | 32 => ⟨S128x256, .f32⟩
  | 33 => ⟨S_, .f32⟩
  | 34 => ⟨S128x256, .f32⟩
  | 35 => ⟨S128x256, .f32⟩
  | 36 => ⟨S128x256, .i32⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i32⟩
  | 53 => ⟨S128x256, .i32⟩
  | 54 => ⟨S128x256x1, .i32⟩
  | 55 => ⟨S128x256x8, .f32⟩
  | 56 => ⟨S8x128x256, .f32⟩
  | 57 => ⟨S_, .f32⟩
  | 58 => ⟨S_, .f32⟩
  | 59 => ⟨S8x128x256, .i1⟩
  | 60 => ⟨S8x128x256, .f32⟩
  | 61 => ⟨S8x128x256, .f32⟩
  | 62 => ⟨S_, .f32⟩
  | 63 => ⟨S8x128x256, .f32⟩
  | 64 => ⟨S_, .i32⟩
  | 65 => ⟨S128x256, .i32⟩
  | 66 => ⟨S128x256, .i1⟩
  | 67 => ⟨S_, .i32⟩
  | 68 => ⟨S128x256, .i32⟩
  | 69 => ⟨S128x256, .i1⟩
  | 70 => ⟨S128x256, .i1⟩
  | 71 => ⟨S_, .i32⟩
  | 72 => ⟨S128x256, .i32⟩
  | 73 => ⟨S128x256, .i32⟩
  | 74 => ⟨S_, .i32⟩
  | 75 => ⟨S128x256, .i32⟩
  | 76 => ⟨S128x256, .i32⟩
  | 77 => ⟨S_, .i32⟩
  | 78 => ⟨S128x256, .i32⟩
  | 79 => ⟨S128x256, .i32⟩
  | 80 => ⟨S128x256, .f32⟩
  | 81 => ⟨S_, .f32⟩
  | 82 => ⟨S128x256, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S_, .f32⟩
  | 89 => ⟨S128x256, .f32⟩
  | 90 => ⟨S128x256, .f32⟩
  | 91 => ⟨S128x256, .i32⟩
  | 92 => ⟨S_, .i32⟩
  | 93 => ⟨S128x256, .i32⟩
  | 94 => ⟨S128x256, .i32⟩
  | 95 => ⟨S_, .i32⟩
  | 96 => ⟨S128x256, .i32⟩
  | 97 => ⟨S128x256, .i32⟩
  | 98 => ⟨S_, .i32⟩
  | 99 => ⟨S128x256, .i32⟩
  | 100 => ⟨S128x256, .i1⟩
  | 101 => ⟨S128x256, .i32⟩
  | 102 => ⟨S_, .i32⟩
  | 103 => ⟨S128x256, .i32⟩
  | 104 => ⟨S128x256, .i1⟩
  | 105 => ⟨S_, .i32⟩
  | 106 => ⟨S128x256, .i32⟩
  | 107 => ⟨S128x256, .i32⟩
  | 108 => ⟨S128x256, .i32⟩
  | 109 => ⟨S128x256x1, .i32⟩
  | 110 => ⟨S128x256x8, .f32⟩
  | 111 => ⟨S8x128x256, .f32⟩
  | 112 => ⟨S_, .f32⟩
  | 113 => ⟨S_, .f32⟩
  | 114 => ⟨S8x128x256, .i1⟩
  | 115 => ⟨S8x128x256, .f32⟩
  | 116 => ⟨S8x128x256, .f32⟩
  | 117 => ⟨S_, .f32⟩
  | 118 => ⟨S8x128x256, .f32⟩
  | 119 => ⟨S_, .i32⟩
  | 120 => ⟨S128x256, .i32⟩
  | 121 => ⟨S128x256, .i1⟩
  | 122 => ⟨S_, .i32⟩
  | 123 => ⟨S128x256, .i32⟩
  | 124 => ⟨S128x256, .i1⟩
  | 125 => ⟨S128x256, .i1⟩
  | 126 => ⟨S_, .i32⟩
  | 127 => ⟨S128x256, .i32⟩
  | _ => ⟨S3x8x128x256, .f32⟩

abbrev hbmTy0_1 (i : Nat) : BufTy := match i % 128 with
  | 0 => ⟨S128x256, .i32⟩
  | 1 => ⟨S_, .i32⟩
  | 2 => ⟨S128x256, .i32⟩
  | 3 => ⟨S128x256, .i32⟩
  | 4 => ⟨S_, .i32⟩
  | 5 => ⟨S128x256, .i32⟩
  | 6 => ⟨S128x256, .i32⟩
  | 7 => ⟨S128x256, .f32⟩
  | 8 => ⟨S_, .f32⟩
  | 9 => ⟨S128x256, .f32⟩
  | 10 => ⟨S128x256, .f32⟩
  | 11 => ⟨S128x256, .f32⟩
  | 12 => ⟨S_, .f32⟩
  | 13 => ⟨S128x256, .f32⟩
  | 14 => ⟨S128x256, .f32⟩
  | 15 => ⟨S_, .f32⟩
  | 16 => ⟨S128x256, .f32⟩
  | 17 => ⟨S128x256, .f32⟩
  | 18 => ⟨S128x256, .i32⟩
  | 19 => ⟨S_, .i32⟩
  | 20 => ⟨S128x256, .i32⟩
  | 21 => ⟨S128x256, .i32⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i1⟩
  | 28 => ⟨S128x256, .i32⟩
  | 29 => ⟨S_, .i32⟩
  | 30 => ⟨S128x256, .i32⟩
  | 31 => ⟨S128x256, .i1⟩
  | 32 => ⟨S_, .i32⟩
  | 33 => ⟨S128x256, .i32⟩
  | 34 => ⟨S128x256, .i32⟩
  | 35 => ⟨S128x256, .i32⟩
  | 36 => ⟨S128x256x1, .i32⟩
  | 37 => ⟨S128x256x8, .f32⟩
  | 38 => ⟨S8x128x256, .f32⟩
  | 39 => ⟨S_, .f32⟩
  | 40 => ⟨S_, .f32⟩
  | 41 => ⟨S8x128x256, .i1⟩
  | 42 => ⟨S8x128x256, .f32⟩
  | 43 => ⟨S8x128x256, .f32⟩
  | 44 => ⟨S_, .f32⟩
  | 45 => ⟨S8x128x256, .f32⟩
  | 46 => ⟨S1x8x128x256, .f32⟩
  | 47 => ⟨S1x8x128x256, .f32⟩
  | 48 => ⟨S1x8x128x256, .f32⟩
  | 49 => ⟨S3x8x128x256, .f32⟩
  | 50 => ⟨S1x8x128x256, .f32⟩
  | 51 => ⟨S8x128x256, .f32⟩
  | 52 => ⟨S1x8x128x256, .f32⟩
  | 53 => ⟨S8x128x256, .f32⟩
  | 54 => ⟨S1x8x128x256, .f32⟩
  | 55 => ⟨S8x128x256, .f32⟩
  | 56 => ⟨S_, .f32⟩
  | 57 => ⟨S8x128x256, .f32⟩
  | 58 => ⟨S8x128x256, .f32⟩
  | 59 => ⟨S128x256x8, .f32⟩
  | 60 => ⟨S_, .f32⟩
  | 61 => ⟨S32x8, .f32⟩
  | 62 => ⟨S32x8, .f32⟩
  | 63 => ⟨S_, .f32⟩
  | 64 => ⟨S8x128x256, .f32⟩
  | 65 => ⟨S8x128x256, .f32⟩
  | 66 => ⟨S128x256x8, .f32⟩
  | 67 => ⟨S_, .f32⟩
  | 68 => ⟨S32x8, .f32⟩
  | 69 => ⟨S32x8, .f32⟩
  | 70 => ⟨S32x8, .f32⟩
  | 71 => ⟨S_, .f32⟩
  | 72 => ⟨S8x128x256, .f32⟩
  | 73 => ⟨S8x128x256, .f32⟩
  | 74 => ⟨S128x256x8, .f32⟩
  | 75 => ⟨S_, .f32⟩
  | 76 => ⟨S32x8, .f32⟩
  | 77 => ⟨S32x8, .f32⟩
  | 78 => ⟨S32x8, .f32⟩
  | _ => ⟨S3x8x128x256, .f32⟩

abbrev hbmTy (i : Nat) : BufTy := match i / 128 with
  | 0 => hbmTy0_0 i
  | 1 => hbmTy0_1 i
  | _ => ⟨S3x8x128x256, .f32⟩

abbrev bufTy : (tb : Table) → Fin (tcTables nBuf tb) → BufTy
  | .hbm, ⟨i, _⟩ => hbmTy i
  | _, _ => ⟨S3x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_8 : Ref sig .tc := ⟨.hbm, 37, rfl⟩
abbrev main_v26 : Ref sig .tc := ⟨.hbm, 38, rfl⟩
abbrev main_v27 : Ref sig .tc := ⟨.hbm, 39, rfl⟩
abbrev main_c_9 : Ref sig .tc := ⟨.hbm, 40, rfl⟩
abbrev main_v28 : Ref sig .tc := ⟨.hbm, 41, rfl⟩
abbrev main_v29 : Ref sig .tc := ⟨.hbm, 42, rfl⟩
abbrev main_c_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_11 : Ref sig .tc := ⟨.hbm, 47, rfl⟩
abbrev main_v33 : Ref sig .tc := ⟨.hbm, 48, rfl⟩
abbrev main_v34 : Ref sig .tc := ⟨.hbm, 49, rfl⟩
abbrev main_c_12 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_call1_v0 : Ref sig .tc := ⟨.hbm, 58, rfl⟩
abbrev main_v41_1 : Ref sig .tc := ⟨.hbm, 59, rfl⟩
abbrev main_call1_v2 : Ref sig .tc := ⟨.hbm, 60, rfl⟩
abbrev main_v41_0 : Ref sig .tc := ⟨.hbm, 61, rfl⟩
abbrev main_call1_cst : Ref sig .tc := ⟨.hbm, 62, rfl⟩
abbrev main_v41_2 : Ref sig .tc := ⟨.hbm, 63, rfl⟩
abbrev main_c_14 : Ref sig .tc := ⟨.hbm, 64, rfl⟩
abbrev main_v42 : Ref sig .tc := ⟨.hbm, 65, rfl⟩
abbrev main_v43 : Ref sig .tc := ⟨.hbm, 66, rfl⟩
abbrev main_c_15 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_16 : Ref sig .tc := ⟨.hbm, 71, rfl⟩
abbrev main_v47 : Ref sig .tc := ⟨.hbm, 72, rfl⟩
abbrev main_v48 : Ref sig .tc := ⟨.hbm, 73, rfl⟩
abbrev main_c_17 : Ref sig .tc := ⟨.hbm, 74, rfl⟩
abbrev main_v49 : Ref sig .tc := ⟨.hbm, 75, rfl⟩
abbrev main_v50 : Ref sig .tc := ⟨.hbm, 76, rfl⟩
abbrev main_c_18 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_19 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_20 : Ref sig .tc := ⟨.hbm, 85, rfl⟩
abbrev main_v57 : Ref sig .tc := ⟨.hbm, 86, rfl⟩
abbrev main_v58 : Ref sig .tc := ⟨.hbm, 87, rfl⟩
abbrev main_cst_21 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_22 : Ref sig .tc := ⟨.hbm, 92, rfl⟩
abbrev main_v62 : Ref sig .tc := ⟨.hbm, 93, rfl⟩
abbrev main_v63 : Ref sig .tc := ⟨.hbm, 94, rfl⟩
abbrev main_c_23 : Ref sig .tc := ⟨.hbm, 95, rfl⟩
abbrev main_v64 : Ref sig .tc := ⟨.hbm, 96, rfl⟩
abbrev main_v65 : Ref sig .tc := ⟨.hbm, 97, rfl⟩
abbrev main_c_24 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_25 : Ref sig .tc := ⟨.hbm, 102, rfl⟩
abbrev main_v69 : Ref sig .tc := ⟨.hbm, 103, rfl⟩
abbrev main_v70 : Ref sig .tc := ⟨.hbm, 104, rfl⟩
abbrev main_c_26 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_27 : Ref sig .tc := ⟨.hbm, 112, rfl⟩
abbrev main_call3_v0 : Ref sig .tc := ⟨.hbm, 113, rfl⟩
abbrev main_v77_1 : Ref sig .tc := ⟨.hbm, 114, rfl⟩
abbrev main_call3_v2 : Ref sig .tc := ⟨.hbm, 115, rfl⟩
abbrev main_v77_0 : Ref sig .tc := ⟨.hbm, 116, rfl⟩
abbrev main_call3_cst : Ref sig .tc := ⟨.hbm, 117, rfl⟩
abbrev main_v77_2 : Ref sig .tc := ⟨.hbm, 118, rfl⟩
abbrev main_c_28 : Ref sig .tc := ⟨.hbm, 119, rfl⟩
abbrev main_v78 : Ref sig .tc := ⟨.hbm, 120, rfl⟩
abbrev main_v79 : Ref sig .tc := ⟨.hbm, 121, rfl⟩
abbrev main_c_29 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_c_30 : Ref sig .tc := ⟨.hbm, 126, rfl⟩
abbrev main_v83 : Ref sig .tc := ⟨.hbm, 127, rfl⟩
abbrev main_v84 : Ref sig .tc := ⟨.hbm, 128, rfl⟩
abbrev main_c_31 : Ref sig .tc := ⟨.hbm, 129, rfl⟩
abbrev main_v85 : Ref sig .tc := ⟨.hbm, 130, rfl⟩
abbrev main_v86 : Ref sig .tc := ⟨.hbm, 131, rfl⟩
abbrev main_c_32 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_33 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_34 : Ref sig .tc := ⟨.hbm, 140, rfl⟩
abbrev main_v93 : Ref sig .tc := ⟨.hbm, 141, rfl⟩
abbrev main_v94 : Ref sig .tc := ⟨.hbm, 142, rfl⟩
abbrev main_cst_35 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_36 : Ref sig .tc := ⟨.hbm, 147, rfl⟩
abbrev main_v98 : Ref sig .tc := ⟨.hbm, 148, rfl⟩
abbrev main_v99 : Ref sig .tc := ⟨.hbm, 149, rfl⟩
abbrev main_c_37 : Ref sig .tc := ⟨.hbm, 150, rfl⟩
abbrev main_v100 : Ref sig .tc := ⟨.hbm, 151, rfl⟩
abbrev main_v101 : Ref sig .tc := ⟨.hbm, 152, rfl⟩
abbrev main_c_38 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_39 : Ref sig .tc := ⟨.hbm, 157, rfl⟩
abbrev main_v105 : Ref sig .tc := ⟨.hbm, 158, rfl⟩
abbrev main_v106 : Ref sig .tc := ⟨.hbm, 159, rfl⟩
abbrev main_c_40 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_41 : Ref sig .tc := ⟨.hbm, 167, rfl⟩
abbrev main_call5_v0 : Ref sig .tc := ⟨.hbm, 168, rfl⟩
abbrev main_v113_1 : Ref sig .tc := ⟨.hbm, 169, rfl⟩
abbrev main_call5_v2 : Ref sig .tc := ⟨.hbm, 170, rfl⟩
abbrev main_v113_0 : Ref sig .tc := ⟨.hbm, 171, rfl⟩
abbrev main_call5_cst : Ref sig .tc := ⟨.hbm, 172, rfl⟩
abbrev main_v113_2 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_call6_cst : Ref sig .tc := ⟨.hbm, 184, rfl⟩
abbrev main_call6_v0 : Ref sig .tc := ⟨.hbm, 185, rfl⟩
abbrev main_v124 : Ref sig .tc := ⟨.hbm, 186, rfl⟩
abbrev main_v125 : Ref sig .tc := ⟨.hbm, 187, rfl⟩
abbrev main_cst_42 : Ref sig .tc := ⟨.hbm, 188, rfl⟩
abbrev main_v126 : Ref sig .tc := ⟨.hbm, 189, rfl⟩
abbrev main_v127 : Ref sig .tc := ⟨.hbm, 190, rfl⟩
abbrev main_call7_cst : Ref sig .tc := ⟨.hbm, 191, rfl⟩
abbrev main_call7_v0 : Ref sig .tc := ⟨.hbm, 192, rfl⟩
abbrev main_v128 : Ref sig .tc := ⟨.hbm, 193, rfl⟩
abbrev main_v129 : Ref sig .tc := ⟨.hbm, 194, rfl⟩
abbrev main_cst_43 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_call8_cst : Ref sig .tc := ⟨.hbm, 199, rfl⟩
abbrev main_call8_v0 : Ref sig .tc := ⟨.hbm, 200, rfl⟩
abbrev main_v133 : Ref sig .tc := ⟨.hbm, 201, rfl⟩
abbrev main_v134 : Ref sig .tc := ⟨.hbm, 202, rfl⟩
abbrev main_cst_44 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x3088 : Shape := ⟨2, ![1024, 3088]⟩
abbrev S1024x1552 : Shape := ⟨2, ![1024, 1552]⟩
abbrev S_ : Shape := ⟨0, ![]⟩
abbrev S1024x112 : Shape := ⟨2, ![1024, 112]⟩
abbrev S1024x1536 : Shape := ⟨2, ![1024, 1536]⟩
abbrev S1024x3200 : Shape := ⟨2, ![1024, 3200]⟩
abbrev S8192x3200 : Shape := ⟨2, ![8192, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1024x3088, .bf16⟩
  | .hbm, ⟨4, _⟩ => ⟨S1024x1552, .bf16⟩
  | .hbm, ⟨5, _⟩ => ⟨S_, .bf16⟩
  | .hbm, ⟨6, _⟩ => ⟨S1024x112, .bf16⟩
  | .hbm, ⟨7, _⟩ => ⟨S1024x1536, .bf16⟩
  | .hbm, ⟨8, _⟩ => ⟨S1024x3200, .bf16⟩
  | .hbm, ⟨9, _⟩ => ⟨S8192x3200, .f32⟩
  | .hbm, ⟨10, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x3200, .f32⟩
  | .local _ .vmem, ⟨4, _⟩ => ⟨S512x3200, .f32⟩
  | .local _ .vmem, ⟨5, _⟩ => ⟨S512x1024, .bf16⟩
  | .local _ .vmem, ⟨6, _⟩ => ⟨S512x1024, .bf16⟩
  | .local _ .vmem, ⟨7, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x1024 : Shape := ⟨2, ![8192, 1024]⟩
abbrev S1x1024 : Shape := ⟨2, ![1, 1024]⟩
abbrev S1024x3088 : Shape := ⟨2, ![1024, 3088]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x3088 : Shape := ⟨2, ![8192, 3088]⟩
abbrev S8192x1552 : Shape := ⟨2, ![8192, 1552]⟩
abbrev S8192x112 : Shape := ⟨2, ![8192, 112]⟩
abbrev S8192x1536 : Shape := ⟨2, ![8192, 1536]⟩
abbrev S8192x3200 : Shape := ⟨2, ![8192, 3200]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3088, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3088, .f32⟩
  | .hbm, ⟨21, _⟩ => ⟨S8192x1552, .f32⟩
  | .hbm, ⟨22, _⟩ => ⟨S_, .f32⟩
  | .hbm, ⟨23, _⟩ => ⟨S8192x112, .f32⟩
  | .hbm, ⟨24, _⟩ => ⟨S8192x1536, .f32⟩
  | .hbm, ⟨25, _⟩ => ⟨S8192x3200, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S32x8 : Shape := ⟨2, ![32, 8]⟩
abbrev S256 : Shape := ⟨1, ![256]⟩
abbrev S_ : Shape := ⟨0, ![]⟩
abbrev S1x256 : Shape := ⟨2, ![1, 256]⟩
abbrev S3x256 : Shape := ⟨2, ![3, 256]⟩
abbrev S3x1x256 : Shape := ⟨3, ![3, 1, 256]⟩
abbrev S3x8x256 : Shape := ⟨3, ![3, 8, 256]⟩
abbrev S3x8x128x256 : Shape := ⟨4, ![3, 8, 128, 256]⟩
abbrev S1x8x256 : Shape := ⟨3, ![1, 8, 256]⟩
abbrev S1x8x128x256 : Shape := ⟨4, ![1, 8, 128, 256]⟩
abbrev S8x256 : Shape := ⟨2, ![8, 256]⟩
abbrev S1x1 : Shape := ⟨2, ![1, 1]⟩
abbrev S128x256 : Shape := ⟨2, ![128, 256]⟩
abbrev S1x1x128x256 : Shape := ⟨4, ![1, 1, 128, 256]⟩

abbrev nBuf : Space → Nat
  | .hbm => 124
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S256, .i1⟩
  | .hbm, ⟨12, _⟩ => ⟨S_, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i32⟩
  | .hbm, ⟨43, _⟩ => ⟨S_, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S256, .i32⟩
  | .hbm, ⟨78, _⟩ => ⟨S_, .i32⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i32⟩
  | .hbm, ⟨85, _⟩ => ⟨S_, .i32⟩
  | .hbm, ⟨86, _⟩ => ⟨S256, .i32⟩
  | .hbm, ⟨87, _⟩ => ⟨S256, .i32⟩
  | .hbm, ⟨88, _⟩ => ⟨S_, .i32⟩
  | .hbm, ⟨89, _⟩ => ⟨S256, .i32⟩
  | .hbm, ⟨90, _⟩ => ⟨S256, .i32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S256, .f32⟩
  | .hbm, ⟨95, _⟩ => ⟨S256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .i32⟩
  | .hbm, ⟨103, _⟩ => ⟨S_, .i32⟩
  | .hbm, ⟨104, _⟩ => ⟨S256, .i32⟩
  | .hbm, ⟨105, _⟩ => ⟨S256, .i32⟩
  | .hbm, ⟨106, _⟩ => ⟨S_, .i32⟩
  | .hbm, ⟨107, _⟩ => ⟨S256, .i32⟩
  | .hbm, ⟨108, _⟩ => ⟨S256, .i32⟩
  | .hbm, ⟨109, _⟩ => ⟨S_, .i32⟩
  | .hbm, ⟨110, _⟩ => ⟨S256, .i32⟩
  | .hbm, ⟨111, _⟩ => ⟨S256, .i1⟩
  | .hbm, ⟨112, _⟩ => ⟨S256, .i32⟩
  | .hbm, ⟨113, _⟩ => ⟨S_, .i32⟩
  | .hbm, ⟨114, _⟩ => ⟨S_, .i32⟩
  | .hbm, ⟨115, _⟩ => ⟨S256, .i32⟩
  | .hbm, ⟨116, _⟩ => ⟨S256, .i32⟩
  | .hbm, ⟨117, _⟩ => ⟨S1x256, .i32⟩
  | .hbm, ⟨118, _⟩ => ⟨S1x256, .i32⟩
  | .hbm, ⟨119, _⟩ => ⟨S1x256, .i32⟩
  | .hbm, ⟨120, _⟩ => ⟨S3x256, .i32⟩
  | .hbm, ⟨121, _⟩ => ⟨S3x1x256, .i32⟩
  | .hbm, ⟨122, _⟩ => ⟨S3x8x256, .i32⟩
  | .hbm, ⟨123, _⟩ => ⟨S3x8x128x256, .f32⟩
  | .local _ .vmem, ⟨0, _⟩ => ⟨S1x8x256, .i32⟩
  | .local _ .vmem, ⟨1, _⟩ => ⟨S1x8x256, .i32⟩
  | .local _ .vmem, ⟨2, _⟩ => ⟨S1x8x128x256, .f32⟩
  | .local _ .vmem, ⟨3, _⟩ => ⟨S1x8x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_c_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_7 : Ref sig .tc := ⟨.hbm, 33, rfl⟩
abbrev main_v23 : Ref sig .tc := ⟨.hbm, 34, rfl⟩
abbrev main_v24 : Ref sig .tc := ⟨.hbm, 35, rfl⟩
abbrev main_c_8 : Ref sig .tc := ⟨.hbm, 36, rfl⟩
abbrev main_v25 : Ref sig .tc := ⟨.hbm, 37, rfl⟩
abbrev main_v26 : Ref sig .tc := ⟨.hbm, 38, rfl⟩
abbrev main_c_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_10 : Ref sig .tc := ⟨.hbm, 43, rfl⟩
abbrev main_call1_v0 : Ref sig .tc := ⟨.hbm, 44, rfl⟩
abbrev main_call1_v1 : Ref sig .tc := ⟨.hbm, 45, rfl⟩
abbrev main_v30 : Ref sig .tc := ⟨.hbm, 46, rfl⟩
abbrev main_c_11 : Ref sig .tc := ⟨.hbm, 47, rfl⟩
abbrev main_v31 : Ref sig .tc := ⟨.hbm, 48, rfl⟩
abbrev main_v32 : Ref sig .tc := ⟨.hbm, 49, rfl⟩
abbrev main_c_12 : Ref sig .tc := ⟨.hbm, 50, rfl⟩
abbrev main_v33 : Ref sig .tc := ⟨.hbm, 51, rfl⟩
abbrev main_v34 : Ref sig .tc := ⟨.hbm, 52, rfl⟩
abbrev main_c_13 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_14 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_15 : Ref sig .tc := ⟨.hbm, 61, rfl⟩
abbrev main_v41 : Ref sig .tc := ⟨.hbm, 62, rfl⟩
abbrev main_v42 : Ref sig .tc := ⟨.hbm, 63, rfl⟩
abbrev main_cst_16 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_17 : Ref sig .tc := ⟨.hbm, 68, rfl⟩
abbrev main_v46 : Ref sig .tc := ⟨.hbm, 69, rfl⟩
abbrev main_v47 : Ref sig .tc := ⟨.hbm, 70, rfl⟩
abbrev main_c_18 : Ref sig .tc := ⟨.hbm, 71, rfl⟩
abbrev main_v48 : Ref sig .tc := ⟨.hbm, 72, rfl⟩
abbrev main_v49 : Ref sig .tc := ⟨.hbm, 73, rfl⟩
abbrev main_c_19 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_20 : Ref sig .tc := ⟨.hbm, 78, rfl⟩
abbrev main_call3_v0 : Ref sig .tc := ⟨.hbm, 79, rfl⟩
abbrev main_call3_v1 : Ref sig .tc := ⟨.hbm, 80, rfl⟩
abbrev main_v53 : Ref sig .tc := ⟨.hbm, 81, rfl⟩
abbrev main_c_21 : Ref sig .tc := ⟨.hbm, 82, rfl⟩
abbrev main_v54 : Ref sig .tc := ⟨.hbm, 83, rfl⟩
abbrev main_v55 : Ref sig .tc := ⟨.hbm, 84, rfl⟩
abbrev main_c_22 : Ref sig .tc := ⟨.hbm, 85, rfl⟩
abbrev main_v56 : Ref sig .tc := ⟨.hbm, 86, rfl⟩
abbrev main_v57 : Ref sig .tc := ⟨.hbm, 87, rfl⟩
abbrev main_c_23 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_24 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_25 : Ref sig .tc := ⟨.hbm, 96, rfl⟩
abbrev main_v64 : Ref sig .tc := ⟨.hbm, 97, rfl⟩
abbrev main_v65 : Ref sig .tc := ⟨.hbm, 98, rfl⟩
abbrev main_cst_26 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_27 : Ref sig .tc := ⟨.hbm, 103, rfl⟩
abbrev main_v69 : Ref sig .tc := ⟨.hbm, 104, rfl⟩
abbrev main_v70 : Ref sig .tc := ⟨.hbm, 105, rfl⟩
abbrev main_c_28 : Ref sig .tc := ⟨.hbm, 106, rfl⟩
abbrev main_v71 : Ref sig .tc := ⟨.hbm, 107, rfl⟩
abbrev main_v72 : Ref sig .tc := ⟨.hbm, 108, rfl⟩
abbrev main_c_29 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_30 : Ref sig .tc := ⟨.hbm, 113, rfl⟩
abbrev main_call5_v0 : Ref sig .tc := ⟨.hbm, 114, rfl⟩
abbrev main_call5_v1 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel6Ideal.lean ====
variable {F : FTy → Type} [FloatOps F] [Named F]
def κ : String → Option EReal := fun
  | "mask" => some ⊥
  | _ => none
-- ==== Reference6Ideal.lean ====
abbrev S32x8 : Shape := ⟨2, ![32, 8]⟩
abbrev S128x256 : Shape := ⟨2, ![128, 256]⟩
abbrev S_ : Shape := ⟨0, ![]⟩
abbrev S1x128x256 : Shape := ⟨3, ![1, 128, 256]⟩
abbrev S3x128x256 : Shape := ⟨3, ![3, 128, 256]⟩
abbrev S3x128x256x1 : Shape := ⟨4, ![3, 128, 256, 1]⟩
abbrev S3x128x256x8 : Shape := ⟨4, ![3, 128, 256, 8]⟩
abbrev S3x8x128x256 : Shape := ⟨4, ![3, 8, 128, 256]⟩

abbrev nBuf : Space → Nat
  | .hbm => 70
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S_, .i32⟩
  | .hbm, ⟨3, _⟩ => ⟨S128x256, .i32⟩
  | .hbm, ⟨4, _⟩ => ⟨S128x256, .i32⟩
  | .hbm, ⟨5, _⟩ => ⟨S128x256, .i32⟩
  | .hbm, ⟨6, _⟩ => ⟨S128x256, .i32⟩
  | .hbm, ⟨7, _⟩ => ⟨S_, .i32⟩
  | .hbm, ⟨8, _⟩ => ⟨S128x256, .i32⟩
  | .hbm, ⟨9, _⟩ => ⟨S128x256, .i1⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S_, .i32⟩
  | .hbm, ⟨18, _⟩ => ⟨S128x256, .i32⟩
  | .hbm, ⟨19, _⟩ => ⟨S128x256, .i32⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S1x128x256, .i32⟩
  | .hbm, ⟨24, _⟩ => ⟨S1x128x256, .i32⟩
  | .hbm, ⟨25, _⟩ => ⟨S1x128x256, .i32⟩
  | .hbm, ⟨26, _⟩ => ⟨S3x128x256, .i32⟩
  | .hbm, ⟨27, _⟩ => ⟨S_, .i32⟩
  | .hbm, ⟨28, _⟩ => ⟨S3x128x256, .i32⟩
  | .hbm, ⟨29, _⟩ => ⟨S3x128x256, .i32⟩
  | .hbm, ⟨30, _⟩ => ⟨S_, .i32⟩
  | .hbm, ⟨31, _⟩ => ⟨S3x128x256, .i32⟩
  | .hbm, ⟨32, _⟩ => ⟨S3x128x256, .i32⟩
  | .hbm, ⟨33, _⟩ => ⟨S3x128x256, .f32⟩
  | .hbm, ⟨34, _⟩ => ⟨S_, .f32⟩
  | .hbm, ⟨35, _⟩ => ⟨S3x128x256, .f32⟩
  | .hbm, ⟨36, _⟩ => ⟨S3x128x256, .f32⟩
  | .hbm, ⟨37, _⟩ => ⟨S3x128x256, .f32⟩
  | .hbm, ⟨38, _⟩ => ⟨S_, .f32⟩
  | .hbm, ⟨39, _⟩ => ⟨S3x128x256, .f32⟩
  | .hbm, ⟨40, _⟩ => ⟨S3x128x256, .f32⟩
  | .hbm, ⟨41, _⟩ => ⟨S_, .f32⟩
  | .hbm, ⟨42, _⟩ => ⟨S3x128x256, .f32⟩
  | .hbm, ⟨43, _⟩ => ⟨S3x128x256, .f32⟩
  | .hbm, ⟨44, _⟩ => ⟨S3x128x256, .i32⟩
  | .hbm, ⟨45, _⟩ => ⟨S_, .i32⟩
  | .hbm, ⟨46, _⟩ => ⟨S3x128x256, .i32⟩
  | .hbm, ⟨47, _⟩ => ⟨S3x128x256, .i32⟩
  | .hbm, ⟨48, _⟩ => ⟨S_, .i32⟩
  | .hbm, ⟨49, _⟩ => ⟨S3x128x256, .i32⟩
  | .hbm, ⟨50, _⟩ => ⟨S3x128x256, .i32⟩
  | .hbm, ⟨51, _⟩ => ⟨S_, .i32⟩
  | .hbm, ⟨52, _⟩ => ⟨S3x128x256, .i32⟩
  | .hbm, ⟨53, _⟩ => ⟨S3x128x256, .i1⟩
  | .hbm, ⟨54, _⟩ => ⟨S3x128x256, .i32⟩
  | .hbm, ⟨55, _⟩ => ⟨S_, .i32⟩
  | .hbm, ⟨56, _⟩ => ⟨S3x128x256, .i32⟩
  | .hbm, ⟨57, _⟩ => ⟨S3x128x256, .i1⟩
  | .hbm, ⟨58, _⟩ => ⟨S_, .i32⟩
  | .hbm, ⟨59, _⟩ => ⟨S3x128x256, .i32⟩
  | .hbm, ⟨60, _⟩ => ⟨S3x128x256, .i32⟩
  | .hbm, ⟨61, _⟩ => ⟨S3x128x256, .i32⟩
  | .hbm, ⟨62, _⟩ => ⟨S3x128x256x1, .i32⟩
  | .hbm, ⟨63, _⟩ => ⟨S3x128x256x8, .f32⟩
  | .hbm, ⟨64, _⟩ => ⟨S3x8x128x256, .f32⟩
  | .hbm, ⟨65, _⟩ => ⟨S_, .f32⟩
  | .hbm, ⟨66, _⟩ => ⟨S_, .f32⟩
  | .hbm, ⟨67, _⟩ => ⟨S3x8x128x256, .i1⟩
  | .hbm, ⟨68, _⟩ => ⟨S3x8x128x256, .f32⟩
  | .hbm, ⟨69, _⟩ => ⟨S3x8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_5 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_7 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_9 : Ref sig .tc := ⟨.hbm, 45, rfl⟩
abbrev main_v33 : Ref sig .tc := ⟨.hbm, 46, rfl⟩
abbrev main_v34 : Ref sig .tc := ⟨.hbm, 47, rfl⟩
abbrev main_c_10 : Ref sig .tc := ⟨.hbm, 48, rfl⟩
abbrev main_v35 : Ref sig .tc := ⟨.hbm, 49, rfl⟩
abbrev main_v36 : Ref sig .tc := ⟨.hbm, 50, rfl⟩
abbrev main_c_11 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_12 : Ref sig .tc := ⟨.hbm, 55, rfl⟩
abbrev main_v40 : Ref sig .tc := ⟨.hbm, 56, rfl⟩
abbrev main_v41 : Ref sig .tc := ⟨.hbm, 57, rfl⟩
abbrev main_c_13 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_14 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.DxRun.lean ====
/- What one grid point of the kernel leaves: its block of the activations' gradient, the running sum of the scale's
   gradient, and the projection's weight in the scratch. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Dx

open Cert.KernelIdeal Cert.KernelIdeal.Gen Idealize.ShloMosaic Idealize.ShloMosaic.TcCoe Idealize.SL.Sem

variable (m : (ℓ : Loc nD τ sig) → Buf (Elt Ideal) ℓ)

/-- One write of a whole array leaves what it wrote. -/
theorem canon_whole {s : Shape} {e : EltTy} (w : s.Idx → Elt Ideal e) :
    View.canon [⟨Rect.whole s, w⟩] = w := by
  funext y
  have h := View.canon_cons_emb (Rect.whole s) w [] y
  rwa [Rect.emb_whole_apply] at h

/-- The scratch holds the projection's weight after every point: the first point copies it, the others keep it. -/
theorem weight (c : Dev nD) : ∀ (n : ℕ) (h : n < cfg0.N), (outsAt0 m c n h).2.2 = V m c main_v4 := by
  intro n
  induction n with
  | zero =>
    intro h
    rw [outsAt0_A m c ⟨0, h⟩ rfl]
    frame_out
    exact canon_whole _
  | succ n ih =>
    intro h
    have hn : n + 1 < 16 := lt_of_lt_of_eq h N_0
    have e := congrArg (fun p => p.2.2) (outsAt0_B m c ⟨n + 1, h⟩ (show ¬ (n + 1) % 16 = 0 by omega))
    simp only [sout0_B_0, Nat.add_sub_cancel] at e
    rw [e, ih]

/-- The gradient of the normed activations in one block of rows: the four products with the slices of the weight. -/
def dnx (c : Dev nD) (t : Fin cfg0.N) : FVec Ideal S512x1024 .f32 :=
  k0_pay5 (iblk m c 3 t)
    (View.ld (V m c main_v4) (Rect.unit ![0, 0] ![1024, 1664] inb_S1024x3200_S1024x1664_0_0)) (iblk m c 4 t)
    (View.ld (V m c main_v4) (Rect.unit ![0, 1664] ![1024, 512] inb_S1024x3200_S1024x512_0_1664)) (iblk m c 5 t)
    (View.ld (V m c main_v4) (Rect.unit ![0, 2176] ![1024, 512] inb_S1024x3200_S1024x512_0_2176)) (iblk m c 6 t)
    (View.ld (V m c main_v4) (Rect.unit ![0, 2688] ![1024, 512] inb_S1024x3200_S1024x512_0_2688))

/-- The block of the activations' gradient that a point writes. -/
theorem dx_block (c : Dev nD) (t : Fin cfg0.N) : (outsAt0 m c t.val t.isLt).1
    = k0_pay3 (dnx m c t) (iblk m c 0 t) (k0_pay6 (iblk m c 0 t)) (iblk m c 2 t) (iblk m c 1 t) := by
  by_cases h : t.val % 16 = 0
  · rw [outsAt0_A m c t h]
    frame_out
    simp only [View.readCov_eq_canon', canon_whole]
    rfl
  · rw [outsAt0_B m c t h]
    frame_out
    simp only [read_unread_whole, weight m c]
    rfl

/-- The scale's gradient after the first point. -/
theorem dg_first (c : Dev nD) (t : Fin cfg0.N) (h : t.val % 16 = 0) : (outsAt0 m c t.val t.isLt).2.1
    = k0_pay2 (dnx m c t) (iblk m c 0 t) (k0_pay6 (iblk m c 0 t)) (k0_pay4 (F := Ideal)) := by
  rw [outsAt0_A m c t h]
  frame_out
  simp only [View.readCov_eq_canon', canon_whole]
  rfl

/-- The scale's gradient after a later point: the point before's, with the block's part added. -/
theorem dg_next (c : Dev nD) (t : Fin cfg0.N) (h : ¬ t.val % 16 = 0) : (outsAt0 m c t.val t.isLt).2.1
    = k0_pay2 (dnx m c t) (iblk m c 0 t) (k0_pay6 (iblk m c 0 t))
        (outsAt0 m c (t.val - 1) (Nat.lt_of_le_of_lt (Nat.sub_le _ _) t.isLt)).2.1 := by
  rw [outsAt0_B m c t h]
  frame_out
  simp only [read_unread_whole, weight m c]
  rfl

end Cert.Proof.Dx

end
-- ==== Proof.Reals.lean ====
/- Arithmetic of the extended reals on finite numbers: sums, quotients, reciprocal square roots and the constants that the
   programs write, as casts of real numbers. -/
module

public import Idealize.ShloMosaic.Lib.Pipeline.ValueKit
public import Idealize.ShloMosaic.Lib.IdealHost
public import Idealize.ShloMosaic.Lib.ReduceAll

@[expose] public section

noncomputable section

namespace Cert.Proof.Reals

open Idealize.ShloMosaic

/-- A sum of real numbers is the same number summed as extended reals. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The quotient by a real number other than zero. -/
theorem div_coe (a b : ℝ) (h : b ≠ 0) : Ideal.div (a : EReal) (b : EReal) = ((a / b : ℝ) : EReal) := by
  have hb : (b : EReal) ≠ 0 := by exact_mod_cast h
  rw [Ideal.div, if_neg hb, ← EReal.coe_inv, ← EReal.coe_mul, div_eq_mul_inv]

/-- The reciprocal square root of a positive number. -/
theorem rsqrt_coe (a : ℝ) (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

/-- A number whose absolute value is below infinity is a real number. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = (⊤ : EReal) := by
    simp [Ideal.ofBits, Ideal.ieee]
  rw [ht] at h
  induction x using EReal.rec with
  | bot => exact absurd h (by simp [Ideal.cmp])
  | coe r => exact ⟨r, rfl⟩
  | top => exact absurd h (by simp [Ideal.cmp])

/-- An array whose entries all have an absolute value below infinity is an array of real numbers: what a finiteness
    precondition says of one argument. -/
theorem real_of_all {S S0 S1 : Shape} [Subsingleton S1.Idx] (x : FVec Ideal S .f32) {dims : Fin S0.rank → Fin S.rank} {hb : S0.BroadcastsInDim S dims}
    {axes : List (Fin S.rank)} {hr : S.ReducesTo axes S1} {hu : 0 < S0.numel} {init : IVec S0 1} {j : S1.Idx}
    (h : Host.reduce IntOp.andi (cmpf .olt (Host.absf x)
      (broadcastInDim S dims hb (constant S0 .f32 0x7F800000#32))) init hr hu j = 1#1) (i : S.Idx) :
    ∃ r : ℝ, x i = (r : EReal) :=
  real_of_abs_lt _ (Host.reduce_andi_all _ _ hr hu j h i)

/-- The width of a row, 1024. -/
theorem ofBits_1024 : Ideal.ofBits .f32 0x44800000#32 = ((1024 : ℝ) : EReal) := by
  simp [Ideal.ofBits, Ideal.ieee]
  rw [← EReal.coe_mul]
  norm_num

/-- The factor −1/2 of a reciprocal square root's derivative. -/
theorem ofBits_neg_half : Ideal.ofBits .f32 0xBF000000#32 = ((-(1 / 2) : ℝ) : EReal) := by
  simp [Ideal.ofBits, Ideal.ieee]
  rw [← EReal.coe_mul]
  norm_num

/-- The norms' small constant. -/
def eps : ℝ := 8796093 / 2 ^ 43

theorem eps_pos : 0 < eps := by unfold eps; positivity

theorem ofBits_eps : Ideal.ofBits .f32 0x358637BD#32 = (eps : EReal) := by
  simp [Ideal.ofBits, Ideal.ieee, eps]
  rw [← EReal.coe_mul]
  norm_num

end Cert.Proof.Reals

end
-- ==== Proof.RmsGrad.lean ====
/- The gradient of a row's root-mean-square norm: the kernels' closed form against the chain rule's terms. -/
module

public import proofs.«01_k».proof.Proof.Reals

@[expose] public section

noncomputable section

namespace Cert.Proof.RmsGrad

open Idealize.ShloMosaic Cert.Proof.Reals

/-- The reciprocal root-mean-square of a row. -/
def rstd (x : Fin 1024 → EReal) : EReal :=
  Ideal.rsqrt (Ideal.div (∑ k, x k * x k) (Ideal.ofBits .f32 0x44800000#32) + Ideal.ofBits .f32 0x358637BD#32)

/-- The mean square of a row, with the small constant added. -/
def meanSq (x : Fin 1024 → ℝ) : ℝ := (∑ k, x k * x k) / 1024 + eps

theorem meanSq_pos (x : Fin 1024 → ℝ) : 0 < meanSq x :=
  add_pos_of_nonneg_of_pos (div_nonneg (Finset.sum_nonneg fun k _ => mul_self_nonneg _) (by norm_num)) eps_pos

theorem meanSq_coe (x : Fin 1024 → ℝ) :
    Ideal.div (∑ k, (x k : EReal) * x k) (Ideal.ofBits .f32 0x44800000#32) + Ideal.ofBits .f32 0x358637BD#32
      = (meanSq x : EReal) := by
  simp only [← EReal.coe_mul]
  rw [sum_coe, ofBits_1024, div_coe _ _ (by norm_num), ofBits_eps, ← EReal.coe_add]
  rfl

theorem rstd_coe (x : Fin 1024 → ℝ) : rstd (fun k => (x k : EReal)) = (((Real.sqrt (meanSq x))⁻¹ : ℝ) : EReal) := by
  unfold rstd
  rw [meanSq_coe, rsqrt_coe _ (meanSq_pos x)]

/-- The gradient with respect to an entry of the row, as the kernels compute it: `d` the gradient of the scaled norm's
    output, `g` the scale, `h` what the residual branch adds. -/
def grad (x d g : Fin 1024 → EReal) (h : EReal) (j : Fin 1024) : EReal :=
  h + rstd x * (d j * g j - x j * rstd x *
    Ideal.div (∑ k, d k * g k * (x k * rstd x)) (Ideal.ofBits .f32 0x44800000#32))

/-- The chain rule's factor of the mean square. -/
def chain (x d g : Fin 1024 → EReal) : EReal :=
  Ideal.div ((∑ k, x k * (d k * g k)) * (Ideal.ofBits .f32 0xBF000000#32 * Ideal.div (rstd x)
    (Ideal.div (∑ k, x k * x k) (Ideal.ofBits .f32 0x44800000#32) + Ideal.ofBits .f32 0x358637BD#32)))
    (Ideal.ofBits .f32 0x44800000#32)

/-- The closed form is the chain rule's sum of its three terms, for rows of real numbers. -/
theorem grad_eq_chain (x d g : Fin 1024 → ℝ) (h : EReal) (j : Fin 1024) :
    grad (fun k => (x k : EReal)) (fun k => (d k : EReal)) (fun k => (g k : EReal)) h j
      = h + (d j : EReal) * g j * rstd (fun k => (x k : EReal))
        + x j * chain (fun k => (x k : EReal)) (fun k => (d k : EReal)) (fun k => (g k : EReal))
        + chain (fun k => (x k : EReal)) (fun k => (d k : EReal)) (fun k => (g k : EReal)) * x j := by
  have hs := meanSq_pos x
  have hr : (Real.sqrt (meanSq x))⁻¹ * (Real.sqrt (meanSq x))⁻¹ = (meanSq x)⁻¹ := by
    rw [← mul_inv, Real.mul_self_sqrt hs.le]
  unfold grad chain
  simp only [rstd_coe, meanSq_coe]
  simp only [← EReal.coe_mul, sum_coe, ofBits_1024, ofBits_neg_half]
  rw [div_coe _ _ (by norm_num), div_coe _ _ hs.ne']
  simp only [← EReal.coe_mul]
  rw [div_coe _ _ (by norm_num)]
  simp only [← EReal.coe_mul, ← EReal.coe_sub]
  rw [add_assoc, add_assoc, ← EReal.coe_add, ← EReal.coe_add]
  congr 2
  have hS : ∑ k, d k * g k * (x k * (Real.sqrt (meanSq x))⁻¹) = (Real.sqrt (meanSq x))⁻¹ * ∑ k, x k * (d k * g k) := by
    rw [Finset.mul_sum]
    exact Finset.sum_congr rfl fun k _ => by ring
  rw [hS]
  generalize (∑ k, x k * (d k * g k)) = S
  generalize (Real.sqrt (meanSq x))⁻¹ = r at hr
  rw [div_eq_mul_inv r, ← hr]
  ring

end Cert.Proof.RmsGrad

end
-- ==== Proof.DxValue.lean ====
/- The two result arrays of the kernel after its run, as functions of the arguments. -/
module

public import proofs.«01_k».proof.Proof.DxRun
public import proofs.«01_k».proof.Proof.RmsGrad

@[expose] public section

set_option maxRecDepth 16384

noncomputable section

namespace Cert.Proof.Dx

open Cert.KernelIdeal Cert.KernelIdeal.Gen Idealize.ShloMosaic Idealize.ShloMosaic.TcCoe Idealize.SL.Sem
open Cert.Proof.RmsGrad

variable (m : (ℓ : Loc nD τ sig) → Buf (Elt Ideal) ℓ)

/-- The gradient of the normed activations: the projection's cotangent against the projection's weight. -/
def dn (dproj : FVec Ideal S8192x3088 .f32) (w : FVec Ideal S1024x3088 .f32) (i : Fin 8192) (j : Fin 1024) : EReal :=
  ∑ k : Fin 3088, dproj (ix2 i k) * w (ix2 j k)

/-- A sum over the projection's columns, cut where the kernel's operands are cut. -/
theorem sum_columns (f : Fin 3088 → EReal) : ∑ k, f k
    = (∑ k : Fin 1552, f ⟨k, by omega⟩) + (∑ k : Fin 512, f ⟨1552 + k, by omega⟩)
      + (∑ k : Fin 512, f ⟨2064 + k, by omega⟩) + ∑ k : Fin 512, f ⟨2576 + k, by omega⟩ := by
  rw [Fin.sum_univ_two_halves 2576 512 rfl f, Fin.sum_univ_two_halves 2064 512 rfl, Fin.sum_univ_two_halves 1552 512 rfl]

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ t.val < 16 :=
  (by decide +kernel : ∀ t : Fin grid0.N, _)

/-- Equal pieces give equal concatenations. -/
theorem concat_congr {a a' : FVec Ideal S1024x1552 .bf16} {b b' : FVec Ideal S1024x112 .bf16} {d d' : FVec Ideal S1024x1536 .bf16}
    (ha : a = a') (hb : b = b') (hd : d = d') :
    concatenate S1024x3200 1 [⟨S1024x1552, a⟩, ⟨S1024x112, b⟩, ⟨S1024x1536, d⟩] concatenates_S1024x1552_S1024x112_S1024x1536_S1024x3200_d1
      = concatenate S1024x3200 1 [⟨S1024x1552, a'⟩, ⟨S1024x112, b'⟩, ⟨S1024x1536, d'⟩] concatenates_S1024x1552_S1024x112_S1024x1536_S1024x3200_d1 := by
  rw [ha, hb, hd]

/-- The padded weight that the host prepares, over the argument. -/
abbrev padded (w : FVec Ideal S1024x3088 .f32) : FVec Ideal S1024x3200 .bf16 :=
  concatenate S1024x3200 1
    [⟨S1024x1552, extractStridedSlice S1024x1552 ![0, 0] (truncf .bf16 w bitsLt_bf16_f32) slices_S1024x3088_S1024x1552_0_0⟩,
     ⟨S1024x112, broadcastInDim S1024x112 ![] bcast_S_S1024x112 (constant S_ .bf16 0x0000#16 : FVec Ideal S_ .bf16)⟩,
     ⟨S1024x1536, extractStridedSlice S1024x1536 ![0, 1552] (truncf .bf16 w bitsLt_bf16_f32) slices_S1024x3088_S1024x1536_0_1552⟩]
    concatenates_S1024x1552_S1024x112_S1024x1536_S1024x3200_d1

theorem weight_eq (c : Dev nD) : V m c main_v4 = padded (m ((c : Thread nD τ).loc main_arg2)) := by
  unfold V hostOps0
  simp only [StableHlo.after_cons, StableHlo.after_nil]
  after_results_simp
  refine concat_congr ?_ ?_ ?_ <;> rfl

theorem padded_at (w : FVec Ideal S1024x3088 .f32) (b : Fin 1024) (k : Fin 3200) : padded w (ix2 b k)
      = if h : k.val < 1552 then w (ix2 b ⟨k, by omega⟩)
        else if h' : k.val < 1664 then 0 else w (ix2 b ⟨k - 112, by omega⟩) := by
  pointwise
  by_cases h : k.val < 1552
  · simp only [h, ↓reduceDIte]
  · by_cases h' : k.val < 1664
    · simp only [h, h', ↓reduceDIte, show k.val - 1552 < 112 by omega]
    · simp only [h, h', ↓reduceDIte, show ¬ k.val - 1552 < 112 by omega, show 1552 + (k.val - 1552 - 112) = k.val - 112 by omega]

theorem weight_at (c : Dev nD) (b : Fin 1024) (k : Fin 3200) :
    (show FVec Ideal S1024x3200 .bf16 from V m c main_v4) (ix2 b k)
      = if h : k.val < 1552 then (show FVec Ideal S1024x3088 .f32 from m ((c : Thread nD τ).loc main_arg2)) (ix2 b ⟨k, by omega⟩)
        else if h' : k.val < 1664 then 0
        else (show FVec Ideal S1024x3088 .f32 from m ((c : Thread nD τ).loc main_arg2)) (ix2 b ⟨k - 112, by omega⟩) :=
  (congrFun (weight_eq m c) _).trans (padded_at _ b k)

/-- Past the padding the padded weight's columns are the weight's, 112 further on. -/
theorem weight_past (c : Dev nD) (b : Fin 1024) (k : Fin 3200) (k' : Fin 3088) (h : k.val = k'.val + 112) (h' : 1552 ≤ k'.val) :
    (show FVec Ideal S1024x3200 .bf16 from V m c main_v4) (ix2 b k)
      = (show FVec Ideal S1024x3088 .f32 from m ((c : Thread nD τ).loc main_arg2)) (ix2 b k') := by
  rw [weight_at, dif_neg (by omega), dif_neg (by omega)]
  exact congrArg _ (congrArg (ix2 b) (Fin.ext (by show k.val - 112 = k'.val; omega)))

theorem da_at (c : Dev nD) (i : Fin 8192) (k : Fin 1664) :
    (show FVec Ideal S8192x1664 .bf16 from V m c main_v8) (ix2 i k)
      = if h : k.val < 1552 then (show FVec Ideal S8192x3088 .f32 from m ((c : Thread nD τ).loc main_arg4)) (ix2 i ⟨k, by omega⟩)
        else 0 := by
  entry_read
  pointwise

theorem dq_at (c : Dev nD) (i : Fin 8192) (k : Fin 512) :
    (show FVec Ideal S8192x512 .bf16 from V m c main_v10) (ix2 i k)
      = (show FVec Ideal S8192x3088 .f32 from m ((c : Thread nD τ).loc main_arg4)) (ix2 i ⟨1552 + k, by omega⟩) := by
  entry_read
  pointwise

theorem dk_at (c : Dev nD) (i : Fin 8192) (k : Fin 512) :
    (show FVec Ideal S8192x512 .bf16 from V m c main_v12) (ix2 i k)
      = (show FVec Ideal S8192x3088 .f32 from m ((c : Thread nD τ).loc main_arg4)) (ix2 i ⟨2064 + k, by omega⟩) := by
  entry_read
  pointwise

theorem dv_at (c : Dev nD) (i : Fin 8192) (k : Fin 512) :
    (show FVec Ideal S8192x512 .bf16 from V m c main_v14) (ix2 i k)
      = (show FVec Ideal S8192x3088 .f32 from m ((c : Thread nD τ).loc main_arg4)) (ix2 i ⟨2576 + k, by omega⟩) := by
  entry_read
  pointwise

/-- The array row that a block's row is. -/
abbrev rowAt (t : Fin cfg0.N) (a : Fin 512) : Fin 8192 := ⟨t.val * 512 + a.val, by have := (idx t).2.2.2.2.2.2.2.2.2; omega⟩

theorem blk3 (c : Dev nD) (t : Fin cfg0.N) (a : Fin 512) (k : Fin 1664) : iblk m c 3 t (ix2 a k)
    = (show FVec Ideal S8192x1664 .bf16 from V m c main_v8) (ix2 (rowAt t a) k) := by
  blk_ext! [iblk, idx t]
theorem blk4 (c : Dev nD) (t : Fin cfg0.N) (a : Fin 512) (k : Fin 512) : iblk m c 4 t (ix2 a k)
    = (show FVec Ideal S8192x512 .bf16 from V m c main_v10) (ix2 (rowAt t a) k) := by
  blk_ext! [iblk, idx t]
theorem blk5 (c : Dev nD) (t : Fin cfg0.N) (a : Fin 512) (k : Fin 512) : iblk m c 5 t (ix2 a k)
    = (show FVec Ideal S8192x512 .bf16 from V m c main_v12) (ix2 (rowAt t a) k) := by
  blk_ext! [iblk, idx t]
theorem blk6 (c : Dev nD) (t : Fin cfg0.N) (a : Fin 512) (k : Fin 512) : iblk m c 6 t (ix2 a k)
    = (show FVec Ideal S8192x512 .bf16 from V m c main_v14) (ix2 (rowAt t a) k) := by
  blk_ext! [iblk, idx t]
theorem blk0 (c : Dev nD) (t : Fin cfg0.N) (a : Fin 512) (k : Fin 1024) : iblk m c 0 t (ix2 a k)
    = (show FVec Ideal S8192x1024 .f32 from m ((c : Thread nD τ).loc main_arg0)) (ix2 (rowAt t a) k) := by
  blk_ext! [iblk, V, idx t]
theorem blk1 (c : Dev nD) (t : Fin cfg0.N) (a : Fin 512) (k : Fin 1024) : iblk m c 1 t (ix2 a k)
    = (show FVec Ideal S8192x1024 .f32 from m ((c : Thread nD τ).loc main_arg3)) (ix2 (rowAt t a) k) := by
  blk_ext! [iblk, V, idx t]
theorem blk2 (c : Dev nD) (t : Fin cfg0.N) (k : Fin 1024) : iblk m c 2 t (ix2 0 k)
    = (show FVec Ideal S1x1024 .f32 from m ((c : Thread nD τ).loc main_arg1)) (ix2 0 k) := by
  blk_ext! [iblk, V, idx t]

/-- The block's gradient of the normed activations is the product's rows there: the padding's columns add nothing. -/
theorem dnx_at (c : Dev nD) (t : Fin cfg0.N) (a : Fin 512) (b : Fin 1024) : dnx m c t (ix2 a b)
    = dn (m ((c : Thread nD τ).loc main_arg4)) (m ((c : Thread nD τ).loc main_arg2)) (rowAt t a) b := by
  pointwise [dnx, k0_pay5]
  unfold dn
  rw [sum_columns]
  refine congrArg₂ (· + ·) (congrArg₂ (· + ·) (congrArg₂ (· + ·) ?_ ?_) ?_) ?_
  · refine (Fin.sum_univ_two_halves 1552 112 rfl _).trans ?_
    refine (congrArg₂ (· + ·) (Finset.sum_congr rfl fun k _ => ?_) (Finset.sum_eq_zero fun k _ => ?_)).trans (add_zero _)
    · refine congrArg₂ (· * ·) ((blk3 m c t a _).trans ((da_at m c _ _).trans ?_)) ((weight_at m c b _).trans ?_)
      · exact dif_pos k.isLt
      · exact dif_pos k.isLt
    · have h : ¬ 1552 + k.val < 1552 := by omega
      have e : iblk m c 3 t (ix2 a ⟨1552 + k.val, by omega⟩) = (0 : EReal) :=
        (blk3 m c t a _).trans ((da_at m c _ _).trans (dif_neg h))
      exact (congrArg (fun z : EReal => z * _) e).trans (zero_mul _)
  · exact Finset.sum_congr rfl fun k _ => congrArg₂ (· * ·) ((blk4 m c t a k).trans (dq_at m c _ k))
      (weight_past m c b _ ⟨1552 + k, by omega⟩ (by show 1664 + k.val = 1552 + k.val + 112; omega) (Nat.le_add_right _ _))
  · exact Finset.sum_congr rfl fun k _ => congrArg₂ (· * ·) ((blk5 m c t a k).trans (dk_at m c _ k))
      (weight_past m c b _ ⟨2064 + k, by omega⟩ (by show 2176 + k.val = 2064 + k.val + 112; omega) (by show 1552 ≤ 2064 + k.val; omega))
  · exact Finset.sum_congr rfl fun k _ => congrArg₂ (· * ·) ((blk6 m c t a k).trans (dv_at m c _ k))
      (weight_past m c b _ ⟨2576 + k, by omega⟩ (by show 2688 + k.val = 2576 + k.val + 112; omega) (by show 1552 ≤ 2576 + k.val; omega))

/-- The reciprocal root-mean-square of each row of the block. -/
theorem rstd_at (c : Dev nD) (t : Fin cfg0.N) (a : Fin 512) (u : Fin 1) : k0_pay6 (F := Ideal) (iblk m c 0 t) (ix2 a u)
    = rstd fun k => (show FVec Ideal S8192x1024 .f32 from m ((c : Thread nD τ).loc main_arg0)) (ix2 (rowAt t a) k) := by
  pointwise [k0_pay6]
  unfold rstd
  simp only [← blk0]

/-- The kernel's gradient of the activations, over the arguments. -/
def dxOf (x : FVec Ideal S8192x1024 .f32) (g : FVec Ideal S1x1024 .f32) (w : FVec Ideal S1024x3088 .f32)
    (dh : FVec Ideal S8192x1024 .f32) (dproj : FVec Ideal S8192x3088 .f32) : FVec Ideal S8192x1024 .f32 := fun i =>
  grad (fun k => x (ix2 (i 0) k)) (fun k => dn dproj w (i 0) k) (fun k => g (ix2 0 k)) (dh i) (i 1)

/-- The kernel's gradient of the scale, over the arguments. -/
def dgOf (x : FVec Ideal S8192x1024 .f32) (w : FVec Ideal S1024x3088 .f32) (dproj : FVec Ideal S8192x3088 .f32) :
    FVec Ideal S1x1024 .f32 := fun i =>
  ∑ r : Fin 8192, dn dproj w r (i 1) * (x (ix2 r (i 1)) * rstd fun k => x (ix2 r k))

/-- The activations' gradient after the run. -/
theorem final_dx (c : Dev nD) : (dats m 0 c).arrAt 7 (cfgs 0).N
    = dxOf (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7, dx_block]
  idx_vars y
  pointwise [k0_pay3, k0_pay1]
  simp only [dnx_at, rstd_at, blk0, blk1, blk2]
  have e : ((View.whole main_v15_0).slice (win0_7.rect t)).emb (ix2 y0 y1) = ix2 (rowAt t y0) y1 := by
    blk_ext [idx t]
  rw [e]
  rfl

/-- What a block adds to the scale's gradient. -/
def dgPart (c : Dev nD) (t : Fin cfg0.N) (j : S1x1024.Idx) : EReal :=
  ∑ a : Fin 512, dn (m ((c : Thread nD τ).loc main_arg4)) (m ((c : Thread nD τ).loc main_arg2)) (rowAt t a) (j 1)
    * ((show FVec Ideal S8192x1024 .f32 from m ((c : Thread nD τ).loc main_arg0)) (ix2 (rowAt t a) (j 1))
      * rstd fun k => (show FVec Ideal S8192x1024 .f32 from m ((c : Thread nD τ).loc main_arg0)) (ix2 (rowAt t a) k))

/-- The stored running sum is the sum before with the block's part added. -/
theorem pay2_at (c : Dev nD) (t : Fin cfg0.N) (acc : FVec Ideal S1x1024 .f32) (j : S1x1024.Idx) :
    k0_pay2 (F := Ideal) (dnx m c t) (iblk m c 0 t) (k0_pay6 (iblk m c 0 t)) acc j = acc j + dgPart m c t j := by
  idx_vars j
  pointwise [k0_pay2, k0_pay1]
  simp only [dnx_at, rstd_at, blk0]
  rfl

/-- The scale's gradient after the run. -/
theorem final_dg (c : Dev nD) : (dats m 0 c).arrAt 8 (cfgs 0).N
    = dgOf (m ((c : Thread nD τ).loc main_arg0)) (m ((c : Thread nD τ).loc main_arg2)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.1) 16 (fun _ => 0) (dgPart m c)
    (fun t h j => by rw [dg_first m c t h, pay2_at]; pointwise [k0_pay4]) (fun t h j => by rw [dg_next m c t h, pay2_at])
    t ((flush0_8 t).mp hf) _, zero_add]
  idx_vars y
  have e : (win0_8.blk t).view.emb (ix2 y0 y1) = ix2 0 y1 := by
    blk_ext [idx t]
  rw [e]
  unfold dgOf dgPart
  have ht : t.val / 16 = 0 := by have := (idx t).2.2.2.2.2.2.2.2.2; omega
  refine Fin.sum_mul_add_congr fun s k hl => ?_
  have er : ∀ h, rowAt ⟨16 * (t.val / 16) + s.val, h⟩ k = ⟨s.val * 512 + k.val, hl⟩ := fun h =>
    Fin.ext (by show (16 * (t.val / 16) + s.val) * 512 + k.val = s.val * 512 + k.val; rw [ht]; omega)
  rw [er]
  rfl

end Cert.Proof.Dx

end
-- ==== Proof.DxReference.lean ====
/- The reference's two results, and the kernel's closed forms equal to them where the arguments are real numbers. -/
module

public import proofs.«01_k».proof.Proof.Gen.ReferenceIdeal.Read
public import proofs.«01_k».proof.Proof.Gen.Pre_finite_args
public import proofs.«01_k».proof.Proof.DxValue

@[expose] public section

set_option maxRecDepth 16384

noncomputable section

namespace Cert.Proof.Dx

open Cert.ReferenceIdeal Cert.ReferenceIdeal.Gen Cert.ReferenceIdeal.Read Idealize.ShloMosaic Idealize.ShloMosaic.TcCoe
open Cert.Proof.RmsGrad Cert.Proof.Reals

/-- The reference's gradient of the activations: the residual's part and the chain rule's three terms. -/
theorem reference_dx (x : FVec Ideal S8192x1024 .f32) (g : FVec Ideal S1x1024 .f32) (w : FVec Ideal S1024x3088 .f32)
    (dh : FVec Ideal S8192x1024 .f32) (dproj : FVec Ideal S8192x3088 .f32) (i : Fin 8192) (j : Fin 1024) :
    val_main_v41 (F := Ideal) x g w dh dproj (ix2 i j)
      = dh (ix2 i j) + dn dproj w i j * g (ix2 0 j) * rstd (fun k => x (ix2 i k))
        + x (ix2 i j) * chain (fun k => x (ix2 i k)) (fun k => dn dproj w i k) (fun k => g (ix2 0 k))
        + chain (fun k => x (ix2 i k)) (fun k => dn dproj w i k) (fun k => g (ix2 0 k)) * x (ix2 i j) := by
  pointwise [val_main_v41, val_main_v40, val_main_v39, val_main_v38, val_main_v37, val_main_v36, val_main_v35, val_main_v34,
    val_main_v33, val_main_v32, val_main_v31, val_main_v30, val_main_v29, val_main_v28, val_main_v27, val_main_v25,
    val_main_v24, val_main_v20, val_main_v14, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_5, val_main_cst_6, val_main_cst_7]
  unfold chain rstd dn
  simp only [Fin.sum_univ_one]

/-- The reference's gradient of the scale is the kernel's. -/
theorem reference_dg (x : FVec Ideal S8192x1024 .f32) (w : FVec Ideal S1024x3088 .f32) (dproj : FVec Ideal S8192x3088 .f32)
    (j : Fin 1024) : val_main_v42 (F := Ideal) x w dproj (ix2 0 j) = dgOf x w dproj (ix2 0 j) := by
  pointwise [val_main_v42, val_main_v26, val_main_v23, val_main_v22, val_main_v21, val_main_v20, val_main_v13, val_main_v12,
    val_main_v8, val_main_v7, val_main_v6,
    val_main_v5, val_main_v4, val_main_v3, val_main_v2, val_main_v1, val_main_cst, val_main_cst_0, val_main_cst_1,
    val_main_cst_3, val_main_cst_4]
  unfold dgOf rstd dn
  simp only [Fin.sum_univ_one]
  exact Finset.sum_congr rfl fun k _ => mul_comm _ _

/-- The precondition: every entry of the four arguments that it names is a real number. -/
theorem finite_of_pre (x : FVec Ideal S8192x1024 .f32) (g : FVec Ideal S1x1024 .f32) (w : FVec Ideal S1024x3088 .f32)
    (dh : FVec Ideal S8192x1024 .f32) (dproj : FVec Ideal S8192x3088 .f32)
    (h : Cert.Pre_finite_args.fn (F := Ideal) x g w dh dproj = fun _ => 1#1) :
    (∀ i, ∃ r : ℝ, x i = r) ∧ (∀ i, ∃ r : ℝ, g i = r) ∧ (∀ i, ∃ r : ℝ, w i = r) ∧ (∀ i, ∃ r : ℝ, dproj i = r) := by
  have h0 := congrFun h ix0
  dsimp only [Cert.Pre_finite_args.fn, Cert.Pre_finite_args.fn_part1, andi] at h0
  obtain ⟨h1, hp⟩ := IntOp.andi_eq_one.mp h0
  obtain ⟨h2, hw⟩ := IntOp.andi_eq_one.mp h1
  obtain ⟨hx, hg⟩ := IntOp.andi_eq_one.mp h2
  exact ⟨real_of_all x hx, real_of_all g hg, real_of_all w hw, real_of_all dproj hp⟩

/-- The kernel's gradient of the activations is the reference's, for arguments that are real numbers. -/
theorem dxOf_eq (x : FVec Ideal S8192x1024 .f32) (g : FVec Ideal S1x1024 .f32) (w : FVec Ideal S1024x3088 .f32)
    (dh : FVec Ideal S8192x1024 .f32) (dproj : FVec Ideal S8192x3088 .f32)
    (h : Cert.Pre_finite_args.fn (F := Ideal) x g w dh dproj = fun _ => 1#1) :
    dxOf x g w dh dproj = val_main_v41 (F := Ideal) x g w dh dproj := by
  obtain ⟨hx, hg, hw, hp⟩ := finite_of_pre x g w dh dproj h
  choose xr hx using hx
  choose gr hg using hg
  choose wr hw using hw
  choose pr hp using hp
  have hd : ∀ i j, dn dproj w i j = ((∑ k : Fin 3088, pr (ix2 i k) * wr (ix2 j k) : ℝ) : EReal) := fun i j => by
    unfold dn
    simp only [hp, hw, ← EReal.coe_mul, sum_coe]
  funext j
  idx_vars j
  rw [reference_dx]
  have ex : (fun k => x (ix2 j0 k)) = fun k => ((xr (ix2 j0 k) : ℝ) : EReal) := funext fun k => hx _
  have eg : (fun k => g (ix2 0 k)) = fun k => ((gr (ix2 0 k) : ℝ) : EReal) := funext fun k => hg _
  have ed : (fun k => dn dproj w j0 k) = fun k => ((∑ l : Fin 3088, pr (ix2 j0 l) * wr (ix2 k l) : ℝ) : EReal) :=
    funext fun k => hd _ _
  show grad (fun k => x (ix2 j0 k)) (fun k => dn dproj w j0 k) (fun k => g (ix2 0 k)) (dh (ix2 j0 j1)) j1 = _
  rw [ex, eg, ed, hx, hg, hd]
  exact grad_eq_chain (fun k => xr (ix2 j0 k)) (fun k => ∑ l : Fin 3088, pr (ix2 j0 l) * wr (ix2 k l)) (fun k => gr (ix2 0 k)) _ j1

end Cert.Proof.Dx

end
-- ==== Proof.DxClaim.lean ====
/- The final gradient of the activations and of the first norm's scale: the kernel's results are the reference's. -/
module

public import proofs.«01_k».proof.Defs
public import proofs.«01_k».proof.Proof.Gen.KernelIdeal.Value
public import proofs.«01_k».proof.Proof.Gen.ReferenceIdeal.Run
public import proofs.«01_k».proof.Proof.DxReference

@[expose] public section

noncomputable section

namespace Cert.Proof.Dx

open Idealize.ShloMosaic Idealize.SL.Sem

theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  pair_intro
  · run_from Cert.KernelIdeal.Value.run_blocks m g
  · refine (θ_run _ _ _).mono (fun r h c => ?_) (Cert.ReferenceIdeal.Value.run m' g')
    obtain ⟨hdx, hdg, hargs⟩ := h c
    obtain ⟨e0, e1, e2, e3, e4⟩ := hagree c
    refine ⟨hdx.trans ?_, hdg.trans ((Cert.ReferenceIdeal.Read.val_main_v42_eq _ _ _).trans ?_), hargs⟩
    · rw [Cert.ReferenceIdeal.Read.val_main_v41_eq m' c, e0, e1, e2, e3, e4]
      exact (dxOf_eq _ _ _ _ _ (hpre c)).symm.trans (final_dx m c).symm
    · rw [e0, e2, e4]
      refine Eq.trans (funext fun j => ?_) (final_dg m c).symm
      obtain ⟨a, b, rfl⟩ : ∃ (a : Fin 1) (b : Fin 1024), j = ix2 a b := ⟨j 0, j 1, eq_ix2 j⟩
      rw [Subsingleton.elim a 0]
      exact reference_dg _ _ _ b

end Cert.Proof.Dx

end
-- ==== Proof.PostPre.lean ====
module

public import proofs.«01_k».proof.Pre_finite_all

/-! The shape facts the second condition asks for. -/

@[expose] public section

namespace Cert.Proof.Post

/-- Every shape fact of the condition is decided. -/
instance preFacts : Cert.Pre_finite_all.Facts where
  bcast_S_S8192x1024 := by decide
  reducesTo_S8192x1024_S_d0_1 := by decide
  h_S_ := by decide
  bcast_S_S8192x512 := by decide
  reducesTo_S8192x512_S_d0_1 := by decide
  bcast_S_S1x1024 := by decide
  reducesTo_S1x1024_S_d0_1 := by decide
  bcast_S_S1024 := by decide
  reducesTo_S1024_S_d0 := by decide
  bcast_S_S1024x1024 := by decide
  reducesTo_S1024x1024_S_d0_1 := by decide
  bcast_S_S1024x4096 := by decide
  reducesTo_S1024x4096_S_d0_1 := by decide
  bcast_S_S4096x1024 := by decide
  reducesTo_S4096x1024_S_d0_1 := by decide

end Cert.Proof.Post
end
-- ==== Proof.PostRun.lean ====
/- What one grid point of the fused kernel leaves: its blocks of the ten results, and the three weights in the scratches. -/
module

public import proofs.«01_k».proof.Proof.Gen.Kernel2Ideal.Frame
public import proofs.«01_k».proof.Proof.DxRun

@[expose] public section

set_option maxRecDepth 16384
set_option maxHeartbeats 2000000

noncomputable section

namespace Cert.Proof.Post

open Cert.Kernel2Ideal Cert.Kernel2Ideal.Gen Idealize.ShloMosaic Idealize.ShloMosaic.TcCoe Idealize.SL.Sem
open Cert.Proof.Dx (canon_whole)

variable (m : (ℓ : Loc nD τ sig) → Buf (Elt Ideal) ℓ)

/-- The scratches hold the three weights after every point: the first point copies them, the others keep them. -/
theorem weights (c : Dev nD) : ∀ (n : ℕ) (h : n < cfg0.N), (outsAt0 m c n h).2.2.2.2.2.2.2.2.2.2.1 = V m c main_v5
    ∧ (outsAt0 m c n h).2.2.2.2.2.2.2.2.2.2.2.1 = V m c main_v2 ∧ (outsAt0 m c n h).2.2.2.2.2.2.2.2.2.2.2.2 = V m c main_v6 := by
  intro n
  induction n with
  | zero =>
    intro h
    rw [outsAt0_A m c ⟨0, h⟩ rfl]
    refine ⟨?_, ?_, ?_⟩ <;> (frame_out; exact canon_whole _)
  | succ n ih =>
    intro h
    have hn : n + 1 < 32 := lt_of_lt_of_eq h N_0
    have e := outsAt0_B m c ⟨n + 1, h⟩ (show ¬ (n + 1) % 32 = 0 by omega)
    have e0 := congrArg (fun p => p.2.2.2.2.2.2.2.2.2.2.1) e
    have e1 := congrArg (fun p => p.2.2.2.2.2.2.2.2.2.2.2.1) e
    have e2 := congrArg (fun p => p.2.2.2.2.2.2.2.2.2.2.2.2) e
    clear e
    simp only [sout0_B_0, sout0_B_1, sout0_B_2, Nat.add_sub_cancel] at e0 e1 e2
    exact ⟨e0.trans (ih _).1, e1.trans (ih _).2.1, e2.trans (ih _).2.2⟩

/-- The whole of the output projection's weight, loaded from its copy. -/
theorem loaded_of (X : Vec Ideal S1024x1024 .bf16) : (View.whole cc0_scratch0).readCov [⟨Rect.whole S1024x1024, X⟩]
    (Rect.unit ![0, 0] ![1024, 1024] inb_S1024x1024_S1024x1024_0_0).toLoadRect = X := by
  rw [View.readCov_eq_canon_ld _ _ _ (fun y => ⟨_, List.mem_singleton_self _, by
    show y ∈ (Rect.whole S1024x1024).set; rw [Rect.set_whole]; exact Finset.mem_univ y⟩)]
  refine (congrArg (fun Y => View.ld Y _) (canon_whole X)).trans ?_
  exact View.ld_unit_zero (S := S1024x1024) (show (![0, 0] : Fin 2 → ℕ) = fun _ => 0 by decide)
    inb_S1024x1024_S1024x1024_0_0 X

theorem loaded (c : Dev nD) : (View.whole cc0_scratch0).readCov
    [⟨Rect.whole S1024x1024, ReadAs.same.apply (View.read (Elt Ideal) (View.whole main_v5) (V m c main_v5))⟩]
    (Rect.unit ![0, 0] ![1024, 1024] inb_S1024x1024_S1024x1024_0_0).toLoadRect = V m c main_v5 :=
  loaded_of _

/-- The four blocks of the first feed-forward weight. -/
def w1 (c : Dev nD) : Fin 4 → Vec Ideal S1x1024x1024 .bf16
  | 0 => View.ld (V m c main_v2) (Rect.unit ![0, 0, 0] ![1, 1024, 1024] inb_S4x1024x1024_S1x1024x1024_0_0_0)
  | 1 => View.ld (V m c main_v2) (Rect.unit ![1, 0, 0] ![1, 1024, 1024] inb_S4x1024x1024_S1x1024x1024_1_0_0)
  | 2 => View.ld (V m c main_v2) (Rect.unit ![2, 0, 0] ![1, 1024, 1024] inb_S4x1024x1024_S1x1024x1024_2_0_0)
  | 3 => View.ld (V m c main_v2) (Rect.unit ![3, 0, 0] ![1, 1024, 1024] inb_S4x1024x1024_S1x1024x1024_3_0_0)

/-- The four blocks of the second feed-forward weight. -/
def w2 (c : Dev nD) : Fin 4 → Vec Ideal S1024x1024 .bf16
  | 0 => View.ld (V m c main_v6) (Rect.unit ![0, 0] ![1024, 1024] inb_S4096x1024_S1024x1024_0_0)
  | 1 => View.ld (V m c main_v6) (Rect.unit ![1024, 0] ![1024, 1024] inb_S4096x1024_S1024x1024_1024_0)
  | 2 => View.ld (V m c main_v6) (Rect.unit ![2048, 0] ![1024, 1024] inb_S4096x1024_S1024x1024_2048_0)
  | 3 => View.ld (V m c main_v6) (Rect.unit ![3072, 0] ![1024, 1024] inb_S4096x1024_S1024x1024_3072_0)

/-- A block's rows after the attention's output projection. -/
def h1 (c : Dev nD) (t : Fin cfg0.N) : FVec Ideal S256x1024 .f32 :=
  k0_pay5 (iblk m c 1 t) (iblk m c 2 t) (iblk m c 0 t) (V m c main_v5)
/-- Their reciprocal root-mean-squares. -/
def rs1 (c : Dev nD) (t : Fin cfg0.N) : FVec Ideal S256x1 .f32 :=
  k0_pay6 (iblk m c 1 t) (iblk m c 2 t) (iblk m c 0 t) (V m c main_v5)
/-- Their norm without the scale. -/
def hn1 (c : Dev nD) (t : Fin cfg0.N) : FVec Ideal S256x1024 .f32 :=
  k0_pay7 (iblk m c 1 t) (iblk m c 2 t) (iblk m c 0 t) (V m c main_v5)
/-- Their scaled norm. -/
def nm (c : Dev nD) (t : Fin cfg0.N) : FVec Ideal S256x1024 .bf16 :=
  k0_pay8 (iblk m c 1 t) (iblk m c 2 t) (iblk m c 0 t) (V m c main_v5) (iblk m c 4 t)
/-- The rectified hidden units of each block of columns. -/
def r (c : Dev nD) (t : Fin cfg0.N) : Fin 4 → FVec Ideal S256x1024 .f32
  | 0 => k0_pay11 (nm m c t) (k0_pay10 (w1 m c 0)) (constant S256x1024 .f32 0x00000000#32)
  | 1 => k0_pay13 (nm m c t) (w1 m c 1)
  | 2 => k0_pay15 (nm m c t) (w1 m c 2)
  | 3 => k0_pay18 (nm m c t) (w1 m c 3)
/-- Their squares. -/
def act (c : Dev nD) (t : Fin cfg0.N) : Fin 4 → FVec Ideal S256x1024 .bf16
  | 0 => k0_pay12 (nm m c t) (k0_pay10 (w1 m c 0)) (constant S256x1024 .f32 0x00000000#32)
  | 1 => k0_pay14 (nm m c t) (w1 m c 1)
  | 2 => k0_pay16 (nm m c t) (w1 m c 2)
  | 3 => k0_pay19 (nm m c t) (w1 m c 3)
/-- The feed-forward layer's sum over the first three blocks. -/
def three (c : Dev nD) (t : Fin cfg0.N) : FVec Ideal S256x1024 .f32 :=
  k0_pay17 (nm m c t) (k0_pay9 (F := Ideal)) (k0_pay10 (w1 m c 0)) (constant S256x1024 .f32 0x00000000#32) (w2 m c 0)
    (w1 m c 1) (w2 m c 1) (w1 m c 2) (w2 m c 2)
/-- The rows after the feed-forward layer. -/
def h2 (c : Dev nD) (t : Fin cfg0.N) : FVec Ideal S256x1024 .f32 :=
  k0_pay20 (h1 m c t) (nm m c t) (three m c t) (w1 m c 3) (w2 m c 3)
/-- Their reciprocal root-mean-squares. -/
def rsf (c : Dev nD) (t : Fin cfg0.N) : FVec Ideal S256x1 .f32 :=
  k0_pay21 (h1 m c t) (nm m c t) (three m c t) (w1 m c 3) (w2 m c 3)
/-- Their norm without the scale. -/
def hnf (c : Dev nD) (t : Fin cfg0.N) : FVec Ideal S256x1024 .f32 :=
  k0_pay22 (h1 m c t) (nm m c t) (three m c t) (w1 m c 3) (w2 m c 3)
/-- The scaled norm less the target. -/
def diff (c : Dev nD) (t : Fin cfg0.N) : FVec Ideal S256x1024 .f32 :=
  k0_pay24 (h1 m c t) (nm m c t) (three m c t) (w1 m c 3) (w2 m c 3) (iblk m c 5 t) (iblk m c 3 t)
/-- The gradient of the last rows. -/
def dh2 (c : Dev nD) (t : Fin cfg0.N) : FVec Ideal S256x1024 .f32 :=
  k0_pay30 (rsf m c t) (hnf m c t) (k0_pay23 (iblk m c 5 t)) (diff m c t)
/-- The same in the products' type. -/
def dh2' (c : Dev nD) (t : Fin cfg0.N) : FVec Ideal S256x1024 .bf16 :=
  k0_pay31 (rsf m c t) (hnf m c t) (k0_pay23 (iblk m c 5 t)) (diff m c t)
/-- The last block's gradient of the hidden units. -/
def last (c : Dev nD) (t : Fin cfg0.N) : FVec Ideal S256x1024 .f32 := k0_pay37 (r m c t 3) (dh2' m c t) (w2 m c 3)
/-- The gradients of the hidden units. -/
def dpre (c : Dev nD) (t : Fin cfg0.N) : Fin 4 → FVec Ideal S256x1024 .bf16
  | 0 => k0_pay33 (r m c t 0) (rsf m c t) (hnf m c t) (k0_pay23 (iblk m c 5 t)) (diff m c t) (w2 m c 0)
  | 1 => k0_pay34 (r m c t 1) (dh2' m c t) (w2 m c 1)
  | 2 => k0_pay35 (r m c t 2) (dh2' m c t) (w2 m c 2)
  | 3 => k0_pay38 (last m c t)
/-- The scaled norm's gradient over the first three blocks. -/
def back (c : Dev nD) (t : Fin cfg0.N) : FVec Ideal S256x1024 .f32 :=
  k0_pay36 (r m c t 1) (r m c t 2) (dh2' m c t) (k0_pay32 (F := Ideal)) (dpre m c t 0) (w1 m c 0) (w2 m c 1) (w1 m c 1)
    (w2 m c 2) (w1 m c 2)

/-- An array of 256 rows put together from four blocks of columns, in the order the kernel stores them. -/
def joined (p : Fin 4 → FVec Ideal S256x1024 .bf16) : Vec Ideal S256x4096 .bf16 :=
  View.canon [⟨Rect.unit ![0, 3072] ![256, 1024] inb_S256x4096_S256x1024_0_3072, p 3⟩,
    ⟨Rect.unit ![0, 2048] ![256, 1024] inb_S256x4096_S256x1024_0_2048, p 2⟩,
    ⟨Rect.unit ![0, 1024] ![256, 1024] inb_S256x4096_S256x1024_0_1024, p 1⟩,
    ⟨Rect.unit ![0, 0] ![256, 1024] inb_S256x4096_S256x1024_0_0, p 0⟩]

attribute [local irreducible] View.canon k0_pay1 k0_pay2 k0_pay3 k0_pay4 k0_pay5 k0_pay6 k0_pay7 k0_pay8 k0_pay9 k0_pay10
  k0_pay11 k0_pay12 k0_pay13 k0_pay14 k0_pay15 k0_pay16 k0_pay17 k0_pay18 k0_pay19 k0_pay20 k0_pay21 k0_pay22
  k0_pay23 k0_pay24 k0_pay25 k0_pay26 k0_pay27 k0_pay28 k0_pay29 k0_pay30 k0_pay31 k0_pay32 k0_pay33 k0_pay34
  k0_pay35 k0_pay36 k0_pay37 k0_pay38 k0_pay39 k0_pay40 k0_pay41 k0_pay42

/-- The seven blocks of rows that a point writes. -/
theorem blocks (c : Dev nD) (t : Fin cfg0.N) :
    (outsAt0 m c t.val t.isLt).1 = k0_pay4 (iblk m c 1 t) (iblk m c 2 t)
    ∧ (outsAt0 m c t.val t.isLt).2.1 = nm m c t
    ∧ (outsAt0 m c t.val t.isLt).2.2.1 = joined (act m c t)
    ∧ (outsAt0 m c t.val t.isLt).2.2.2.1 = joined (dpre m c t)
    ∧ (outsAt0 m c t.val t.isLt).2.2.2.2.1 = dh2' m c t
    ∧ (outsAt0 m c t.val t.isLt).2.2.2.2.2.1
      = k0_pay41 (rs1 m c t) (hn1 m c t) (iblk m c 4 t) (dh2 m c t) (back m c t) (last m c t) (w1 m c 3)
    ∧ (outsAt0 m c t.val t.isLt).2.2.2.2.2.2.1
      = k0_pay42 (rs1 m c t) (hn1 m c t) (iblk m c 4 t) (dh2 m c t) (back m c t) (last m c t) (w1 m c 3) (V m c main_v5) := by
  by_cases h : t.val % 32 = 0
  · rw [outsAt0_A m c t h]
    refine ⟨?_, ?_, ?_, ?_, ?_, ?_, ?_⟩ <;>
      (frame_out; (try simp only [loaded m c]); (try simp only [View.readCov_eq_canon', canon_whole]); try rfl)
  · rw [outsAt0_B m c t h]
    have hw := weights m c (t.val - 1) (Nat.lt_of_le_of_lt (Nat.sub_le _ _) t.isLt)
    refine ⟨?_, ?_, ?_, ?_, ?_, ?_, ?_⟩ <;>
      (frame_out; (try simp only [read_unread_whole, hw.1, hw.2.1, hw.2.2]); try rfl)

/-- What a point adds to the loss. -/
def lossPart (c : Dev nD) (t : Fin cfg0.N) : FVec Ideal S1x1 .f32 :=
  k0_pay26 (h1 m c t) (nm m c t) (three m c t) (w1 m c 3) (w2 m c 3) (iblk m c 5 t) (iblk m c 3 t)

/-- The three running sums after the first point. -/
theorem sums_first (c : Dev nD) (t : Fin cfg0.N) (h : t.val % 32 = 0) :
    (outsAt0 m c t.val t.isLt).2.2.2.2.2.2.2.1 = k0_pay27 (k0_pay25 (k0_pay1 (F := Ideal))) (lossPart m c t)
    ∧ (outsAt0 m c t.val t.isLt).2.2.2.2.2.2.2.2.1 = k0_pay29 (hnf m c t) (diff m c t) (k0_pay2 (F := Ideal))
    ∧ (outsAt0 m c t.val t.isLt).2.2.2.2.2.2.2.2.2.1
      = k0_pay40 (hn1 m c t) (back m c t) (last m c t) (w1 m c 3) (k0_pay3 (F := Ideal)) := by
  rw [outsAt0_A m c t h]
  refine ⟨?_, ?_, ?_⟩ <;>
    (frame_out; (try simp only [loaded m c]); (try simp only [View.readCov_eq_canon', canon_whole]); try rfl)

/-- The three running sums after a later point: the point before's, with the block's parts added. -/
theorem sums_next (c : Dev nD) (t : Fin cfg0.N) (h : ¬ t.val % 32 = 0)
    (h' : t.val - 1 < cfg0.N := Nat.lt_of_le_of_lt (Nat.sub_le _ _) t.isLt) :
    (outsAt0 m c t.val t.isLt).2.2.2.2.2.2.2.1
      = k0_pay27 (k0_pay25 (outsAt0 m c (t.val - 1) h').2.2.2.2.2.2.2.1) (lossPart m c t)
    ∧ (outsAt0 m c t.val t.isLt).2.2.2.2.2.2.2.2.1
      = k0_pay29 (hnf m c t) (diff m c t) (outsAt0 m c (t.val - 1) h').2.2.2.2.2.2.2.2.1
    ∧ (outsAt0 m c t.val t.isLt).2.2.2.2.2.2.2.2.2.1
      = k0_pay40 (hn1 m c t) (back m c t) (last m c t) (w1 m c 3) (outsAt0 m c (t.val - 1) h').2.2.2.2.2.2.2.2.2.1 := by
  rw [outsAt0_B m c t h]
  have hw := weights m c (t.val - 1) (Nat.lt_of_le_of_lt (Nat.sub_le _ _) t.isLt)
  refine ⟨?_, ?_, ?_⟩ <;>
    (frame_out; (try simp only [read_unread_whole, hw.1, hw.2.1, hw.2.2]); try rfl)

end Cert.Proof.Post

end
-- ==== Proof.PostRows.lean ====
/- The fused kernel's intermediate rows as formulas over its arguments, and each grid point's blocks as their rows. -/
module

public import proofs.«01_k».proof.Proof.PostRun
public import proofs.«01_k».proof.Proof.RmsGrad

@[expose] public section

set_option maxRecDepth 16384

noncomputable section

namespace Cert.Proof.Post

open Cert.Kernel2Ideal Cert.Kernel2Ideal.Gen Idealize.ShloMosaic Idealize.ShloMosaic.TcCoe Idealize.SL.Sem
open Cert.Proof.RmsGrad

/-- The nine arguments. -/
structure Args where
  x : FVec Ideal S8192x1024 .f32
  oa : FVec Ideal S8192x512 .f32
  ob : FVec Ideal S8192x512 .f32
  tgt : FVec Ideal S8192x1024 .f32
  g2 : FVec Ideal S1x1024 .f32
  gf : FVec Ideal S1024 .f32
  wo : FVec Ideal S1024x1024 .f32
  wf1 : FVec Ideal S1024x4096 .f32
  wf2 : FVec Ideal S4096x1024 .f32

namespace Args

variable (A : Args)

/-- The two attention outputs side by side. -/
def mix (i : Fin 8192) (k : Fin 1024) : EReal :=
  if h : k.val < 512 then A.oa (ix2 i ⟨k.val, h⟩) else A.ob (ix2 i ⟨k.val - 512, by omega⟩)
/-- The rows after the output projection. -/
def h1 (i : Fin 8192) (j : Fin 1024) : EReal := A.x (ix2 i j) + ∑ k : Fin 1024, A.mix i k * A.wo (ix2 k j)
/-- Their norm without the scale. -/
def n1 (i : Fin 8192) (j : Fin 1024) : EReal := A.h1 i j * rstd (A.h1 i)
/-- Their scaled norm. -/
def nm (i : Fin 8192) (j : Fin 1024) : EReal := A.n1 i j * A.g2 (ix2 0 j)
/-- The hidden units before the rectifier. -/
def pre (i : Fin 8192) (f : Fin 4096) : EReal := ∑ k : Fin 1024, A.nm i k * A.wf1 (ix2 k f)
/-- The rectified hidden units. -/
def rel (i : Fin 8192) (f : Fin 4096) : EReal := max (A.pre i f) 0
/-- Their squares. -/
def act (i : Fin 8192) (f : Fin 4096) : EReal := A.rel i f * A.rel i f
/-- The rows after the feed-forward layer. -/
def h2 (i : Fin 8192) (j : Fin 1024) : EReal := A.h1 i j + ∑ f : Fin 4096, A.act i f * A.wf2 (ix2 f j)
/-- Their norm without the scale. -/
def nf (i : Fin 8192) (j : Fin 1024) : EReal := A.h2 i j * rstd (A.h2 i)
/-- The scaled norm less the target. -/
def diff (i : Fin 8192) (j : Fin 1024) : EReal := A.nf i j * A.gf (ix1 j) - A.tgt (ix2 i j)
/-- A row's part of the loss, before the factor one half. -/
def rowLoss (i : Fin 8192) : EReal := (∑ j : Fin 1024, A.diff i j * A.diff i j) * Ideal.ofBits .f32 0x3A800000#32
/-- The gradient of the scaled norm. -/
def dy (i : Fin 8192) (j : Fin 1024) : EReal := A.diff i j * Ideal.ofBits .f32 0x3A800000#32
/-- The gradient of the last rows. -/
def dh2 (i : Fin 8192) (j : Fin 1024) : EReal := grad (A.h2 i) (A.dy i) (fun k => A.gf (ix1 k)) 0 j
/-- The gradient of the hidden units. -/
def dpre (i : Fin 8192) (f : Fin 4096) : EReal :=
  (∑ j : Fin 1024, A.dh2 i j * A.wf2 (ix2 f j)) * (Ideal.ofBits .f32 0x40000000#32 * A.rel i f)
/-- The gradient of the scaled norm in front of the feed-forward layer. -/
def dnm (i : Fin 8192) (j : Fin 1024) : EReal := ∑ f : Fin 4096, A.dpre i f * A.wf1 (ix2 j f)
/-- The gradient of the rows after the output projection. -/
def dh1 (i : Fin 8192) (j : Fin 1024) : EReal := grad (A.h1 i) (A.dnm i) (fun k => A.g2 (ix2 0 k)) (A.dh2 i j) j
/-- The gradient of the two attention outputs. -/
def dmixed (i : Fin 8192) (k : Fin 1024) : EReal := ∑ j : Fin 1024, A.dh1 i j * A.wo (ix2 k j)

end Args

variable (m : (ℓ : Loc nD τ sig) → Buf (Elt Ideal) ℓ)

/-- The arguments as the memory holds them. -/
def argsOf (c : Dev nD) : Args where
  x := m ((c : Thread nD τ).loc main_arg0)
  oa := m ((c : Thread nD τ).loc main_arg1)
  ob := m ((c : Thread nD τ).loc main_arg2)
  tgt := m ((c : Thread nD τ).loc main_arg3)
  g2 := m ((c : Thread nD τ).loc main_arg4)
  gf := m ((c : Thread nD τ).loc main_arg5)
  wo := m ((c : Thread nD τ).loc main_arg6)
  wf1 := m ((c : Thread nD τ).loc main_arg7)
  wf2 := m ((c : Thread nD τ).loc main_arg8)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![0, 0] ∧ win0_14.index t = ![0, 0] ∧ win0_15.index t = ![0, 0]
    ∧ t.val < 32 :=
  (by decide +kernel : ∀ t : Fin grid0.N, _)

theorem point_lt (t : Fin cfg0.N) : t.val < 32 := lt_of_lt_of_eq t.isLt N_0

/-- The array row that a block's row is. -/
abbrev rowAt (t : Fin cfg0.N) (a : Fin 256) : Fin 8192 := ⟨t.val * 256 + a.val, by have := point_lt t; omega⟩

theorem wo_at (c : Dev nD) (k j : Fin 1024) : (show FVec Ideal S1024x1024 .bf16 from V m c main_v5) (ix2 k j)
    = (argsOf m c).wo (ix2 k j) := by
  entry_read
  pointwise
  rfl
theorem wf1_at (c : Dev nD) (b : Fin 4) (k f : Fin 1024) : (show FVec Ideal S4x1024x1024 .bf16 from V m c main_v2) (ix3 b k f)
    = (argsOf m c).wf1 (ix2 k ⟨b.val * 1024 + f.val, by omega⟩) := by
  entry_read
  pointwise
  rfl
theorem wf2_at (c : Dev nD) (f : Fin 4096) (j : Fin 1024) : (show FVec Ideal S4096x1024 .bf16 from V m c main_v6) (ix2 f j)
    = (argsOf m c).wf2 (ix2 f j) := by
  entry_read
  pointwise
  rfl
theorem oa_at (c : Dev nD) (i : Fin 8192) (k : Fin 512) : (show FVec Ideal S8192x512 .bf16 from V m c main_v3) (ix2 i k)
    = (argsOf m c).oa (ix2 i k) := by
  entry_read
  pointwise
  rfl
theorem gf_at (c : Dev nD) (k : Fin 1024) : (show FVec Ideal S1x1024 .f32 from V m c main_v4) (ix2 0 k)
    = (argsOf m c).gf (ix1 k) := by
  entry_read
  pointwise
  rfl

theorem blk0 (c : Dev nD) (t : Fin cfg0.N) (a : Fin 256) (k : Fin 1024) :
    iblk m c 0 t (ix2 a k) = (argsOf m c).x (ix2 (rowAt t a) k) := by
  blk_ext! [iblk, V, argsOf, idx t]
theorem blk1 (c : Dev nD) (t : Fin cfg0.N) (a : Fin 256) (k : Fin 512) :
    iblk m c 1 t (ix2 a k) = (argsOf m c).oa (ix2 (rowAt t a) k) := by
  rw [← oa_at]
  blk_ext! [iblk, idx t]
theorem blk2 (c : Dev nD) (t : Fin cfg0.N) (a : Fin 256) (k : Fin 512) :
    iblk m c 2 t (ix2 a k) = (argsOf m c).ob (ix2 (rowAt t a) k) := by
  blk_ext! [iblk, V, argsOf, idx t]
theorem blk3 (c : Dev nD) (t : Fin cfg0.N) (a : Fin 256) (k : Fin 1024) :
    iblk m c 3 t (ix2 a k) = (argsOf m c).tgt (ix2 (rowAt t a) k) := by
  blk_ext! [iblk, V, argsOf, idx t]
theorem blk4 (c : Dev nD) (t : Fin cfg0.N) (k : Fin 1024) :
    iblk m c 4 t (ix2 0 k) = (argsOf m c).g2 (ix2 0 k) := by
  blk_ext! [iblk, V, argsOf, idx t]
theorem blk5 (c : Dev nD) (t : Fin cfg0.N) (k : Fin 1024) :
    iblk m c 5 t (ix2 0 k) = (argsOf m c).gf (ix1 k) := by
  rw [← gf_at]
  blk_ext! [iblk, idx t]

theorem w1_at (c : Dev nD) (b : Fin 4) (k f : Fin 1024) :
    w1 m c b (ix3 0 k f) = (argsOf m c).wf1 (ix2 k ⟨b.val * 1024 + f.val, by omega⟩) := by
  rw [← wf1_at]
  fin_cases b <;> pointwise [w1]
theorem w2_at (c : Dev nD) (b : Fin 4) (f j : Fin 1024) :
    w2 m c b (ix2 f j) = (argsOf m c).wf2 (ix2 ⟨b.val * 1024 + f.val, by omega⟩ j) := by
  rw [← wf2_at]
  fin_cases b <;> pointwise [w2]

theorem mix_at (c : Dev nD) (t : Fin cfg0.N) (a : Fin 256) (k : Fin 1024) :
    k0_pay4 (F := Ideal) (iblk m c 1 t) (iblk m c 2 t) (ix2 a k) = (argsOf m c).mix (rowAt t a) k := by
  pointwise [k0_pay4]
  unfold Args.mix
  simp only [← blk1, ← blk2]

theorem h1_at (c : Dev nD) (t : Fin cfg0.N) (a : Fin 256) (j : Fin 1024) :
    h1 m c t (ix2 a j) = (argsOf m c).h1 (rowAt t a) j := by
  pointwise [h1, k0_pay5]
  simp only [blk0, mix_at, wo_at]
  rfl

theorem rs1_at (c : Dev nD) (t : Fin cfg0.N) (a : Fin 256) (u : Fin 1) :
    rs1 m c t (ix2 a u) = rstd ((argsOf m c).h1 (rowAt t a)) := by
  unfold rstd
  simp only [← h1_at]
  pointwise [rs1, k0_pay6]
  rfl

theorem hn1_at (c : Dev nD) (t : Fin cfg0.N) (a : Fin 256) (j : Fin 1024) :
    hn1 m c t (ix2 a j) = (argsOf m c).n1 (rowAt t a) j := by
  unfold Args.n1
  rw [← h1_at, ← rs1_at m c t a 0]
  pointwise [hn1, k0_pay7]
  rfl

theorem nm_at (c : Dev nD) (t : Fin cfg0.N) (a : Fin 256) (j : Fin 1024) :
    nm m c t (ix2 a j) = (argsOf m c).nm (rowAt t a) j := by
  unfold Args.nm
  rw [← hn1_at, ← blk4 m c t]
  pointwise [nm, k0_pay8]
  rfl

theorem r_at (c : Dev nD) (t : Fin cfg0.N) (b : Fin 4) (a : Fin 256) (f : Fin 1024) :
    r m c t b (ix2 a f) = (argsOf m c).rel (rowAt t a) ⟨b.val * 1024 + f.val, by omega⟩ := by
  unfold Args.rel Args.pre
  simp only [← w1_at, ← nm_at]
  fin_cases b <;> pointwise [r, k0_pay10, k0_pay11, k0_pay13, k0_pay15, k0_pay18] <;> rfl

theorem act_at (c : Dev nD) (t : Fin cfg0.N) (b : Fin 4) (a : Fin 256) (f : Fin 1024) :
    act m c t b (ix2 a f) = (argsOf m c).act (rowAt t a) ⟨b.val * 1024 + f.val, by omega⟩ := by
  unfold Args.act
  rw [← r_at]
  fin_cases b <;> pointwise [act, k0_pay12, k0_pay14, k0_pay16, k0_pay19] <;> rfl

/-- A sum over the hidden units, block by block. -/
theorem sum_four (g : Fin 4096 → EReal) : ∑ f, g f
    = (∑ k : Fin 1024, g ⟨(0 : Fin 4).val * 1024 + k, by omega⟩) + (∑ k : Fin 1024, g ⟨(1 : Fin 4).val * 1024 + k, by omega⟩)
      + (∑ k : Fin 1024, g ⟨(2 : Fin 4).val * 1024 + k, by omega⟩) + ∑ k : Fin 1024, g ⟨(3 : Fin 4).val * 1024 + k, by omega⟩ := by
  rw [Fin.sum_univ_two_halves 3072 1024 rfl g, Fin.sum_univ_two_halves 2048 1024 rfl, Fin.sum_univ_two_halves 1024 1024 rfl]
  rfl

theorem h2_at (c : Dev nD) (t : Fin cfg0.N) (a : Fin 256) (j : Fin 1024) :
    h2 m c t (ix2 a j) = (argsOf m c).h2 (rowAt t a) j := by
  unfold Args.h2
  rw [sum_four, ← h1_at]
  simp only [← act_at, ← w2_at]
  pointwise [h2, three, k0_pay9, k0_pay17, k0_pay20]
  rfl

theorem rsf_at (c : Dev nD) (t : Fin cfg0.N) (a : Fin 256) (u : Fin 1) :
    rsf m c t (ix2 a u) = rstd ((argsOf m c).h2 (rowAt t a)) := by
  unfold rstd
  simp only [← h2_at]
  pointwise [rsf, k0_pay21]
  rfl

theorem hnf_at (c : Dev nD) (t : Fin cfg0.N) (a : Fin 256) (j : Fin 1024) :
    hnf m c t (ix2 a j) = (argsOf m c).nf (rowAt t a) j := by
  unfold Args.nf
  rw [← h2_at, ← rsf_at m c t a 0]
  pointwise [hnf, k0_pay22]
  rfl

theorem diff_at (c : Dev nD) (t : Fin cfg0.N) (a : Fin 256) (j : Fin 1024) :
    diff m c t (ix2 a j) = (argsOf m c).diff (rowAt t a) j := by
  unfold Args.diff
  rw [← hnf_at, ← blk5 m c t, ← blk3]
  pointwise [diff, k0_pay24, k0_pay23]
  rfl

theorem dh2_at (c : Dev nD) (t : Fin cfg0.N) (a : Fin 256) (j : Fin 1024) :
    dh2 m c t (ix2 a j) = (argsOf m c).dh2 (rowAt t a) j := by
  unfold Args.dh2 grad Args.dy
  rw [zero_add]
  show _ = rstd _ * (_ - (argsOf m c).nf (rowAt t a) j * Ideal.div (∑ k, _ * (argsOf m c).nf (rowAt t a) k) _)
  simp only [← hnf_at, ← rsf_at m c t a 0, ← diff_at, ← blk5 m c t]
  pointwise [dh2, k0_pay30, k0_pay28, k0_pay23]

theorem dh2'_at (c : Dev nD) (t : Fin cfg0.N) (a : Fin 256) (j : Fin 1024) :
    dh2' m c t (ix2 a j) = (argsOf m c).dh2 (rowAt t a) j := by
  rw [← dh2_at]
  pointwise [dh2', k0_pay31]
  rfl

theorem last_at (c : Dev nD) (t : Fin cfg0.N) (a : Fin 256) (f : Fin 1024) :
    last m c t (ix2 a f) = (argsOf m c).dpre (rowAt t a) ⟨(3 : Fin 4).val * 1024 + f.val, by omega⟩ := by
  unfold Args.dpre
  simp only [← r_at, ← dh2'_at, ← w2_at]
  pointwise [last, k0_pay37]

theorem dpre_at (c : Dev nD) (t : Fin cfg0.N) (b : Fin 4) (a : Fin 256) (f : Fin 1024) :
    dpre m c t b (ix2 a f) = (argsOf m c).dpre (rowAt t a) ⟨b.val * 1024 + f.val, by omega⟩ := by
  by_cases hb : b = 3
  · subst hb
    rw [← last_at]
    pointwise [dpre, k0_pay38]
  unfold Args.dpre
  simp only [← r_at, ← dh2'_at, ← w2_at]
  fin_cases b
  · pointwise [dpre, k0_pay33]
    rfl
  · pointwise [dpre, k0_pay34]
  · pointwise [dpre, k0_pay35]
  · exact absurd rfl hb

/-- The gradient of the scaled norm in a block. -/
theorem dnm_at (c : Dev nD) (t : Fin cfg0.N) (a : Fin 256) (j : Fin 1024) :
    k0_pay39 (F := Ideal) (back m c t) (last m c t) (w1 m c 3) (ix2 a j) = (argsOf m c).dnm (rowAt t a) j := by
  unfold Args.dnm
  rw [sum_four]
  simp only [← dpre_at, ← w1_at]
  pointwise [back, dpre, k0_pay39, k0_pay36, k0_pay32]

theorem dh1_at (c : Dev nD) (t : Fin cfg0.N) (a : Fin 256) (j : Fin 1024) :
    k0_pay41 (F := Ideal) (rs1 m c t) (hn1 m c t) (iblk m c 4 t) (dh2 m c t) (back m c t) (last m c t) (w1 m c 3) (ix2 a j)
      = (argsOf m c).dh1 (rowAt t a) j := by
  unfold Args.dh1 grad
  show _ = _ + rstd _ * (_ - (argsOf m c).n1 (rowAt t a) j * Ideal.div (∑ k, _ * (argsOf m c).n1 (rowAt t a) k) _)
  simp only [← hn1_at, ← rs1_at m c t a 0, ← dnm_at, ← blk4 m c t, ← dh2_at]
  pointwise [k0_pay41]

theorem dmixed_at (c : Dev nD) (t : Fin cfg0.N) (a : Fin 256) (k : Fin 1024) :
    k0_pay42 (F := Ideal) (rs1 m c t) (hn1 m c t) (iblk m c 4 t) (dh2 m c t) (back m c t) (last m c t) (w1 m c 3)
      (V m c main_v5) (ix2 a k) = (argsOf m c).dmixed (rowAt t a) k := by
  unfold Args.dmixed
  simp only [← dh1_at, ← wo_at]
  pointwise [k0_pay42]

/-- What a block adds to the loss. -/
theorem lossPart_at (c : Dev nD) (t : Fin cfg0.N) :
    lossPart m c t (ix2 0 0) = ∑ a : Fin 256, (argsOf m c).rowLoss (rowAt t a) := by
  unfold Args.rowLoss
  simp only [← diff_at]
  pointwise [lossPart, k0_pay26]
  rfl

/-- Four blocks of columns that are parts of one array, put together, are the array. -/
theorem joined_at (p : Fin 4 → FVec Ideal S256x1024 .bf16) (G : Fin 256 → Fin 4096 → EReal)
    (h : ∀ b a f, p b (ix2 a f) = G a ⟨b.val * 1024 + f.val, by omega⟩) (a : Fin 256) (f : Fin 4096) :
    joined p (ix2 a f) = G a f := by
  refine View.canon_apply_of_pieces (Val := Elt Ideal) (S := S256x4096) (e := .bf16) (fun y => G (y 0) (y 1)) _ ?_ (ix2 a f)
    (View.cover_of_tiled _ ![256, 1024] ?_ _)
  swap
  · rfl
  simp only [List.forall_mem_cons, List.not_mem_nil, false_imp_iff, implies_true, and_true]
  refine ⟨fun x => ?_, fun x => ?_, fun x => ?_, fun x => ?_⟩ <;>
  · obtain ⟨u, v, rfl⟩ : ∃ (u : Fin 256) (v : Fin 1024), x = ix2 u v := ⟨x 0, x 1, eq_ix2 x⟩
    refine (h _ u v).trans (congrArg₂ G (Fin.ext ?_) (Fin.ext ?_))
    · show u.val = 0 + 1 * u.val
      omega
    · show _ = _ + 1 * v.val
      simp

end Cert.Proof.Post

end
-- ==== Proof.PostValue.lean ====
/- The fused kernel's ten result arrays after its run, as functions of the arguments. -/
module

public import proofs.«01_k».proof.Proof.PostRows

@[expose] public section

set_option maxRecDepth 16384

noncomputable section

namespace Cert.Proof.Post

open Cert.Kernel2Ideal Cert.Kernel2Ideal.Gen Idealize.ShloMosaic Idealize.ShloMosaic.TcCoe Idealize.SL.Sem
open Cert.Proof.RmsGrad

variable (m : (ℓ : Loc nD τ sig) → Buf (Elt Ideal) ℓ)

/-- The result array 0: the two attention outputs side by side. -/
theorem final_mix (c : Dev nD) : (dats m 0 c).arrAt 6 (cfgs 0).N = fun i => (argsOf m c).mix (i 0) (i 1) := by
  refine (dats m 0 c).arrAt_eq_of_covers 6 _ (by decide +kernel) fun t _ y => ?_
  blk_simp
  rw [after0_6, (blocks m c t).1]
  idx_vars y
  have e : ((View.whole main_v7_0).slice (win0_6.rect t)).emb (ix2 y0 y1) = ix2 (rowAt t y0) y1 := by
    blk_ext [idx t]
  rw [e]
  exact mix_at m c t y0 y1

/-- The result array 1: the scaled norm. -/
theorem final_nm (c : Dev nD) : (dats m 0 c).arrAt 7 (cfgs 0).N = fun i => (argsOf m c).nm (i 0) (i 1) := by
  refine (dats m 0 c).arrAt_eq_of_covers 7 _ (by decide +kernel) fun t _ y => ?_
  blk_simp
  rw [after0_7, (blocks m c t).2.1]
  idx_vars y
  have e : ((View.whole main_v7_1).slice (win0_7.rect t)).emb (ix2 y0 y1) = ix2 (rowAt t y0) y1 := by
    blk_ext [idx t]
  rw [e]
  exact nm_at m c t y0 y1

/-- The result array 2: the squared hidden units. -/
theorem final_act (c : Dev nD) : (dats m 0 c).arrAt 8 (cfgs 0).N = fun i => (argsOf m c).act (i 0) (i 1) := by
  refine (dats m 0 c).arrAt_eq_of_covers 8 _ (by decide +kernel) fun t _ y => ?_
  blk_simp
  rw [after0_8, (blocks m c t).2.2.1]
  idx_vars y
  have e : ((View.whole main_v7_2).slice (win0_8.rect t)).emb (ix2 y0 y1) = ix2 (rowAt t y0) y1 := by
    blk_ext [idx t]
  rw [e]
  exact joined_at _ (fun a f => (argsOf m c).act (rowAt t a) f) (fun b a f => act_at m c t b a f) y0 y1

/-- The result array 3: the hidden units' gradient. -/
theorem final_dpre (c : Dev nD) : (dats m 0 c).arrAt 9 (cfgs 0).N = fun i => (argsOf m c).dpre (i 0) (i 1) := by
  refine (dats m 0 c).arrAt_eq_of_covers 9 _ (by decide +kernel) fun t _ y => ?_
  blk_simp
  rw [after0_9, (blocks m c t).2.2.2.1]
  idx_vars y
  have e : ((View.whole main_v7_3).slice (win0_9.rect t)).emb (ix2 y0 y1) = ix2 (rowAt t y0) y1 := by
    blk_ext [idx t]
  rw [e]
  exact joined_at _ (fun a f => (argsOf m c).dpre (rowAt t a) f) (fun b a f => dpre_at m c t b a f) y0 y1

/-- The result array 4: the last rows' gradient. -/
theorem final_dh2 (c : Dev nD) : (dats m 0 c).arrAt 10 (cfgs 0).N = fun i => (argsOf m c).dh2 (i 0) (i 1) := by
  refine (dats m 0 c).arrAt_eq_of_covers 10 _ (by decide +kernel) fun t _ y => ?_
  blk_simp
  rw [after0_10, (blocks m c t).2.2.2.2.1]
  idx_vars y
  have e : ((View.whole main_v7_4).slice (win0_10.rect t)).emb (ix2 y0 y1) = ix2 (rowAt t y0) y1 := by
    blk_ext [idx t]
  rw [e]
  exact dh2'_at m c t y0 y1

/-- The result array 5: the gradient of the rows after the output projection. -/
theorem final_dh1 (c : Dev nD) : (dats m 0 c).arrAt 11 (cfgs 0).N = fun i => (argsOf m c).dh1 (i 0) (i 1) := by
  refine (dats m 0 c).arrAt_eq_of_covers 11 _ (by decide +kernel) fun t _ y => ?_
  blk_simp
  rw [after0_11, (blocks m c t).2.2.2.2.2.1]
  idx_vars y
  have e : ((View.whole main_v7_5).slice (win0_11.rect t)).emb (ix2 y0 y1) = ix2 (rowAt t y0) y1 := by
    blk_ext [idx t]
  rw [e]
  exact dh1_at m c t y0 y1

/-- The result array 6: the attention outputs' gradient. -/
theorem final_dmixed (c : Dev nD) : (dats m 0 c).arrAt 12 (cfgs 0).N = fun i => (argsOf m c).dmixed (i 0) (i 1) := by
  refine (dats m 0 c).arrAt_eq_of_covers 12 _ (by decide +kernel) fun t _ y => ?_
  blk_simp
  rw [after0_12, (blocks m c t).2.2.2.2.2.2]
  idx_vars y
  have e : ((View.whole main_v7_6).slice (win0_12.rect t)).emb (ix2 y0 y1) = ix2 (rowAt t y0) y1 := by
    blk_ext [idx t]
  rw [e]
  exact dmixed_at m c t y0 y1

/-- A real factor that is not negative goes into a sum. -/
theorem mul_sum_of_nonneg {ι : Type*} (s : Finset ι) (f : ι → EReal) (z : ℝ) (hz : 0 ≤ z) :
    (z : EReal) * ∑ k ∈ s, f k = ∑ k ∈ s, (z : EReal) * f k := by
  classical
  induction s using Finset.induction_on with
  | empty => simp
  | insert a s ha ih =>
    rw [Finset.sum_insert ha, Finset.sum_insert ha, ← ih,
      EReal.left_distrib_of_nonneg_of_ne_top (by exact_mod_cast hz) (EReal.coe_ne_top z)]

theorem ofBits_half : Ideal.ofBits .f32 0x3F000000#32 = ((1 / 2 : ℝ) : EReal) := by
  simp [Ideal.ofBits, Ideal.ieee]
  rw [← EReal.coe_mul]
  norm_num

/-- A sum over a block's rows, summed over the points, is the sum over all rows. -/
theorem sum_rows (t : Fin cfg0.N) (f : Fin 8192 → EReal) (hN : ∀ s : Fin 32, 32 * (t.val / 32) + s.val < cfg0.N) :
    ∑ s : Fin 32, ∑ a : Fin 256, f (rowAt ⟨32 * (t.val / 32) + s.val, hN s⟩ a) = ∑ i, f i := by
  have ht : t.val / 32 = 0 := by have := point_lt t; omega
  refine Fin.sum_mul_add_congr fun s k hl => ?_
  exact congrArg f (Fin.ext (by show (32 * (t.val / 32) + s.val) * 256 + k.val = s.val * 256 + k.val; rw [ht]; omega))

/-- What a point adds to the loss. -/
def lossTerm (c : Dev nD) (t : Fin cfg0.N) (i : S1x1.Idx) : EReal :=
  Ideal.ofBits .f32 0x3F000000#32 * ∑ a : Fin 256, (argsOf m c).rowLoss (rowAt t a)

theorem loss_step (c : Dev nD) (t : Fin cfg0.N) (acc : FVec Ideal S1x1 .f32) (i : S1x1.Idx) :
    k0_pay27 (F := Ideal) (k0_pay25 acc) (lossPart m c t) i = acc i + lossTerm m c t i := by
  obtain ⟨u, v, rfl⟩ : ∃ (u v : Fin 1), i = ix2 u v := ⟨i 0, i 1, eq_ix2 i⟩
  rw [Subsingleton.elim u 0, Subsingleton.elim v 0]
  pointwise [k0_pay27, k0_pay25]
  rw [lossPart_at]
  rfl

/-- The result array 7: the loss. -/
theorem final_loss (c : Dev nD) : (dats m 0 c).arrAt 13 (cfgs 0).N = fun i => Ideal.ofBits .f32 0x3F000000#32 * ∑ r, (argsOf m c).rowLoss r := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.2.2.1) 32 (fun _ => 0)
    (lossTerm m c) (fun t h j => by rw [(sums_first m c t h).1, loss_step]; pointwise [k0_pay1])
    (fun t h j => by rw [(sums_next m c t h).1, loss_step]) t ((flush0_13 t).mp hf) _, zero_add]
  unfold lossTerm
  simp only [ofBits_half]
  rw [← mul_sum_of_nonneg _ _ _ (by norm_num)]
  exact congrArg _ (sum_rows t _ _)

/-- What a point adds to the gradient of the last norm's scale. -/
def dgfPart (c : Dev nD) (t : Fin cfg0.N) (i : S1x1024.Idx) : EReal :=
  ∑ a : Fin 256, (argsOf m c).dy (rowAt t a) (i 1) * (argsOf m c).nf (rowAt t a) (i 1)

theorem dgf_step (c : Dev nD) (t : Fin cfg0.N) (acc : FVec Ideal S1x1024 .f32) (i : S1x1024.Idx) :
    k0_pay29 (F := Ideal) (hnf m c t) (diff m c t) acc i = acc i + dgfPart m c t i := by
  idx_vars i
  pointwise [k0_pay29, k0_pay28]
  simp only [diff_at, hnf_at]
  rfl

/-- The result array 8: the gradient of the last norm's scale. -/
theorem final_dgf (c : Dev nD) : (dats m 0 c).arrAt 14 (cfgs 0).N = fun i => ∑ r, (argsOf m c).dy r (i 1) * (argsOf m c).nf r (i 1) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2.2.2.1) 32 (fun _ => 0)
    (dgfPart m c) (fun t h j => by rw [(sums_first m c t h).2.1, dgf_step]; pointwise [k0_pay2])
    (fun t h j => by rw [(sums_next m c t h).2.1, dgf_step]) t ((flush0_14 t).mp hf) _, zero_add]
  idx_vars y
  have e : (win0_14.blk t).view.emb (ix2 y0 y1) = ix2 0 y1 := by
    blk_ext [idx t]
  rw [e]
  unfold dgfPart
  exact sum_rows t (fun r => (argsOf m c).dy r y1 * (argsOf m c).nf r y1) _

/-- What a point adds to the gradient of the feed-forward norm's scale. -/
def dg2Part (c : Dev nD) (t : Fin cfg0.N) (i : S1x1024.Idx) : EReal :=
  ∑ a : Fin 256, (argsOf m c).dnm (rowAt t a) (i 1) * (argsOf m c).n1 (rowAt t a) (i 1)

theorem dg2_step (c : Dev nD) (t : Fin cfg0.N) (acc : FVec Ideal S1x1024 .f32) (i : S1x1024.Idx) :
    k0_pay40 (F := Ideal) (hn1 m c t) (back m c t) (last m c t) (w1 m c 3) acc i = acc i + dg2Part m c t i := by
  idx_vars i
  pointwise [k0_pay40]
  simp only [dnm_at, hn1_at]
  rfl

/-- The result array 9: the gradient of the feed-forward norm's scale. -/
theorem final_dg2 (c : Dev nD) : (dats m 0 c).arrAt 15 (cfgs 0).N = fun i => ∑ r, (argsOf m c).dnm r (i 1) * (argsOf m c).n1 r (i 1) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.2.2.2.1) 32 (fun _ => 0)
    (dg2Part m c) (fun t h j => by rw [(sums_first m c t h).2.2, dg2_step]; pointwise [k0_pay3])
    (fun t h j => by rw [(sums_next m c t h).2.2, dg2_step]) t ((flush0_15 t).mp hf) _, zero_add]
  idx_vars y
  have e : (win0_15.blk t).view.emb (ix2 y0 y1) = ix2 0 y1 := by
    blk_ext [idx t]
  rw [e]
  unfold dg2Part
  exact sum_rows t (fun r => (argsOf m c).dnm r y1 * (argsOf m c).n1 r y1) _

end Cert.Proof.Post

end
-- ==== Proof.PostReference.lean ====
/- The reference's ten results, and the fused kernel's closed forms equal to them where the arguments are real numbers. -/
module

public import proofs.«01_k».proof.Proof.Gen.Reference2Ideal.Read
public import proofs.«01_k».proof.Proof.PostPre
public import proofs.«01_k».proof.Proof.PostValue

@[expose] public section

set_option maxRecDepth 16384

noncomputable section

namespace Cert.Proof.Post

open Cert.Reference2Ideal Cert.Reference2Ideal.Gen Cert.Reference2Ideal.Read Idealize.ShloMosaic Idealize.ShloMosaic.TcCoe
open Cert.Proof.RmsGrad Cert.Proof.Reals

variable (A : Args)

/-- The stages of the reference up to the loss are the rows' formulas, for all arguments. -/
theorem ref_mix (i : Fin 8192) (j : Fin 1024) :
    val_main_v0 (F := Ideal) A.oa A.ob (ix2 i j) = A.mix i j := by
  pointwise [val_main_v0]
  rfl

theorem ref_h1 (i : Fin 8192) (j : Fin 1024) :
    val_main_v2 (F := Ideal) A.x A.oa A.ob A.wo (ix2 i j) = A.h1 i j := by
  pointwise [val_main_v2, val_main_v1]
  simp only [ref_mix]
  rfl

theorem ref_rs1 (i : Fin 8192) :
    val_main_v11 (F := Ideal) A.x A.oa A.ob A.wo (ix2 i 0) = rstd (A.h1 i) := by
  pointwise [val_main_v11, val_main_v10, val_main_v9, val_main_v8, val_main_v7, val_main_v6, val_main_v5, val_main_v4,
    val_main_cst, val_main_cst_0, val_main_cst_1]
  simp only [ref_h1]
  rfl

theorem ref_n1 (i : Fin 8192) (j : Fin 1024) :
    val_main_v16 (F := Ideal) A.x A.oa A.ob A.wo (ix2 i j) = A.n1 i j := by
  pointwise [val_main_v16, val_main_v15]
  simp only [ref_h1, ref_rs1]
  rfl

theorem ref_nm (i : Fin 8192) (j : Fin 1024) :
    val_main_v19 (F := Ideal) A.x A.oa A.ob A.g2 A.wo (ix2 i j) = A.nm i j := by
  pointwise [val_main_v19, val_main_v18, val_main_v17, val_main_v3]
  simp only [ref_n1]
  rfl

theorem ref_pre (i : Fin 8192) (f : Fin 4096) :
    val_main_v20 (F := Ideal) A.x A.oa A.ob A.g2 A.wo A.wf1 (ix2 i f) = A.pre i f := by
  pointwise [val_main_v20]
  simp only [ref_nm]
  rfl

theorem ref_rel (i : Fin 8192) (f : Fin 4096) :
    val_main_v21 (F := Ideal) A.x A.oa A.ob A.g2 A.wo A.wf1 (ix2 i f) = A.rel i f := by
  pointwise [val_main_v21, val_main_call0_v0, val_main_call0_cst]
  simp only [ref_pre]
  rfl

theorem ref_act (i : Fin 8192) (f : Fin 4096) :
    val_main_v25 (F := Ideal) A.x A.oa A.ob A.g2 A.wo A.wf1 (ix2 i f) = A.act i f := by
  pointwise [val_main_v25]
  simp only [ref_rel]
  rfl

theorem ref_h2 (i : Fin 8192) (j : Fin 1024) :
    val_main_v29 (F := Ideal) A.x A.oa A.ob A.g2 A.wo A.wf1 A.wf2 (ix2 i j) = A.h2 i j := by
  pointwise [val_main_v29, val_main_v28]
  simp only [ref_h1, ref_act]
  rfl

theorem ref_rsf (i : Fin 8192) :
    val_main_v37 (F := Ideal) A.x A.oa A.ob A.g2 A.wo A.wf1 A.wf2 (ix2 i 0) = rstd (A.h2 i) := by
  pointwise [val_main_v37, val_main_v36, val_main_v35, val_main_v34, val_main_v33, val_main_v32, val_main_v31,
    val_main_v30, val_main_cst_6, val_main_cst_7, val_main_cst_8]
  simp only [ref_h2]
  rfl

theorem ref_nf (i : Fin 8192) (j : Fin 1024) :
    val_main_v42 (F := Ideal) A.x A.oa A.ob A.g2 A.wo A.wf1 A.wf2 (ix2 i j) = A.nf i j := by
  pointwise [val_main_v42, val_main_v41]
  simp only [ref_h2, ref_rsf]
  rfl

theorem ref_diff (i : Fin 8192) (j : Fin 1024) :
    val_main_v46 (F := Ideal) A.x A.oa A.ob A.tgt A.g2 A.gf A.wo A.wf1 A.wf2 (ix2 i j) = A.diff i j := by
  pointwise [val_main_v46, val_main_v45, val_main_v44, val_main_v43]
  simp only [ref_nf]
  rfl

theorem ofBits_one : Ideal.ofBits .f32 0x3F800000#32 = ((1 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

/-- The reciprocal of the width, as the kernel writes it. -/
theorem ofBits_inv_width : Ideal.ofBits .f32 0x3A800000#32 = ((1 / 1024 : ℝ) : EReal) := by
  simp [Ideal.ofBits, Ideal.ieee]
  rw [← EReal.coe_mul]
  norm_num

/-- Dividing by the width is multiplying by its reciprocal. -/
theorem div_width (a : EReal) :
    Ideal.div a (Ideal.ofBits .f32 0x44800000#32) = a * Ideal.ofBits .f32 0x3A800000#32 := by
  have h : ((1024 : ℝ) : EReal) ≠ 0 := by exact_mod_cast (by norm_num : (1024 : ℝ) ≠ 0)
  rw [ofBits_1024, ofBits_inv_width, Ideal.div, if_neg h, ← EReal.coe_inv, one_div]

theorem half_width_two : Ideal.div (Ideal.ofBits .f32 0x3F000000#32) (Ideal.ofBits .f32 0x44800000#32)
    * Ideal.ofBits .f32 0x40000000#32 = Ideal.ofBits .f32 0x3A800000#32 := by
  rw [div_width, ofBits_half, ofBits_inv_width, ofBits_two, ← EReal.coe_mul, ← EReal.coe_mul]
  norm_num

/-- The gradient of the scaled norm. -/
theorem ref_dy (i : Fin 8192) (j : Fin 1024) :
    val_main_v60 (F := Ideal) A.x A.oa A.ob A.tgt A.g2 A.gf A.wo A.wf1 A.wf2 (ix2 i j) = A.dy i j := by
  pointwise [val_main_v60, val_main_v59, val_main_v58, val_main_v57, val_main_v56, val_main_v55, val_main_v49,
    val_main_v48, val_main_cst_10, val_main_cst_15, val_main_cst_16, val_main_cst_17]
  simp only [ref_diff]
  rw [← mul_assoc, half_width_two, mul_comm]
  rfl

/-- The loss. -/
theorem ref_loss  :
    val_main_v116 (F := Ideal) A.x A.oa A.ob A.tgt A.g2 A.gf A.wo A.wf1 A.wf2 (ix2 0 0) = Ideal.ofBits .f32 0x3F000000#32 * ∑ r : Fin 8192, A.rowLoss r := by
  pointwise [val_main_v116, val_main_v54, val_main_v53, val_main_v52, val_main_v51, val_main_v50, val_main_v47,
    val_main_cst_11, val_main_cst_12, val_main_cst_13, val_main_cst_14]
  simp only [ref_diff, div_width]
  rfl

/-- The gradient of the last scale. -/
theorem ref_dgf (j : Fin 1024) :
    val_main_v117 (F := Ideal) A.x A.oa A.ob A.tgt A.g2 A.gf A.wo A.wf1 A.wf2 (ix2 0 j) = ∑ r : Fin 8192, A.dy r j * A.nf r j := by
  pointwise [val_main_v117, val_main_v66, val_main_v63, val_main_v62, val_main_v61, val_main_cst_19, val_main_cst_18]
  simp only [ref_nf, ref_dy, Fin.sum_univ_one]
  exact Finset.sum_congr rfl fun k _ => mul_comm _ _

/-- Every argument is made of real numbers. -/
structure Finite : Prop where
  x : ∀ i, ∃ r : ℝ, A.x i = r
  oa : ∀ i, ∃ r : ℝ, A.oa i = r
  ob : ∀ i, ∃ r : ℝ, A.ob i = r
  tgt : ∀ i, ∃ r : ℝ, A.tgt i = r
  g2 : ∀ i, ∃ r : ℝ, A.g2 i = r
  gf : ∀ i, ∃ r : ℝ, A.gf i = r
  wo : ∀ i, ∃ r : ℝ, A.wo i = r
  wf1 : ∀ i, ∃ r : ℝ, A.wf1 i = r
  wf2 : ∀ i, ∃ r : ℝ, A.wf2 i = r

/-- A value that is a real number. -/
def IsReal (a : EReal) : Prop := ∃ r : ℝ, a = r

theorem IsReal.add {a b : EReal} : IsReal a → IsReal b → IsReal (a + b)
  | ⟨r, hr⟩, ⟨s, hs⟩ => ⟨r + s, by rw [hr, hs, EReal.coe_add]⟩

theorem IsReal.sub {a b : EReal} : IsReal a → IsReal b → IsReal (a - b)
  | ⟨r, hr⟩, ⟨s, hs⟩ => ⟨r - s, by rw [hr, hs, EReal.coe_sub]⟩

theorem IsReal.mul {a b : EReal} : IsReal a → IsReal b → IsReal (a * b)
  | ⟨r, hr⟩, ⟨s, hs⟩ => ⟨r * s, by rw [hr, hs, EReal.coe_mul]⟩

theorem IsReal.max_zero {a : EReal} : IsReal a → IsReal (max a 0)
  | ⟨r, hr⟩ => (le_total a 0).elim (fun h => ⟨0, by rw [max_eq_right h, EReal.coe_zero]⟩) fun h => ⟨r, by rw [max_eq_left h, hr]⟩

theorem IsReal.sum {n : ℕ} {f : Fin n → EReal} (h : ∀ k, IsReal (f k)) : IsReal (∑ k, f k) := by
  choose r hr using h
  exact ⟨∑ k, r k, by simp only [hr, sum_coe]⟩

theorem isReal_inv_width : IsReal (Ideal.ofBits .f32 0x3A800000#32) := ⟨_, ofBits_inv_width⟩

theorem isReal_two : IsReal (Ideal.ofBits .f32 0x40000000#32) := ⟨_, ofBits_two⟩

theorem IsReal.rstd {x : Fin 1024 → EReal} (h : ∀ k, IsReal (x k)) : IsReal (rstd x) := by
  choose r hr using h
  obtain rfl : x = fun k => (r k : EReal) := funext hr
  exact ⟨_, rstd_coe r⟩

theorem IsReal.grad {x d g : Fin 1024 → EReal} {h : EReal} (hx : ∀ k, IsReal (x k)) (hd : ∀ k, IsReal (d k))
    (hg : ∀ k, IsReal (g k)) (hh : IsReal h) (j : Fin 1024) : IsReal (grad x d g h j) := by
  unfold RmsGrad.grad
  rw [div_width]
  exact hh.add ((rstd hx).mul (((hd j).mul (hg j)).sub (((hx j).mul (rstd hx)).mul
    ((sum fun k => ((hd k).mul (hg k)).mul ((hx k).mul (rstd hx))).mul isReal_inv_width))))

/-- The kernel's form of a norm's gradient is the chain rule's, for rows that are real numbers. -/
theorem grad_eq {x d g : Fin 1024 → EReal} (h : EReal) (hx : ∀ k, IsReal (x k)) (hd : ∀ k, IsReal (d k))
    (hg : ∀ k, IsReal (g k)) (j : Fin 1024) :
    h + (d j * g j * rstd x + x j * chain x d g + chain x d g * x j) = grad x d g h j := by
  choose xr hx using hx
  choose dr hd using hd
  choose gr hg using hg
  obtain rfl : x = fun k => (xr k : EReal) := funext hx
  obtain rfl : d = fun k => (dr k : EReal) := funext hd
  obtain rfl : g = fun k => (gr k : EReal) := funext hg
  rw [grad_eq_chain, add_assoc, add_assoc, add_assoc]

namespace Finite

variable {A} (hA : Finite A)

include hA

theorem mix (i : Fin 8192) (k : Fin 1024) : IsReal (A.mix i k) := by
  unfold Args.mix
  split
  · exact hA.oa _
  · exact hA.ob _

theorem h1 (i : Fin 8192) (j : Fin 1024) : IsReal (A.h1 i j) :=
  IsReal.add (hA.x _) (IsReal.sum fun k => (hA.mix i k).mul (hA.wo _))

theorem n1 (i : Fin 8192) (j : Fin 1024) : IsReal (A.n1 i j) := (hA.h1 i j).mul (IsReal.rstd (hA.h1 i))

theorem nm (i : Fin 8192) (j : Fin 1024) : IsReal (A.nm i j) := (hA.n1 i j).mul (hA.g2 _)

theorem pre (i : Fin 8192) (f : Fin 4096) : IsReal (A.pre i f) := IsReal.sum fun k => (hA.nm i k).mul (hA.wf1 _)

theorem rel (i : Fin 8192) (f : Fin 4096) : IsReal (A.rel i f) := (hA.pre i f).max_zero

theorem h2 (i : Fin 8192) (j : Fin 1024) : IsReal (A.h2 i j) :=
  (hA.h1 i j).add (IsReal.sum fun f => ((hA.rel i f).mul (hA.rel i f)).mul (hA.wf2 _))

theorem nf (i : Fin 8192) (j : Fin 1024) : IsReal (A.nf i j) := (hA.h2 i j).mul (IsReal.rstd (hA.h2 i))

theorem dy (i : Fin 8192) (j : Fin 1024) : IsReal (A.dy i j) :=
  (((hA.nf i j).mul (hA.gf _)).sub (hA.tgt _)).mul isReal_inv_width

theorem dh2 (i : Fin 8192) (j : Fin 1024) : IsReal (A.dh2 i j) :=
  IsReal.grad (hA.h2 i) (hA.dy i) (fun _ => hA.gf _) ⟨0, EReal.coe_zero.symm⟩ j

theorem dpre (i : Fin 8192) (f : Fin 4096) : IsReal (A.dpre i f) :=
  (IsReal.sum fun j => (hA.dh2 i j).mul (hA.wf2 _)).mul (isReal_two.mul (hA.rel i f))

theorem dnm (i : Fin 8192) (j : Fin 1024) : IsReal (A.dnm i j) :=
  IsReal.sum fun f => (hA.dpre i f).mul (hA.wf1 _)

end Finite

/-- The gradients from the last rows back, for real arguments. -/
theorem ref_dh2 (hA : Finite A) (i : Fin 8192) (j : Fin 1024) :
    val_main_v80 (F := Ideal) A.x A.oa A.ob A.tgt A.g2 A.gf A.wo A.wf1 A.wf2 (ix2 i j) = A.dh2 i j := by
  pointwise [val_main_v80, val_main_v79, val_main_v78, val_main_v77, val_main_v76, val_main_v75, val_main_v74,
    val_main_v73, val_main_v72, val_main_v71, val_main_v70, val_main_v69, val_main_v68, val_main_v67, val_main_v65,
    val_main_v64, val_main_v43, val_main_v40, val_main_v39, val_main_v38, val_main_v36, val_main_v35, val_main_v34,
    val_main_v33, val_main_v32, val_main_v31, val_main_v30, val_main_cst_6, val_main_cst_7, val_main_cst_8,
    val_main_cst_9, val_main_cst_20, val_main_cst_21, val_main_cst_22]
  simp only [ref_h2, ref_dy, ref_rsf, Fin.sum_univ_one]
  exact (zero_add _).symm.trans (grad_eq 0 (hA.h2 i) (hA.dy i) (fun _ => hA.gf _) j)

theorem ref_dpre (hA : Finite A) (i : Fin 8192) (f : Fin 4096) :
    val_main_v84 (F := Ideal) A.x A.oa A.ob A.tgt A.g2 A.gf A.wo A.wf1 A.wf2 (ix2 i f) = A.dpre i f := by
  pointwise [val_main_v84, val_main_v83, val_main_v82, val_main_v81, val_main_v23, val_main_v22, val_main_v27,
    val_main_v26, val_main_cst_23, val_main_cst_3, val_main_cst_5]
  simp only [ref_rel, ref_pre, ref_dh2 A hA]
  split
  · rfl
  · next h =>
    have hz : A.rel i f = 0 := max_eq_right (not_lt.mp h)
    unfold Args.dpre
    rw [hz, mul_zero, mul_zero]

theorem ref_dnm (hA : Finite A) (i : Fin 8192) (j : Fin 1024) :
    val_main_v85 (F := Ideal) A.x A.oa A.ob A.tgt A.g2 A.gf A.wo A.wf1 A.wf2 (ix2 i j) = A.dnm i j := by
  pointwise [val_main_v85]
  simp only [ref_dpre A hA]
  rfl

theorem ref_dg2 (hA : Finite A) (j : Fin 1024) :
    val_main_v106 (F := Ideal) A.x A.oa A.ob A.tgt A.g2 A.gf A.wo A.wf1 A.wf2 (ix2 0 j) = ∑ r : Fin 8192, A.dnm r j * A.n1 r j := by
  pointwise [val_main_v106, val_main_v91, val_main_v88, val_main_v87, val_main_v86, val_main_cst_24, val_main_cst_25]
  simp only [ref_n1, ref_dnm A hA, Fin.sum_univ_one]
  exact Finset.sum_congr rfl fun k _ => mul_comm _ _

theorem ref_dh1 (hA : Finite A) (i : Fin 8192) (j : Fin 1024) :
    val_main_v107 (F := Ideal) A.x A.oa A.ob A.tgt A.g2 A.gf A.wo A.wf1 A.wf2 (ix2 i j) = A.dh1 i j := by
  pointwise [val_main_v107, val_main_v106, val_main_v105, val_main_v104, val_main_v103, val_main_v102, val_main_v101,
    val_main_v100, val_main_v99, val_main_v98, val_main_v97, val_main_v96, val_main_v95, val_main_v94, val_main_v93,
    val_main_v92, val_main_v90, val_main_v89, val_main_v17, val_main_v14, val_main_v13, val_main_v12, val_main_v10,
    val_main_v9, val_main_v8, val_main_v7, val_main_v6, val_main_v5, val_main_v4, val_main_v3, val_main_cst_26,
    val_main_cst_27, val_main_cst_28, val_main_cst_2, val_main_cst, val_main_cst_0, val_main_cst_1]
  simp only [ref_rs1, ref_h1, ref_dnm A hA, ref_dh2 A hA, Fin.sum_univ_one]
  exact grad_eq _ (hA.h1 i) (hA.dnm i) (fun _ => hA.g2 _) j

theorem ref_dmixed (hA : Finite A) (i : Fin 8192) (j : Fin 1024) :
    val_main_v110 (F := Ideal) A.x A.oa A.ob A.tgt A.g2 A.gf A.wo A.wf1 A.wf2 (ix2 i j) = A.dmixed i j := by
  pointwise [val_main_v110, val_main_v109, val_main_v108]
  simp only [ref_dh1 A hA]
  rfl

/-! The ten results as arrays. -/

theorem result_mix : val_main_v111 (F := Ideal) A.oa A.ob = fun i => A.mix (i 0) (i 1) := by
  funext i
  obtain ⟨a, b, rfl⟩ : ∃ a b, i = ix2 a b := ⟨i 0, i 1, eq_ix2 i⟩
  exact ref_mix A a b

theorem result_nm : val_main_v112 (F := Ideal) A.x A.oa A.ob A.g2 A.wo = fun i => A.nm (i 0) (i 1) := by
  funext i
  obtain ⟨a, b, rfl⟩ : ∃ a b, i = ix2 a b := ⟨i 0, i 1, eq_ix2 i⟩
  exact ref_nm A a b

theorem result_act : val_main_v113 (F := Ideal) A.x A.oa A.ob A.g2 A.wo A.wf1 = fun i => A.act (i 0) (i 1) := by
  funext i
  obtain ⟨a, b, rfl⟩ : ∃ a b, i = ix2 a b := ⟨i 0, i 1, eq_ix2 i⟩
  exact ref_act A a b

theorem result_dpre (hA : Finite A) : val_main_v114 (F := Ideal) A.x A.oa A.ob A.tgt A.g2 A.gf A.wo A.wf1 A.wf2 = fun
    i => A.dpre (i 0) (i 1) := by
  funext i
  obtain ⟨a, b, rfl⟩ : ∃ a b, i = ix2 a b := ⟨i 0, i 1, eq_ix2 i⟩
  exact ref_dpre A hA a b

theorem result_dh2 (hA : Finite A) : val_main_v115 (F := Ideal) A.x A.oa A.ob A.tgt A.g2 A.gf A.wo A.wf1 A.wf2 = fun i
    => A.dh2 (i 0) (i 1) := by
  funext i
  obtain ⟨a, b, rfl⟩ : ∃ a b, i = ix2 a b := ⟨i 0, i 1, eq_ix2 i⟩
  exact ref_dh2 A hA a b

theorem result_dh1 (hA : Finite A) : val_main_v107 (F := Ideal) A.x A.oa A.ob A.tgt A.g2 A.gf A.wo A.wf1 A.wf2 = fun i
    => A.dh1 (i 0) (i 1) := by
  funext i
  obtain ⟨a, b, rfl⟩ : ∃ a b, i = ix2 a b := ⟨i 0, i 1, eq_ix2 i⟩
  exact ref_dh1 A hA a b

theorem result_dmixed (hA : Finite A) : val_main_v110 (F := Ideal) A.x A.oa A.ob A.tgt A.g2 A.gf A.wo A.wf1 A.wf2 =
    fun i => A.dmixed (i 0) (i 1) := by
  funext i
  obtain ⟨a, b, rfl⟩ : ∃ a b, i = ix2 a b := ⟨i 0, i 1, eq_ix2 i⟩
  exact ref_dmixed A hA a b

theorem result_loss : val_main_v116 (F := Ideal) A.x A.oa A.ob A.tgt A.g2 A.gf A.wo A.wf1 A.wf2 = fun i =>
    Ideal.ofBits .f32 0x3F000000#32 * ∑ r : Fin 8192, A.rowLoss r := by
  funext i
  obtain ⟨a, b, rfl⟩ : ∃ (a b : Fin 1), i = ix2 a b := ⟨i 0, i 1, eq_ix2 i⟩
  rw [Subsingleton.elim a 0, Subsingleton.elim b 0]
  exact ref_loss A

theorem result_dgf : val_main_v117 (F := Ideal) A.x A.oa A.ob A.tgt A.g2 A.gf A.wo A.wf1 A.wf2 = fun i => ∑ r : Fin
    8192, A.dy r (i 1) * A.nf r (i 1) := by
  funext i
  obtain ⟨a, b, rfl⟩ : ∃ (a : Fin 1) (b : Fin 1024), i = ix2 a b := ⟨i 0, i 1, eq_ix2 i⟩
  rw [Subsingleton.elim a 0]
  exact ref_dgf A b

theorem result_dg2 (hA : Finite A) : val_main_v106 (F := Ideal) A.x A.oa A.ob A.tgt A.g2 A.gf A.wo A.wf1 A.wf2 = fun i
    => ∑ r : Fin 8192, A.dnm r (i 1) * A.n1 r (i 1) := by
  funext i
  obtain ⟨a, b, rfl⟩ : ∃ (a : Fin 1) (b : Fin 1024), i = ix2 a b := ⟨i 0, i 1, eq_ix2 i⟩
  rw [Subsingleton.elim a 0]
  exact ref_dg2 A hA b

/-- The precondition: every entry of the nine arguments is a real number. -/
theorem finite_of_pre (h : Cert.Pre_finite_all.fn (F := Ideal) A.x A.oa A.ob A.tgt A.g2 A.gf A.wo A.wf1 A.wf2 = fun _ => 1#1) :
    Finite A := by
  have h0 := congrFun h ix0
  dsimp only [Cert.Pre_finite_all.fn, Cert.Pre_finite_all.fn_part1, Cert.Pre_finite_all.fn_part2, andi] at h0
  obtain ⟨h1, h9⟩ := IntOp.andi_eq_one.mp h0
  obtain ⟨h1, h8⟩ := IntOp.andi_eq_one.mp h1
  obtain ⟨h1, h7⟩ := IntOp.andi_eq_one.mp h1
  obtain ⟨h1, h6⟩ := IntOp.andi_eq_one.mp h1
  obtain ⟨h1, h5⟩ := IntOp.andi_eq_one.mp h1
  obtain ⟨h1, h4⟩ := IntOp.andi_eq_one.mp h1
  obtain ⟨h1, h3⟩ := IntOp.andi_eq_one.mp h1
  obtain ⟨h1, h2⟩ := IntOp.andi_eq_one.mp h1
  exact ⟨real_of_all _ h1, real_of_all _ h2, real_of_all _ h3, real_of_all _ h4, real_of_all _ h5, real_of_all _ h6,
    real_of_all _ h7, real_of_all _ h8, real_of_all _ h9⟩

end Cert.Proof.Post

end
-- ==== Proof.PostClaim.lean ====
/- The fused forward end and backward start: the kernel's ten results are the reference's. -/
module

public import proofs.«01_k».proof.Defs
public import proofs.«01_k».proof.Proof.Gen.Kernel2Ideal.Frame
public import proofs.«01_k».proof.Proof.Gen.Reference2Ideal.Run
public import proofs.«01_k».proof.Proof.PostReference

@[expose] public section

noncomputable section

namespace Cert.Proof.Post

section

open Cert.Kernel2Ideal Cert.Kernel2Ideal.Gen Idealize.ShloMosaic Idealize.ShloMosaic.TcCoe Idealize.SL.Sem

/-- An argument that a window of the kernel stages keeps its contents. -/
theorem kept_in {m : (ℓ : Loc nD τ sig) → Buf (Elt Ideal) ℓ} {r : PUnit × MemSt nD τ sig (Elt Ideal)}
    (h : Pipeline.FramePost cfgs (dats m) 0 (V m) r) (c : Dev nD) (w : Fin 16) (hw : ((cfgs 0).win w).isOut = false) :
    r.2.mem ((c : Thread nD τ).loc (Pipeline.arrRef spec0 w)) = V m c (Pipeline.arrRef spec0 w) :=
  ((h c).1 w).trans (((dats m 0 c).arrAt_in w hw _).trans (A_eq m c w))

end

open Cert.Reference2Ideal Cert.Reference2Ideal.Read Idealize.ShloMosaic Idealize.ShloMosaic.TcCoe Idealize.SL.Sem

/-- The arguments as the reference's memory holds them. -/
def argsRef (m' : (ℓ : Loc nD τ sig) → Buf (Elt Ideal) ℓ) (c : Dev nD) : Args where
  x := m' ((c : Thread nD τ).loc main_arg0)
  oa := m' ((c : Thread nD τ).loc main_arg1)
  ob := m' ((c : Thread nD τ).loc main_arg2)
  tgt := m' ((c : Thread nD τ).loc main_arg3)
  g2 := m' ((c : Thread nD τ).loc main_arg4)
  gf := m' ((c : Thread nD τ).loc main_arg5)
  wo := m' ((c : Thread nD τ).loc main_arg6)
  wf1 := m' ((c : Thread nD τ).loc main_arg7)
  wf2 := m' ((c : Thread nD τ).loc main_arg8)

set_option maxHeartbeats 1600000 in
theorem algebraic : Cert.algebraic_Kernel2Ideal_Reference2Ideal_pre_finite_all (hKernel2Ideal := Cert.Kernel2Ideal.Gen.facts)
    (hReference2Ideal := Cert.Reference2Ideal.Gen.facts) (hPre_finite_all := preFacts) := by
  intro m g m' g' hpre hagree
  refine ⟨fun c => (Cert.Kernel2Ideal.Gen.dats m 0 c).arrAt 6 Cert.Kernel2Ideal.cfg0.N, fun c =>
    (Cert.Kernel2Ideal.Gen.dats m 0 c).arrAt 7 Cert.Kernel2Ideal.cfg0.N, fun c => (Cert.Kernel2Ideal.Gen.dats m 0
    c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats
    m 0 c).arrAt 11 Cert.Kernel2Ideal.cfg0.N, fun c => (Cert.Kernel2Ideal.Gen.dats m 0 c).arrAt 12
    Cert.Kernel2Ideal.cfg0.N, fun c => (Cert.Kernel2Ideal.Gen.dats m 0 c).arrAt 13 Cert.Kernel2Ideal.cfg0.N, fun c =>
    (Cert.Kernel2Ideal.Gen.dats m 0 c).arrAt 14 Cert.Kernel2Ideal.cfg0.N, fun c => (Cert.Kernel2Ideal.Gen.dats m 0
    c).arrAt 15 Cert.Kernel2Ideal.cfg0.N, ?_, ?_⟩
  · refine (θ_run _ _ _).mono (fun r h c => ?_) (Cert.Kernel2Ideal.Gen.run_main m g)
    exact ⟨(h c).1 6, (h c).1 7, (h c).1 8, (h c).1 9, (h c).1 10, (h c).1 11, (h c).1 12, (h c).1 13, (h c).1 14,
      (h c).1 15,
      (kept_in h c 0 rfl).trans (Cert.Kernel2Ideal.Gen.V_main_arg0 m c),
      ((h c).2 Cert.Kernel2Ideal.main_arg1 (Pipeline.mem_restRefs_of _ (by decide) (by decide))).trans (Cert.Kernel2Ideal.Gen.V_main_arg1 m c),
      (kept_in h c 2 rfl).trans (Cert.Kernel2Ideal.Gen.V_main_arg2 m c),
      (kept_in h c 3 rfl).trans (Cert.Kernel2Ideal.Gen.V_main_arg3 m c),
      (kept_in h c 4 rfl).trans (Cert.Kernel2Ideal.Gen.V_main_arg4 m c),
      ((h c).2 Cert.Kernel2Ideal.main_arg5 (Pipeline.mem_restRefs_of _ (by decide) (by decide))).trans (Cert.Kernel2Ideal.Gen.V_main_arg5 m c),
      ((h c).2 Cert.Kernel2Ideal.main_arg6 (Pipeline.mem_restRefs_of _ (by decide) (by decide))).trans (Cert.Kernel2Ideal.Gen.V_main_arg6 m c),
      ((h c).2 Cert.Kernel2Ideal.main_arg7 (Pipeline.mem_restRefs_of _ (by decide) (by decide))).trans (Cert.Kernel2Ideal.Gen.V_main_arg7 m c),
      ((h c).2 Cert.Kernel2Ideal.main_arg8 (Pipeline.mem_restRefs_of _ (by decide) (by decide))).trans (Cert.Kernel2Ideal.Gen.V_main_arg8 m c)⟩
  · refine (θ_run _ _ _).mono (fun r h c => ?_) (Cert.Reference2Ideal.Value.run m' g')
    obtain ⟨h0, h1, h2, h3, h4, h5, h6, h7, h8, h9, hargs⟩ := h c
    have hA : argsRef m' c = argsOf m c := by
      obtain ⟨e0, e1, e2, e3, e4, e5, e6, e7, e8⟩ := hagree c
      unfold argsRef argsOf
      rw [e0, e1, e2, e3, e4, e5, e6, e7, e8]
    have hf : Finite (argsOf m c) := finite_of_pre _ (hpre c)
    rw [← hA] at hf
    refine ⟨h0.trans ((val_main_v111_eq _).trans ((result_mix (argsRef m' c)).trans ?_)),
      h1.trans ((val_main_v112_eq _).trans ((result_nm (argsRef m' c)).trans ?_)),
      h2.trans ((val_main_v113_eq _).trans ((result_act (argsRef m' c)).trans ?_)),
      h3.trans ((val_main_v114_eq _).trans ((result_dpre (argsRef m' c) hf).trans ?_)),
      h4.trans ((val_main_v115_eq _).trans ((result_dh2 (argsRef m' c) hf).trans ?_)),
      h5.trans ((val_main_v107_eq _).trans ((result_dh1 (argsRef m' c) hf).trans ?_)),
      h6.trans ((val_main_v110_eq _).trans ((result_dmixed (argsRef m' c) hf).trans ?_)),
      h7.trans ((val_main_v116_eq _).trans ((result_loss (argsRef m' c)).trans ?_)),
      h8.trans ((val_main_v117_eq _).trans ((result_dgf (argsRef m' c)).trans ?_)),
      h9.trans ((val_main_v106_eq _).trans ((result_dg2 (argsRef m' c) hf).trans ?_)), hargs⟩
    all_goals rewrite [hA]
    · exact (final_mix m c).symm
    · exact (final_nm m c).symm
    · exact (final_act m c).symm
    · exact (final_dpre m c).symm
    · exact (final_dh2 m c).symm
    · exact (final_dh1 m c).symm
    · exact (final_dmixed m c).symm
    · exact (final_loss m c).symm
    · exact (final_dgf m c).symm
    · exact (final_dg2 m c).symm

end Cert.Proof.Post

end
-- ==== Proof.AttnMath.lean ====
/- Softmax attention over one query's scores, as a formula over the extended reals. -/
module

public import proofs.«01_k».proof.Proof.Reals

@[expose] public section

noncomputable section

namespace Cert.Proof.Attn

open Idealize.ShloMosaic

/-- The largest score. -/
def smax {n : ℕ} (s : Fin n → EReal) : EReal := Finset.univ.fold max (Ideal.ofBits .f32 0xFF800000#32) s
/-- A score's weight, before the division. -/
def wt {n : ℕ} (s : Fin n → EReal) (j : Fin n) : EReal := Ideal.exp (s j - smax s)
/-- The sum of the weights. -/
def den {n : ℕ} (s : Fin n → EReal) : EReal := ∑ j, wt s j
/-- The weighted mean of the values. -/
def att {n : ℕ} (s v : Fin n → EReal) : EReal := Ideal.div (∑ j, wt s j * v j) (den s)
/-- The logarithm of the sum of the scores' exponentials. -/
def lse {n : ℕ} (s : Fin n → EReal) : EReal := smax s + Ideal.log (den s)

/-- The queries' factor, one eighth. -/
abbrev qscale : EReal := Ideal.ofBits .f32 0x3E000000#32

/-- The head of a lane in a pair of heads. -/
def hd (l : Fin 128) : Fin 2 := ⟨l.val / 64, by omega⟩

/-- A query's scores with one head's lanes, the other head's at zero, against the keys' 128 lanes. -/
def usc (q : Fin 128 → EReal) (k : Fin 256 → Fin 128 → EReal) (b : Fin 256 → EReal) (h : Fin 2) (j : Fin 256) : EReal :=
  (∑ e : Fin 128, (if hd e = h then q e * qscale else 0) * k j e) + b j

/-- A masked score's weight is zero. -/
theorem wt_bot {n : ℕ} (s : Fin n → EReal) (j : Fin n) (h : s j = ⊥) : wt s j = 0 := by
  rw [wt, h, EReal.bot_sub]
  rfl

/-- Values at masked scores do not matter. -/
theorem att_congr {n : ℕ} {s s' v v' : Fin n → EReal} (hs : s = s') (hv : ∀ j, s j = ⊥ ∨ v j = v' j) : att s v = att s' v' := by
  subst hs
  unfold att
  refine congrArg (Ideal.div · _) (Finset.sum_congr rfl fun j _ => ?_)
  rcases hv j with h | h
  · rw [wt_bot s j h, zero_mul, zero_mul]
  · rw [h]

/-- The sum over a pair's lanes with the other head at zero is the sum over the head's lanes. -/
theorem sum_head (h : Fin 2) (f : Fin 128 → EReal) (g : Fin 128 → EReal) :
    ∑ e : Fin 128, (if hd e = h then f e else 0) * g e
      = ∑ e : Fin 64, f ⟨h.val * 64 + e.val, by omega⟩ * g ⟨h.val * 64 + e.val, by omega⟩ := by
  have key : ∀ F : Fin 128 → EReal, ∑ e : Fin 128, F e = ∑ b : Fin 2, ∑ e : Fin 64, F ⟨b.val * 64 + e.val, by omega⟩ := by
    intro F
    symm
    refine Fin.sum_mul_add_congr fun s k hl => ?_
    rfl
  rw [key]
  rw [Finset.sum_eq_single h]
  · refine Finset.sum_congr rfl fun e _ => ?_
    rw [if_pos]
    exact Fin.ext (by show (h.val * 64 + e.val) / 64 = h.val; omega)
  · intro b _ hb
    refine Finset.sum_eq_zero fun e _ => ?_
    rw [if_neg, zero_mul]
    intro hh
    apply hb
    have := congrArg Fin.val hh
    exact Fin.ext (by change (b.val * 64 + e.val) / 64 = h.val at this; omega)
  · intro hh
    exact absurd (Finset.mem_univ h) hh

/-- The three branches' joined output, in the order in which the kernel works. -/
def comb (l o : Fin 3 → EReal) : EReal :=
  Ideal.div (Ideal.exp (l 0 - max (max (l 0) (l 1)) (l 2)) * o 0 + Ideal.exp (l 1 - max (max (l 0) (l 1)) (l 2)) * o 1
      + Ideal.exp (l 2 - max (max (l 0) (l 1)) (l 2)) * o 2)
    (Ideal.exp (l 0 - max (max (l 0) (l 1)) (l 2)) + Ideal.exp (l 1 - max (max (l 0) (l 1)) (l 2))
      + Ideal.exp (l 2 - max (max (l 0) (l 1)) (l 2)))
/-- The joined logarithm of the sums. -/
def combL (l : Fin 3 → EReal) : EReal :=
  max (max (l 0) (l 1)) (l 2) + Ideal.log (Ideal.exp (l 0 - max (max (l 0) (l 1)) (l 2))
    + Ideal.exp (l 1 - max (max (l 0) (l 1)) (l 2)) + Ideal.exp (l 2 - max (max (l 0) (l 1)) (l 2)))

end Cert.Proof.Attn

end
-- ==== Proof.AttnUnit.lean ====
/- One unit of the dilated attention: 128 queries of two heads against their own and the previous block's keys; and a whole
   block's branch as a formula over the loaded blocks. -/
module

public import proofs.«01_k».proof.Proof.Gen.Kernel3Ideal.Value
public import proofs.«01_k».proof.Proof.AttnMath
public import Idealize.ShloMosaic.Lib.Pipeline.ValueKit
public import Idealize.ShloMosaic.Lib.Pipeline.ReadBack

@[expose] public section

set_option maxRecDepth 16384

noncomputable section

namespace Cert.Proof.Attn

open Cert.Kernel3Ideal Cert.Kernel3Ideal.Gen Idealize.ShloMosaic Idealize.ShloMosaic.TcCoe Idealize.SL.Sem

/-- The unit's scores. -/
def unitS (q : Vec Ideal S128x128 .f32) (k : Vec Ideal S256x128 .f32) (t : Vec Ideal S1x1x256x256 .f32) : FVec Ideal S256x256 .f32 :=
  k0_pay28 k0_pay23 (k0_pay27 q) k t
/-- The unit's largest scores. -/
def unitM (q : Vec Ideal S128x128 .f32) (k : Vec Ideal S256x128 .f32) (t : Vec Ideal S1x1x256x256 .f32) : FVec Ideal S256x1 .f32 :=
  k0_pay29 k0_pay23 (k0_pay27 q) k t
/-- The unit's attended values. -/
def unitO (q : Vec Ideal S128x128 .f32) (k v : Vec Ideal S256x128 .f32) (t : Vec Ideal S1x1x256x256 .f32) : FVec Ideal S1x128x128 .f32 :=
  k0_pay33 k0_pay23 (k0_pay27 q) k v t
/-- The unit's logarithms of sums. -/
def unitL (q : Vec Ideal S128x128 .f32) (k : Vec Ideal S256x128 .f32) (t : Vec Ideal S1x1x256x256 .f32) : FVec Ideal S1x128x128 .f32 :=
  k0_pay34 k0_pay23 (k0_pay32 k0_pay23 (k0_pay27 q) k t)

theorem lane_lt (l : Fin 128) : IntOp.cmpi .slt (BitVec.ofNat 32 l.val) 64#32 = if l.val < 64 then 1#1 else 0#1 := by
  revert l
  decide +kernel

theorem select_lane (l : Fin 128) (x y : EReal) :
    (Scalar.select (IntOp.cmpi .slt (BitVec.ofNat 32 l.val) 64#32) x y : EReal) = if l.val < 64 then x else y := by
  rw [lane_lt]
  by_cases h : l.val < 64
  · rw [if_pos h, if_pos h]; rfl
  · rw [if_neg h, if_neg h]; rfl

/-- The tile's row that a query's head reads. -/
abbrev row (h : Fin 2) (a : Fin 128) : Fin 256 := ⟨h.val * 128 + a.val, by omega⟩

theorem unitS_at (q : Vec Ideal S128x128 .f32) (k : Vec Ideal S256x128 .f32) (t : Vec Ideal S1x1x256x256 .f32) (h : Fin 2) (a : Fin 128) (b : Fin 256) :
    unitS q k t (ix2 (row h a) b)
      = usc (fun e => q (ix2 a e)) (fun j e => k (ix2 j e)) (fun j => t (ix4 0 0 (row h a) j)) h b := by
  unfold usc
  pointwise [unitS, k0_pay28, k0_pay27, k0_pay23]
  refine congrArg (· + _) (Finset.sum_congr rfl fun e _ => congrArg (· * _) ?_)
  have he : hd e = ⟨e.val / 64, by omega⟩ := rfl
  match h with
  | 0 =>
    refine (dif_pos (show 0 * 128 + a.val < 128 by omega)).trans ((select_lane e _ _).trans ?_)
    by_cases hh : e.val < 64
    · rw [if_pos hh, if_pos (Fin.ext (by rw [he]; show e.val / 64 = 0; omega))]
      exact congrArg (fun r => q (ix2 r e) * _) (Fin.ext (by show 0 * 128 + a.val = a.val; omega))
    · rw [if_neg hh, if_neg (fun hc => by have := congrArg Fin.val hc; rw [he] at this; change e.val / 64 = 0 at this; omega)]
  | 1 =>
    refine (dif_neg (show ¬ 1 * 128 + a.val < 128 by omega)).trans ((select_lane e _ _).trans ?_)
    by_cases hh : e.val < 64
    · rw [if_pos hh, if_neg (fun hc => by have := congrArg Fin.val hc; rw [he] at this; change e.val / 64 = 1 at this; omega)]
    · rw [if_neg hh, if_pos (Fin.ext (by rw [he]; show e.val / 64 = 1; omega))]
      exact congrArg (fun r => q (ix2 r e) * _) (Fin.ext (by show 1 * 128 + a.val - 128 = a.val; omega))

theorem unitM_at (q : Vec Ideal S128x128 .f32) (k : Vec Ideal S256x128 .f32) (t : Vec Ideal S1x1x256x256 .f32) (a : Fin 256) :
    unitM q k t (ix2 a 0) = smax fun j => unitS q k t (ix2 a j) := by
  unfold smax unitS
  pointwise [unitM, k0_pay29]

attribute [local irreducible] k0_pay28 k0_pay29

theorem unitO_at (q : Vec Ideal S128x128 .f32) (k v : Vec Ideal S256x128 .f32) (t : Vec Ideal S1x1x256x256 .f32) (u : Fin 1) (a l : Fin 128) :
    unitO q k v t (ix3 u a l)
      = att (usc (fun e => q (ix2 a e)) (fun j e => k (ix2 j e)) (fun j => t (ix4 0 0 (row (hd l) a) j)) (hd l)) (fun j => v (ix2 j l)) := by
  have hs := fun h => funext (unitS_at q k t h a)
  rw [← hs]
  pointwise [unitO, k0_pay33, k0_pay30, k0_pay31]
  unfold att den wt
  simp only [← unitM_at]
  rw [show (k0_pay23 : IVec S1x128 1) (ix2 0 l) = IntOp.cmpi .slt (BitVec.ofNat 32 l.val) 64#32 from by pointwise [k0_pay23], select_lane]
  by_cases hh : l.val < 64
  · rw [if_pos hh, show hd l = 0 from Fin.ext (by show l.val / 64 = 0; omega),
      show row 0 a = ⟨a.val, by omega⟩ from Fin.ext (by show 0 * 128 + a.val = a.val; omega)]
    rfl
  · rw [if_neg hh, show hd l = 1 from Fin.ext (by show l.val / 64 = 1; omega),
      show row 1 a = ⟨128 + a.val, by omega⟩ from Fin.ext (by show 1 * 128 + a.val = 128 + a.val; omega)]
    rfl

theorem unitL_at (q : Vec Ideal S128x128 .f32) (k : Vec Ideal S256x128 .f32) (t : Vec Ideal S1x1x256x256 .f32) (u : Fin 1) (a l : Fin 128) :
    unitL q k t (ix3 u a l)
      = lse (usc (fun e => q (ix2 a e)) (fun j e => k (ix2 j e)) (fun j => t (ix4 0 0 (row (hd l) a) j)) (hd l)) := by
  have hs := fun h => funext (unitS_at q k t h a)
  rw [← hs]
  pointwise [unitL, k0_pay34, k0_pay32, k0_pay30, k0_pay31]
  unfold lse den wt
  simp only [← unitM_at]
  rw [show (k0_pay23 : IVec S1x128 1) (ix2 0 l) = IntOp.cmpi .slt (BitVec.ofNat 32 l.val) 64#32 from by pointwise [k0_pay23], select_lane]
  by_cases hh : l.val < 64
  · rw [if_pos hh, show hd l = 0 from Fin.ext (by show l.val / 64 = 0; omega),
      show row 0 a = ⟨a.val, by omega⟩ from Fin.ext (by show 0 * 128 + a.val = a.val; omega)]
    rfl
  · rw [if_neg hh, show hd l = 1 from Fin.ext (by show l.val / 64 = 1; omega),
      show row 1 a = ⟨128 + a.val, by omega⟩ from Fin.ext (by show 1 * 128 + a.val = 128 + a.val; omega)]
    rfl

end Cert.Proof.Attn

end
-- ==== Proof.AttnBranch.lean ====
/- One block's three branches as formulas over the loaded blocks, and a unit's stores as their part of those. -/
module

public import proofs.«01_k».proof.Proof.AttnUnit

@[expose] public section

set_option maxRecDepth 16384

noncomputable section

namespace Cert.Proof.Attn

open Cert.Kernel3Ideal Cert.Kernel3Ideal.Gen Idealize.ShloMosaic Idealize.ShloMosaic.TcCoe Idealize.SL.Sem

/-- The three dilations. -/
def dil : Fin 3 → ℕ := ![1, 4, 16]

/-- Two blocks one after the other, by row. -/
def two (x1 x2 : Vec Ideal S2048x128 .f32) (n : ℕ) (l : Fin 128) : EReal :=
  if h : n < 2048 then x1 (ix2 ⟨n, h⟩ l) else if h' : n - 2048 < 2048 then x2 (ix2 ⟨n - 2048, h'⟩ l) else 0

/-- A query's place in its block of 128. -/
def plc (d r : ℕ) : Fin 128 := ⟨r / d % 128, by omega⟩
/-- The row of a query's first key in the two blocks. -/
def kbase (d r : ℕ) : ℕ := 2048 + r - d * (plc d r).val - 128 * d

/-- A query's scores in one branch. -/
def brS (x0 x1 x2 : Vec Ideal S2048x128 .f32) (T : Vec Ideal S3x2x256x256 .f32) (f : Fin 2) (di : Fin 3) (r : Fin 2048) (h : Fin 2) : Fin 256 → EReal :=
  usc (fun e => x0 (ix2 r e)) (fun j e => two x1 x2 (kbase (dil di) r.val + dil di * j.val) e)
    (fun j => T (ix4 di (if r.val / dil di / 128 = 0 then f else 0) (row h (plc (dil di) r.val)) j)) h
/-- The branches' outputs. -/
def brO (x0 x1 x2 x3 x4 : Vec Ideal S2048x128 .f32) (T : Vec Ideal S3x2x256x256 .f32) (f : Fin 2) (y : S3x2048x128.Idx) : EReal :=
  att (brS x0 x1 x2 T f (y 0) (y 1) (hd (y 2))) (fun j => two x3 x4 (kbase (dil (y 0)) (y 1).val + dil (y 0) * j.val) (y 2))
/-- The branches' logarithms of sums. -/
def brL (x0 x1 x2 : Vec Ideal S2048x128 .f32) (T : Vec Ideal S3x2x256x256 .f32) (f : Fin 2) (y : S3x2048x128.Idx) : EReal :=
  lse (brS x0 x1 x2 T f (y 0) (y 1) (hd (y 2)))

/-- A unit's data: the queries, keys, values and tile that its branch names. -/
structure IsUnit (x0 x1 x2 x3 x4 : Vec Ideal S2048x128 .f32) (T : Vec Ideal S3x2x256x256 .f32) (f : Fin 2) (di : Fin 3) (d off : ℕ)
    (hlt : off + 127 * d < 2048) (q : Vec Ideal S128x128 .f32) (k v : Vec Ideal S256x128 .f32) (t : Vec Ideal S1x1x256x256 .f32) : Prop where
  hd : dil di = d
  h128 : off / d % 128 = 0
  hq : ∀ (a e : Fin 128), q (ix2 a e) = x0 (ix2 ⟨off + d * a.val, by have := Nat.mul_le_mul_left d (show a.val ≤ 127 by omega); omega⟩ e)
  hk : ∀ (j : Fin 256) (e : Fin 128), k (ix2 j e) = two x1 x2 (2048 + off - 128 * d + d * j.val) e
  hv : ∀ (j : Fin 256) (e : Fin 128), v (ix2 j e) = two x3 x4 (2048 + off - 128 * d + d * j.val) e
  ht : ∀ b j : Fin 256, t (ix4 0 0 b j) = T (ix4 di (if off / d / 128 = 0 then f else 0) b j)

namespace IsUnit

variable {x0 x1 x2 x3 x4 : Vec Ideal S2048x128 .f32} {T : Vec Ideal S3x2x256x256 .f32} {f : Fin 2} {di : Fin 3} {d off : ℕ}
  {hlt : off + 127 * d < 2048} {q : Vec Ideal S128x128 .f32} {k v : Vec Ideal S256x128 .f32} {t : Vec Ideal S1x1x256x256 .f32}

theorem scores (H : IsUnit x0 x1 x2 x3 x4 T f di d off hlt q k v t) (a l : Fin 128) (ha : off + d * a.val < 2048) :
    usc (fun e => q (ix2 a e)) (fun j e => k (ix2 j e)) (fun j => t (ix4 0 0 (row (Attn.hd l) a) j)) (Attn.hd l)
      = brS x0 x1 x2 T f di ⟨off + d * a.val, ha⟩ (Attn.hd l)
    ∧ kbase (dil di) (off + d * a.val) = 2048 + off - 128 * d := by
  have hd0 : 0 < d := by
    have h := H.hd
    have h0 : ∀ di : Fin 3, 0 < dil di := by decide
    rw [← h]; exact h0 di
  have e1 : (off + d * a.val) / d = off / d + a.val := Nat.add_mul_div_left _ _ hd0
  have h1 := H.h128
  have e2 : plc (dil di) (off + d * a.val) = a := Fin.ext (by
    show (off + d * a.val) / dil di % 128 = a.val
    rw [H.hd, e1]; omega)
  have e3 : (off + d * a.val) / d / 128 = off / d / 128 := by rw [e1]; omega
  have e4 : kbase (dil di) (off + d * a.val) = 2048 + off - 128 * d := by
    unfold kbase
    rw [e2, H.hd]
    generalize d * a.val = z
    omega
  refine ⟨?_, e4⟩
  unfold brS
  rw [H.hd] at e2 e4
  simp only [H.hq, H.hk, H.ht, H.hd, e4, e2, e3]

theorem piece_O (H : IsUnit x0 x1 x2 x3 x4 T f di d off hlt q k v t) (u : Fin 1) (a l : Fin 128) (ha : off + d * a.val < 2048) :
    unitO q k v t (ix3 u a l) = brO x0 x1 x2 x3 x4 T f (ix3 di ⟨off + d * a.val, ha⟩ l) := by
  rw [unitO_at, (H.scores a l ha).1]
  unfold brO
  simp only [H.hv]
  show _ = att _ fun j => two x3 x4 (kbase (dil di) (off + d * a.val) + dil di * j.val) l
  rw [(H.scores a l ha).2, H.hd]
  rfl

theorem piece_L (H : IsUnit x0 x1 x2 x3 x4 T f di d off hlt q k v t) (u : Fin 1) (a l : Fin 128) (ha : off + d * a.val < 2048) :
    unitL q k t (ix3 u a l) = brL x0 x1 x2 T f (ix3 di ⟨off + d * a.val, ha⟩ l) := by
  rw [unitL_at, (H.scores a l ha).1]
  rfl

end IsUnit

/-- Where a unit's store puts an entry. -/
theorem emb_strided {di : Fin 3} {din d off : ℕ} (hdi : din = di.val) (inb) (pos) (u : Fin 1) (a l : Fin 128) (ha : off + d * a.val < 2048) :
    (Rect.emb (s := S3x2048x128) { off := ![din, off, 0], size := S1x128x128.size, stride := ![1, d, 1], inb := inb, stride_pos := pos }) (ix3 u a l)
      = ix3 di ⟨off + d * a.val, ha⟩ l := by
  subst hdi
  funext x
  refine Fin.ext ?_
  fin_cases x
  · show di.val + 1 * u.val = di.val; omega
  · rfl
  · show 0 + 1 * l.val = l.val; omega

theorem emb_unit {off : ℕ} (inb) (u : Fin 1) (a l : Fin 128) (ha : off + 1 * a.val < 2048) :
    (Rect.emb (s := S3x2048x128) (Rect.unit ![0, off, 0] S1x128x128.size inb)) (ix3 u a l) = ix3 0 ⟨off + 1 * a.val, ha⟩ l := by
  funext x
  refine Fin.ext ?_
  fin_cases x
  · show 0 + 1 * u.val = 0; omega
  · rfl
  · show 0 + 1 * l.val = l.val; omega

end Cert.Proof.Attn

end
-- ==== Proof.AttnPieces.lean ====
/- Each unit's stores in the kernel's run, at a block's first point of a pair of heads and at the others. -/
module

public import proofs.«01_k».proof.Proof.AttnBranch

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable {c : Dev nD} {arg2 : Memref sig .tc .vmem S2048x128 .f32} {harg2 : arg2.IsWhole} {arg3 : Memref sig .tc .vmem S2048x128 .f32} {harg3 : arg3.IsWhole}
  {arg4 : Memref sig .tc .vmem S2048x128 .f32} {harg4 : arg4.IsWhole} {arg5 : Memref sig .tc .vmem S2048x128 .f32} {harg5 : arg5.IsWhole}
  {arg6 : Memref sig .tc .vmem S2048x128 .f32} {harg6 : arg6.IsWhole} {arg10 arg11 : Memref sig .tc .vmem S4096x128 .f32}
  {arg14 : Memref sig .tc .vmem S3x2x256x256 .f32}
  {x0 x1 x2 x3 x4 : Vec Ideal S2048x128 .f32}

theorem idx2 {n0 n1 : ℕ} (y : Shape.Idx ⟨2, ![n0, n1]⟩) (a : Fin n0) (b : Fin n1) (h0 : (y 0).val = a.val) (h1 : (y 1).val = b.val) : y = ix2 a b := by
  funext x
  refine Fin.ext ?_
  fin_cases x
  · exact h0
  · exact h1

theorem ld_row (R : LoadRect S2048x128) (j : R.shape.Idx) (r : Fin 2048) (e : Fin 128) (h0 : (R.idx j 0).val = r.val) (h1 : (R.idx j 1).val = e.val) :
    View.readAt (Elt Ideal) arg2.view R (harg2.unread x0) j = x0 (ix2 r e) := by
  rw [View.readAt_apply, harg2.read_unread]
  exact congrArg x0 (idx2 _ _ _ h0 h1)

theorem two_whole (y : S4096x128.Idx) : View.canon (kernelRun0_A.sl.HS0_2 (F := Ideal) c arg3 harg3 arg4 harg4 x1 x2) y = two x1 x2 (y 0).val (y 1) := by
  refine View.canon_apply_of_pieces (fun y => two x1 x2 (y 0).val (y 1)) _ ?_ y
    (View.cover_of_tiledL (kernelRun0_A.sl.HS0_2 (F := Ideal) c arg3 harg3 arg4 harg4 x1 x2) S2048x128.size (by sl_kernel_rfl) y)
  refine List.forall_mem_cons.2 ⟨fun z => ?_, List.forall_mem_cons.2 ⟨fun z => ?_, List.forall_mem_nil _⟩⟩
  · idx_vars z
    have e : (Rect.emb (s := S4096x128) (Rect.unit ![2048, 0] S2048x128.size inb_S4096x128_S2048x128_2048_0)) (ix2 z0 z1) = ix2 ⟨2048 + z0.val, by omega⟩ z1 :=
      idx2 _ _ _ (by show 2048 + 1 * z0.val = 2048 + z0.val; omega) (by show 0 + 1 * z1.val = z1.val; omega)
    refine Eq.trans ?_ (congrArg (fun y : S4096x128.Idx => two x1 x2 (y 0).val (y 1)) e).symm
    show k0_pay20 (F := Ideal) _ (ix2 z0 z1) = two x1 x2 (2048 + z0.val) z1
    rw [two, dif_neg (by omega), dif_pos (by omega)]
    pointwise [k0_pay20]
    refine (ld_row (arg2 := arg4) (harg2 := harg4) (x0 := x2) _ _ z0 z1 ?_ ?_).trans ?_
    · show 0 + 1 * z0.val = z0.val; omega
    · show 0 + 1 * z1.val = z1.val; omega
    · exact congrArg (fun r => x2 (ix2 r z1)) (Fin.ext (by simp))
  · idx_vars z
    have e : (Rect.emb (s := S4096x128) (Rect.unit ![0, 0] S2048x128.size inb_S4096x128_S2048x128_0_0)) (ix2 z0 z1) = ix2 ⟨z0.val, by omega⟩ z1 :=
      idx2 _ _ _ (by show 0 + 1 * z0.val = z0.val; omega) (by show 0 + 1 * z1.val = z1.val; omega)
    refine Eq.trans ?_ (congrArg (fun y : S4096x128.Idx => two x1 x2 (y 0).val (y 1)) e).symm
    show k0_pay19 (F := Ideal) _ (ix2 z0 z1) = two x1 x2 z0.val z1
    rw [two, dif_pos z0.isLt]
    pointwise [k0_pay19]
    refine ld_row (arg2 := arg3) (harg2 := harg3) (x0 := x1) _ _ z0 z1 ?_ ?_
    · show 0 + 1 * z0.val = z0.val; omega
    · show 0 + 1 * z1.val = z1.val; omega

theorem ld_two (R : LoadRect S4096x128) (j : R.shape.Idx) (n : ℕ) (e : Fin 128) (h0 : (R.idx j 0).val = n) (h1 : (R.idx j 1).val = e.val) :
    arg10.view.readCov (kernelRun0_A.sl.HS0_2 (F := Ideal) c arg3 harg3 arg4 harg4 x1 x2) R j = two x1 x2 n e := by
  rw [View.readCov_eq_canon']
  show View.canon (kernelRun0_A.sl.HS0_2 (F := Ideal) c arg3 harg3 arg4 harg4 x1 x2) (R.idx j) = _
  rw [two_whole, h0, show R.idx j 1 = e from Fin.ext h1]

/-- The loads of a unit whose rows are `d` apart. -/
theorem data_strided {T : Vec Ideal S3x2x256x256 .f32} {f : Fin 2} {di : Fin 3} {d off ko : ℕ} {inbq inbk inbv} {t : Vec Ideal S1x1x256x256 .f32}
    (hd : dil di = d) (h128 : off / d % 128 = 0) (hko : ko = 2048 + off - 128 * d) (hlt : off + 127 * d < 2048)
    (ht : ∀ b j : Fin 256, t (ix4 0 0 b j) = T (ix4 di (if off / d / 128 = 0 then f else 0) b j)) :
    IsUnit x0 x1 x2 x3 x4 T f di d off hlt
      (View.readAt (Elt Ideal) arg2.view { off := ![off, 0], size := S128x128.size, stride := ![d, 1], inb := inbq } (harg2.unread x0))
      (arg10.view.readCov (kernelRun0_A.sl.HS0_2 (F := Ideal) c arg3 harg3 arg4 harg4 x1 x2)
        { off := ![ko, 0], size := S256x128.size, stride := ![d, 1], inb := inbk })
      (arg11.view.readCov (kernelRun0_A.sl.HS0_2 (F := Ideal) c arg5 harg5 arg6 harg6 x3 x4)
        { off := ![ko, 0], size := S256x128.size, stride := ![d, 1], inb := inbv }) t where
  hd := hd
  h128 := h128
  hq a e := ld_row _ _ _ _ rfl (by show 0 + 1 * e.val = e.val; omega)
  hk j e := ld_two _ _ _ _ (by subst hko; rfl) (by show 0 + 1 * e.val = e.val; omega)
  hv j e := ld_two _ _ _ _ (by subst hko; rfl) (by show 0 + 1 * e.val = e.val; omega)
  ht := ht

/-- The loads of a unit whose rows are next to one another. -/
theorem data_unit {T : Vec Ideal S3x2x256x256 .f32} {f : Fin 2} {off ko : ℕ} {inbq inbk inbv} {t : Vec Ideal S1x1x256x256 .f32}
    (h128 : off / 1 % 128 = 0) (hko : ko = 2048 + off - 128 * 1) (hlt : off + 127 * 1 < 2048)
    (ht : ∀ b j : Fin 256, t (ix4 0 0 b j) = T (ix4 0 (if off / 1 / 128 = 0 then f else 0) b j)) :
    IsUnit x0 x1 x2 x3 x4 T f 0 1 off hlt
      (View.readAt (Elt Ideal) arg2.view (Rect.unit (s := S2048x128) ![off, 0] S128x128.size inbq).toLoadRect (harg2.unread x0))
      (arg10.view.readCov (kernelRun0_A.sl.HS0_2 (F := Ideal) c arg3 harg3 arg4 harg4 x1 x2) (Rect.unit (s := S4096x128) ![ko, 0] S256x128.size inbk).toLoadRect)
      (arg11.view.readCov (kernelRun0_A.sl.HS0_2 (F := Ideal) c arg5 harg5 arg6 harg6 x3 x4) (Rect.unit (s := S4096x128) ![ko, 0] S256x128.size inbv).toLoadRect) t where
  hd := rfl
  h128 := h128
  hq a e := ld_row _ _ _ _ rfl (by show 0 + 1 * e.val = e.val; omega)
  hk j e := ld_two _ _ _ _ (by subst hko; rfl) (by show 0 + 1 * e.val = e.val; omega)
  hv j e := ld_two _ _ _ _ (by subst hko; rfl) (by show 0 + 1 * e.val = e.val; omega)
  ht := ht

/-- A piece that holds its part of the branches. -/
abbrev Holds (G : S3x2048x128.Idx → EReal) (p : View.Piece (Elt Ideal) S3x2048x128 .f32) : Prop := ∀ z : p.1.shape.Idx, p.2 z = G (p.1.emb z)

theorem holdsO_strided {T : Vec Ideal S3x2x256x256 .f32} {f : Fin 2} {di : Fin 3} {din d off ko : ℕ} {inbq inbk inbv inbo pos} {t : Vec Ideal S1x1x256x256 .f32}
    (hdi : din = di.val) (hd : dil di = d) (h128 : off / d % 128 = 0) (hko : ko = 2048 + off - 128 * d) (hlt : off + 127 * d < 2048)
    (ht : ∀ b j : Fin 256, t (ix4 0 0 b j) = T (ix4 di (if off / d / 128 = 0 then f else 0) b j)) :
    Holds (brO x0 x1 x2 x3 x4 T f) ⟨{ off := ![din, off, 0], size := S1x128x128.size, stride := ![1, d, 1], inb := inbo, stride_pos := pos }, unitO
      (View.readAt (Elt Ideal) arg2.view { off := ![off, 0], size := S128x128.size, stride := ![d, 1], inb := inbq } (harg2.unread x0))
      (arg10.view.readCov (kernelRun0_A.sl.HS0_2 (F := Ideal) c arg3 harg3 arg4 harg4 x1 x2)
        { off := ![ko, 0], size := S256x128.size, stride := ![d, 1], inb := inbk })
      (arg11.view.readCov (kernelRun0_A.sl.HS0_2 (F := Ideal) c arg5 harg5 arg6 harg6 x3 x4)
        { off := ![ko, 0], size := S256x128.size, stride := ![d, 1], inb := inbv }) t⟩ := fun z => by
  obtain ⟨u, a, l, rfl⟩ : ∃ (u : Fin 1) (a l : Fin 128), z = ix3 u a l := ⟨z 0, z 1, z 2, by funext x; fin_cases x <;> rfl⟩
  have ha : off + d * a.val < 2048 := by have := Nat.mul_le_mul_left d (show a.val ≤ 127 by omega); omega
  refine ((data_strided hd h128 hko hlt ht).piece_O u a l ha).trans ?_
  exact congrArg _ (emb_strided hdi inbo pos u a l ha).symm

theorem holdsL_strided {T : Vec Ideal S3x2x256x256 .f32} {f : Fin 2} {di : Fin 3} {din d off ko : ℕ} {inbq inbk inbo pos} {t : Vec Ideal S1x1x256x256 .f32}
    (hdi : din = di.val) (hd : dil di = d) (h128 : off / d % 128 = 0) (hko : ko = 2048 + off - 128 * d) (hlt : off + 127 * d < 2048)
    (ht : ∀ b j : Fin 256, t (ix4 0 0 b j) = T (ix4 di (if off / d / 128 = 0 then f else 0) b j)) :
    Holds (brL x0 x1 x2 T f) ⟨{ off := ![din, off, 0], size := S1x128x128.size, stride := ![1, d, 1], inb := inbo, stride_pos := pos }, unitL
      (View.readAt (Elt Ideal) arg2.view { off := ![off, 0], size := S128x128.size, stride := ![d, 1], inb := inbq } (harg2.unread x0))
      (arg10.view.readCov (kernelRun0_A.sl.HS0_2 (F := Ideal) c arg3 harg3 arg4 harg4 x1 x2)
        { off := ![ko, 0], size := S256x128.size, stride := ![d, 1], inb := inbk }) t⟩ := fun z => by
  obtain ⟨u, a, l, rfl⟩ : ∃ (u : Fin 1) (a l : Fin 128), z = ix3 u a l := ⟨z 0, z 1, z 2, by funext x; fin_cases x <;> rfl⟩
  have ha : off + d * a.val < 2048 := by have := Nat.mul_le_mul_left d (show a.val ≤ 127 by omega); omega
  refine ((data_strided (c := c) (x3 := x1) (x4 := x2) (arg11 := arg10) (harg5 := harg3) (harg6 := harg4) (inbv := inbk) hd h128 hko hlt ht).piece_L u a l ha).trans ?_
  exact congrArg _ (emb_strided hdi inbo pos u a l ha).symm

theorem holdsO_unit {T : Vec Ideal S3x2x256x256 .f32} {f : Fin 2} {off ko : ℕ} {inbq inbk inbv inbo} {t : Vec Ideal S1x1x256x256 .f32}
    (h128 : off / 1 % 128 = 0) (hko : ko = 2048 + off - 128 * 1) (hlt : off + 127 * 1 < 2048)
    (ht : ∀ b j : Fin 256, t (ix4 0 0 b j) = T (ix4 0 (if off / 1 / 128 = 0 then f else 0) b j)) :
    Holds (brO x0 x1 x2 x3 x4 T f) ⟨Rect.unit ![0, off, 0] S1x128x128.size inbo, unitO
      (View.readAt (Elt Ideal) arg2.view (Rect.unit (s := S2048x128) ![off, 0] S128x128.size inbq).toLoadRect (harg2.unread x0))
      (arg10.view.readCov (kernelRun0_A.sl.HS0_2 (F := Ideal) c arg3 harg3 arg4 harg4 x1 x2) (Rect.unit (s := S4096x128) ![ko, 0] S256x128.size inbk).toLoadRect)
      (arg11.view.readCov (kernelRun0_A.sl.HS0_2 (F := Ideal) c arg5 harg5 arg6 harg6 x3 x4) (Rect.unit (s := S4096x128) ![ko, 0] S256x128.size inbv).toLoadRect) t⟩ := fun z => by
  obtain ⟨u, a, l, rfl⟩ : ∃ (u : Fin 1) (a l : Fin 128), z = ix3 u a l := ⟨z 0, z 1, z 2, by funext x; fin_cases x <;> rfl⟩
  have ha : off + 1 * a.val < 2048 := by omega
  refine ((data_unit h128 hko hlt ht).piece_O u a l ha).trans ?_
  exact congrArg _ (emb_unit inbo u a l ha).symm

theorem holdsL_unit {T : Vec Ideal S3x2x256x256 .f32} {f : Fin 2} {off ko : ℕ} {inbq inbk inbo} {t : Vec Ideal S1x1x256x256 .f32}
    (h128 : off / 1 % 128 = 0) (hko : ko = 2048 + off - 128 * 1) (hlt : off + 127 * 1 < 2048)
    (ht : ∀ b j : Fin 256, t (ix4 0 0 b j) = T (ix4 0 (if off / 1 / 128 = 0 then f else 0) b j)) :
    Holds (brL x0 x1 x2 T f) ⟨Rect.unit ![0, off, 0] S1x128x128.size inbo, unitL
      (View.readAt (Elt Ideal) arg2.view (Rect.unit (s := S2048x128) ![off, 0] S128x128.size inbq).toLoadRect (harg2.unread x0))
      (arg10.view.readCov (kernelRun0_A.sl.HS0_2 (F := Ideal) c arg3 harg3 arg4 harg4 x1 x2) (Rect.unit (s := S4096x128) ![ko, 0] S256x128.size inbk).toLoadRect) t⟩ := fun z => by
  obtain ⟨u, a, l, rfl⟩ : ∃ (u : Fin 1) (a l : Fin 128), z = ix3 u a l := ⟨z 0, z 1, z 2, by funext x; fin_cases x <;> rfl⟩
  have ha : off + 1 * a.val < 2048 := by omega
  refine ((data_unit (c := c) (x3 := x1) (x4 := x2) (arg11 := arg10) (harg5 := harg3) (harg6 := harg4) (inbv := inbk) h128 hko hlt ht).piece_L u a l ha).trans ?_
  exact congrArg _ (emb_unit inbo u a l ha).symm

end Cert.Proof.Attn

end
-- ==== Proof.AttnLists.lean ====
/- The stores of all 48 units of a block, and what they cover. -/
module

public import proofs.«01_k».proof.Proof.AttnPieces

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable {c : Dev nD} {i : grid0.Coords} {arg2 : Memref sig .tc .vmem S2048x128 .f32} {harg2 : arg2.IsWhole} {arg3 : Memref sig .tc .vmem S2048x128 .f32} {harg3 : arg3.IsWhole}
  {arg4 : Memref sig .tc .vmem S2048x128 .f32} {harg4 : arg4.IsWhole} {arg5 : Memref sig .tc .vmem S2048x128 .f32} {harg5 : arg5.IsWhole}
  {arg6 : Memref sig .tc .vmem S2048x128 .f32} {harg6 : arg6.IsWhole} {arg7 : Memref sig .tc .vmem S3x1x256x256 .f32} {harg7 : arg7.IsWhole}
  {arg10 arg11 : Memref sig .tc .vmem S4096x128 .f32} {arg14 : Memref sig .tc .vmem S3x2x256x256 .f32}
  {x0 x1 x2 x3 x4 : Vec Ideal S2048x128 .f32} {x5 : Vec Ideal S3x1x256x256 .f32}

/-- The tiles after the first point's stores. -/
abbrev tilesA (c : Dev nD) (arg7 : Memref sig .tc .vmem S3x1x256x256 .f32) (harg7 : arg7.IsWhole) (x5 : Vec Ideal S3x1x256x256 .f32) : Vec Ideal S3x2x256x256 .f32 :=
  View.canon (kernelRun0_A.sl.HS4_6 (F := Ideal) c arg7 harg7 x5)

theorem tile_emb {off : Fin 4 → ℕ} {di : Fin 3} {v : Fin 2} (inb) (hoff : off = ![di.val, v.val, 0, 0]) (b j : Fin 256) :
    (Rect.unit (s := S3x2x256x256) off S1x1x256x256.size inb).toLoadRect.idx (ix4 0 0 b j) = ix4 di v b j := by
  subst hoff
  funext x
  refine Fin.ext ?_
  fin_cases x
  · rfl
  · rfl
  · show 0 + 1 * b.val = b.val; omega
  · show 0 + 1 * j.val = j.val; omega

theorem tile_static {off : Fin 4 → ℕ} {di : Fin 3} {v : Fin 2} {inb} {t : Vec Ideal S1x1x256x256 .f32}
    (ht : t = arg14.view.readCov (kernelRun0_A.sl.HS4_6 (F := Ideal) c arg7 harg7 x5) (Rect.unit (s := S3x2x256x256) off S1x1x256x256.size inb).toLoadRect)
    (hoff : off = ![di.val, v.val, 0, 0]) (b j : Fin 256) :
    t (ix4 0 0 b j) = tilesA c arg7 harg7 x5 (ix4 di v b j) := by
  rw [ht, View.readCov_eq_canon']
  exact congrArg (tilesA c arg7 harg7 x5) (tile_emb inb hoff b j)

theorem tile_dynamic {off : Fin 4 → ℕ} {di : Fin 3} {v : Fin 2} {inb} {t : Vec Ideal S1x1x256x256 .f32}
    (ht : t = View.readAt (Elt Ideal) arg14.view (Rect.unit (s := S3x2x256x256) off S1x1x256x256.size inb).toLoadRect
      (arg14.view.writes (Elt Ideal) arg14.view.junk (kernelRun0_A.sl.HS4_6 (F := Ideal) c arg7 harg7 x5)))
    (hoff : off = ![di.val, v.val, 0, 0]) (b j : Fin 256) :
    t (ix4 0 0 b j) = tilesA c arg7 harg7 x5 (ix4 di v b j) := by
  rw [ht, View.readAt_writes_junk_eq_canon]
  exact congrArg (tilesA c arg7 harg7 x5) (tile_emb inb hoff b j)

/-- Every piece of a list holds its part of the branches. -/
def AllHold (G : S3x2048x128.Idx → EReal) (L : List (View.Piece (Elt Ideal) S3x2048x128 .f32)) : Prop := ∀ p ∈ L, Holds G p

theorem AllHold.nil {G : S3x2048x128.Idx → EReal} : AllHold G [] := fun _ h => absurd h (List.not_mem_nil)

theorem AllHold.cons {G : S3x2048x128.Idx → EReal} {p : View.Piece (Elt Ideal) S3x2048x128 .f32} {L : List (View.Piece (Elt Ideal) S3x2048x128 .f32)}
    (hp : Holds G p) (hL : AllHold G L) : AllHold G (p :: L) := List.forall_mem_cons.2 ⟨hp, hL⟩

theorem paidO_strided {T : Vec Ideal S3x2x256x256 .f32} {f : Fin 2} {di : Fin 3} {din d off ko : ℕ} {inbq inbk inbv inbo pos}
    {P : Vec Ideal S1x128x128 .f32} {q : Vec Ideal S128x128 .f32} {k v : Vec Ideal S256x128 .f32} {t : Vec Ideal S1x1x256x256 .f32}
    (hP : P = unitO q k v t) (hq : q = (View.readAt (Elt Ideal) arg2.view { off := ![off, 0], size := S128x128.size, stride := ![d, 1], inb := inbq } (harg2.unread x0)))
    (hk : k = (arg10.view.readCov (kernelRun0_A.sl.HS0_2 (F := Ideal) c arg3 harg3 arg4 harg4 x1 x2)
      { off := ![ko, 0], size := S256x128.size, stride := ![d, 1], inb := inbk }))
    (hv : v = (arg11.view.readCov (kernelRun0_A.sl.HS0_2 (F := Ideal) c arg5 harg5 arg6 harg6 x3 x4)
      { off := ![ko, 0], size := S256x128.size, stride := ![d, 1], inb := inbv }))
    (hdi : din = di.val) (hd : dil di = d) (h128 : off / d % 128 = 0) (hko : ko = 2048 + off - 128 * d) (hlt : off + 127 * d < 2048)
    (ht : ∀ b j : Fin 256, t (ix4 0 0 b j) = T (ix4 di (if off / d / 128 = 0 then f else 0) b j)) :
    Holds (brO x0 x1 x2 x3 x4 T f) ⟨{ off := ![din, off, 0], size := S1x128x128.size, stride := ![1, d, 1], inb := inbo, stride_pos := pos }, P⟩ := by
  subst hP hq hk hv
  exact holdsO_strided hdi hd h128 hko hlt ht

theorem paidO_unit {T : Vec Ideal S3x2x256x256 .f32} {f : Fin 2} {off ko : ℕ} {inbq inbk inbv inbo}
    {P : Vec Ideal S1x128x128 .f32} {q : Vec Ideal S128x128 .f32} {k v : Vec Ideal S256x128 .f32} {t : Vec Ideal S1x1x256x256 .f32}
    (hP : P = unitO q k v t) (hq : q = (View.readAt (Elt Ideal) arg2.view (Rect.unit (s := S2048x128) ![off, 0] S128x128.size inbq).toLoadRect (harg2.unread x0)))
    (hk : k = (arg10.view.readCov (kernelRun0_A.sl.HS0_2 (F := Ideal) c arg3 harg3 arg4 harg4 x1 x2)
      (Rect.unit (s := S4096x128) ![ko, 0] S256x128.size inbk).toLoadRect))
    (hv : v = (arg11.view.readCov (kernelRun0_A.sl.HS0_2 (F := Ideal) c arg5 harg5 arg6 harg6 x3 x4)
      (Rect.unit (s := S4096x128) ![ko, 0] S256x128.size inbv).toLoadRect))
    (h128 : off / 1 % 128 = 0) (hko : ko = 2048 + off - 128 * 1) (hlt : off + 127 * 1 < 2048)
    (ht : ∀ b j : Fin 256, t (ix4 0 0 b j) = T (ix4 0 (if off / 1 / 128 = 0 then f else 0) b j)) :
    Holds (brO x0 x1 x2 x3 x4 T f) ⟨Rect.unit ![0, off, 0] S1x128x128.size inbo, P⟩ := by
  subst hP hq hk hv
  exact holdsO_unit h128 hko hlt ht

theorem paidL_strided {T : Vec Ideal S3x2x256x256 .f32} {f : Fin 2} {di : Fin 3} {din d off ko : ℕ} {inbq inbk inbo pos}
    {P : Vec Ideal S1x128x128 .f32} {q : Vec Ideal S128x128 .f32} {k : Vec Ideal S256x128 .f32} {t : Vec Ideal S1x1x256x256 .f32}
    (hP : P = unitL q k t) (hq : q = (View.readAt (Elt Ideal) arg2.view { off := ![off, 0], size := S128x128.size, stride := ![d, 1], inb := inbq } (harg2.unread x0)))
    (hk : k = (arg10.view.readCov (kernelRun0_A.sl.HS0_2 (F := Ideal) c arg3 harg3 arg4 harg4 x1 x2)
      { off := ![ko, 0], size := S256x128.size, stride := ![d, 1], inb := inbk }))
    (hdi : din = di.val) (hd : dil di = d) (h128 : off / d % 128 = 0) (hko : ko = 2048 + off - 128 * d) (hlt : off + 127 * d < 2048)
    (ht : ∀ b j : Fin 256, t (ix4 0 0 b j) = T (ix4 di (if off / d / 128 = 0 then f else 0) b j)) :
    Holds (brL x0 x1 x2 T f) ⟨{ off := ![din, off, 0], size := S1x128x128.size, stride := ![1, d, 1], inb := inbo, stride_pos := pos }, P⟩ := by
  subst hP hq hk
  exact holdsL_strided hdi hd h128 hko hlt ht

theorem paidL_unit {T : Vec Ideal S3x2x256x256 .f32} {f : Fin 2} {off ko : ℕ} {inbq inbk inbo}
    {P : Vec Ideal S1x128x128 .f32} {q : Vec Ideal S128x128 .f32} {k : Vec Ideal S256x128 .f32} {t : Vec Ideal S1x1x256x256 .f32}
    (hP : P = unitL q k t) (hq : q = (View.readAt (Elt Ideal) arg2.view (Rect.unit (s := S2048x128) ![off, 0] S128x128.size inbq).toLoadRect (harg2.unread x0)))
    (hk : k = (arg10.view.readCov (kernelRun0_A.sl.HS0_2 (F := Ideal) c arg3 harg3 arg4 harg4 x1 x2)
      (Rect.unit (s := S4096x128) ![ko, 0] S256x128.size inbk).toLoadRect))
    (h128 : off / 1 % 128 = 0) (hko : ko = 2048 + off - 128 * 1) (hlt : off + 127 * 1 < 2048)
    (ht : ∀ b j : Fin 256, t (ix4 0 0 b j) = T (ix4 0 (if off / 1 / 128 = 0 then f else 0) b j)) :
    Holds (brL x0 x1 x2 T f) ⟨Rect.unit ![0, off, 0] S1x128x128.size inbo, P⟩ := by
  subst hP hq hk
  exact holdsL_unit h128 hko hlt ht

variable {harg14 : arg14.IsWhole} {xs4 : Vec Ideal S3x2x256x256 .f32}

theorem tile_kept {off : Fin 4 → ℕ} {di : Fin 3} {v : Fin 2} {inb} {t : Vec Ideal S1x1x256x256 .f32}
    (ht : t = View.readAt (Elt Ideal) arg14.view (Rect.unit (s := S3x2x256x256) off S1x1x256x256.size inb).toLoadRect (harg14.unread xs4))
    (hoff : off = ![di.val, v.val, 0, 0]) (b j : Fin 256) : t (ix4 0 0 b j) = xs4 (ix4 di v b j) := by
  rw [ht, View.readAt, harg14.read_unread]
  exact congrArg xs4 (tile_emb inb hoff b j)

/-- The pieces of the branches' outputs at a pair's first block. -/
theorem allA_O (h1 : k0_off1 i = ![0, 1, 0, 0]) (h2 : k0_off2 i = ![1, 1, 0, 0]) (h3 : k0_off3 i = ![2, 1, 0, 0]) :
    AllHold (brO x0 x1 x2 x3 x4 (tilesA c arg7 harg7 x5) 1) (kernelRun0_A.sl.HS2_48 (F := Ideal) c i arg2 harg2 arg3 harg3 arg4 harg4 arg5 harg5 arg6 harg6 arg7 harg7
      arg10 arg11 arg14 x0 x1 x2 x3 x4 x5) := by
  iterate 16
    refine AllHold.cons ?_ ?_
    · exact paidO_strided (di := 2) rfl rfl rfl rfl rfl rfl rfl rfl (by decide) (tile_dynamic (v := 1) rfl h3)
  iterate 4
    iterate 3
      refine AllHold.cons ?_ ?_
      · exact paidO_strided (di := 1) rfl rfl rfl rfl rfl rfl rfl rfl (by decide) (tile_static (v := 0) rfl rfl)
    refine AllHold.cons ?_ ?_
    · exact paidO_strided (di := 1) rfl rfl rfl rfl rfl rfl rfl rfl (by decide) (tile_dynamic (v := 1) rfl h2)
  iterate 15
    refine AllHold.cons ?_ ?_
    · exact paidO_unit rfl rfl rfl rfl rfl rfl (by decide) (tile_static (v := 0) rfl rfl)
  refine AllHold.cons ?_ AllHold.nil
  exact paidO_unit rfl rfl rfl rfl rfl rfl (by decide) (tile_dynamic (v := 1) rfl h1)

/-- The pieces of the branches' logarithms at a pair's first block. -/
theorem allA_L (h1 : k0_off1 i = ![0, 1, 0, 0]) (h2 : k0_off2 i = ![1, 1, 0, 0]) (h3 : k0_off3 i = ![2, 1, 0, 0]) :
    AllHold (brL x0 x1 x2 (tilesA c arg7 harg7 x5) 1) (kernelRun0_A.sl.HS3_48 (F := Ideal) c i arg2 harg2 arg3 harg3 arg4 harg4 arg7 harg7
      arg10 arg14 x0 x1 x2 x5) := by
  iterate 16
    refine AllHold.cons ?_ ?_
    · exact paidL_strided (di := 2) rfl rfl rfl rfl rfl rfl rfl (by decide) (tile_dynamic (v := 1) rfl h3)
  iterate 4
    iterate 3
      refine AllHold.cons ?_ ?_
      · exact paidL_strided (di := 1) rfl rfl rfl rfl rfl rfl rfl (by decide) (tile_static (v := 0) rfl rfl)
    refine AllHold.cons ?_ ?_
    · exact paidL_strided (di := 1) rfl rfl rfl rfl rfl rfl rfl (by decide) (tile_dynamic (v := 1) rfl h2)
  iterate 15
    refine AllHold.cons ?_ ?_
    · exact paidL_unit rfl rfl rfl rfl rfl (by decide) (tile_static (v := 0) rfl rfl)
  refine AllHold.cons ?_ AllHold.nil
  exact paidL_unit rfl rfl rfl rfl rfl (by decide) (tile_dynamic (v := 1) rfl h1)

/-- The pieces of the branches' outputs at a pair's later blocks. -/
theorem allB_O (h1 : k0_off1 i = ![0, 0, 0, 0]) (h2 : k0_off2 i = ![1, 0, 0, 0]) (h3 : k0_off3 i = ![2, 0, 0, 0]) :
    AllHold (brO x0 x1 x2 x3 x4 xs4 0) (kernelRun0_B.sl.HS2_48 (F := Ideal) c i arg2 harg2 arg3 harg3 arg4 harg4 arg5 harg5 arg6 harg6
      arg10 arg11 arg14 harg14 x0 x1 x2 x3 x4 xs4) := by
  iterate 16
    refine AllHold.cons ?_ ?_
    · exact paidO_strided (di := 2) rfl rfl rfl rfl rfl rfl rfl rfl (by decide) (tile_kept (v := 0) rfl h3)
  iterate 4
    iterate 3
      refine AllHold.cons ?_ ?_
      · exact paidO_strided (di := 1) rfl rfl rfl rfl rfl rfl rfl rfl (by decide) (tile_kept (v := 0) rfl rfl)
    refine AllHold.cons ?_ ?_
    · exact paidO_strided (di := 1) rfl rfl rfl rfl rfl rfl rfl rfl (by decide) (tile_kept (v := 0) rfl h2)
  iterate 15
    refine AllHold.cons ?_ ?_
    · exact paidO_unit rfl rfl rfl rfl rfl rfl (by decide) (tile_kept (v := 0) rfl rfl)
  refine AllHold.cons ?_ AllHold.nil
  exact paidO_unit rfl rfl rfl rfl rfl rfl (by decide) (tile_kept (v := 0) rfl h1)

/-- The pieces of the branches' logarithms at a pair's later blocks. -/
theorem allB_L (h1 : k0_off1 i = ![0, 0, 0, 0]) (h2 : k0_off2 i = ![1, 0, 0, 0]) (h3 : k0_off3 i = ![2, 0, 0, 0]) :
    AllHold (brL x0 x1 x2 xs4 0) (kernelRun0_B.sl.HS3_48 (F := Ideal) c i arg2 harg2 arg3 harg3 arg4 harg4
      arg10 arg14 harg14 x0 x1 x2 xs4) := by
  iterate 16
    refine AllHold.cons ?_ ?_
    · exact paidL_strided (di := 2) rfl rfl rfl rfl rfl rfl rfl (by decide) (tile_kept (v := 0) rfl h3)
  iterate 4
    iterate 3
      refine AllHold.cons ?_ ?_
      · exact paidL_strided (di := 1) rfl rfl rfl rfl rfl rfl rfl (by decide) (tile_kept (v := 0) rfl rfl)
    refine AllHold.cons ?_ ?_
    · exact paidL_strided (di := 1) rfl rfl rfl rfl rfl rfl rfl (by decide) (tile_kept (v := 0) rfl h2)
  iterate 15
    refine AllHold.cons ?_ ?_
    · exact paidL_unit rfl rfl rfl rfl rfl (by decide) (tile_kept (v := 0) rfl rfl)
  refine AllHold.cons ?_ AllHold.nil
  exact paidL_unit rfl rfl rfl rfl rfl (by decide) (tile_kept (v := 0) rfl h1)

/-- Offset, extents and strides of a piece. -/
def key (p : View.Piece (Elt Ideal) S3x2048x128 .f32) : List ℕ := [p.1.off 0, p.1.off 1, p.1.off 2, p.1.size 0, p.1.size 1, p.1.size 2, p.1.stride 0, p.1.stride 1, p.1.stride 2]

/-- The first row of unit `u` of branch `di`. -/
def start (di u : ℕ) : ℕ := if di = 0 then 128 * u else if di = 1 then u / 4 + 512 * (u % 4) else u

def keyOf (di d u : ℕ) : List ℕ := [di, start di u, 0, 1, 128, 128, 1, d, 1]

/-- What the 48 stores cover, the last first. -/
def keys : List (List ℕ) := (List.range 16).reverse.map (keyOf 2 16) ++ ((List.range 16).reverse.map (keyOf 1 4) ++ (List.range 16).reverse.map (keyOf 0 1))

theorem mem_keys : ∀ (di : Fin 3) (u : Fin 16), keyOf di (dil di) u ∈ keys := by decide

theorem row_split (di : Fin 3) (r : Fin 2048) : ∃ (u : Fin 16) (a : Fin 128), r.val = start di u + dil di * a.val := by
  fin_cases di
  · exact ⟨⟨r / 128, by omega⟩, ⟨r % 128, by omega⟩, by show r.val = 128 * (r / 128) + 1 * (r % 128); omega⟩
  · have h := r.isLt
    refine ⟨⟨4 * (r.val % 4) + r.val / 512, by omega⟩, ⟨r.val / 4 % 128, by omega⟩, ?_⟩
    show r.val = (4 * (r.val % 4) + r.val / 512) / 4 + 512 * ((4 * (r.val % 4) + r.val / 512) % 4) + 4 * (r.val / 4 % 128)
    have h1 : (4 * (r.val % 4) + r.val / 512) / 4 = r.val % 4 := by omega
    have h2 : (4 * (r.val % 4) + r.val / 512) % 4 = r.val / 512 := by omega
    have h3 : r.val / 4 / 128 = r.val / 512 := Nat.div_div_eq_div_mul _ _ _
    rw [h1, h2]
    omega
  · exact ⟨⟨r % 16, by omega⟩, ⟨r / 16, by omega⟩, by show r.val = r.val % 16 + 16 * (r.val / 16); omega⟩

theorem AllHold.canon {G : S3x2048x128.Idx → EReal} {L : List (View.Piece (Elt Ideal) S3x2048x128 .f32)} (hL : AllHold G L) (hk : L.map key = keys)
    (di : Fin 3) (r : Fin 2048) (l : Fin 128) : View.canon L (ix3 di r l) = G (ix3 di r l) := by
  refine View.canon_apply_of_pieces (Val := Elt Ideal) (e := .f32) G L hL (ix3 di r l) ?_
  obtain ⟨u, a, hr⟩ := row_split di r
  obtain ⟨p, hp, he⟩ := List.mem_map.1 (hk ▸ mem_keys di u : keyOf di (dil di) u ∈ L.map key)
  refine ⟨p, hp, (LoadRect.mem_set _).2 ?_⟩
  simp only [key, keyOf, List.cons.injEq, and_true] at he
  obtain ⟨h0, h1, h2, s0, s1, s2, t0, t1, t2⟩ := he
  intro x
  fin_cases x
  · exact ⟨0, by show 0 < p.1.size 0; omega, by show di.val = p.1.off 0 + p.1.stride 0 * 0; omega⟩
  · exact ⟨a.val, by show a.val < p.1.size 1; omega, by show r.val = p.1.off 1 + p.1.stride 1 * a.val; rw [h1, t1]; exact hr⟩
  · exact ⟨l.val, by show l.val < p.1.size 2; omega, by show l.val = p.1.off 2 + p.1.stride 2 * l.val; rw [h2, t2]; omega⟩

theorem canonA_O (h1 : k0_off1 i = ![0, 1, 0, 0]) (h2 : k0_off2 i = ![1, 1, 0, 0]) (h3 : k0_off3 i = ![2, 1, 0, 0]) (di : Fin 3) (r : Fin 2048) (l : Fin 128) :
    View.canon (kernelRun0_A.sl.HS2_48 (F := Ideal) c i arg2 harg2 arg3 harg3 arg4 harg4 arg5 harg5 arg6 harg6 arg7 harg7
      arg10 arg11 arg14 x0 x1 x2 x3 x4 x5) (ix3 di r l) = brO x0 x1 x2 x3 x4 (tilesA c arg7 harg7 x5) 1 (ix3 di r l) :=
  (allA_O h1 h2 h3).canon rfl di r l

theorem canonA_L (h1 : k0_off1 i = ![0, 1, 0, 0]) (h2 : k0_off2 i = ![1, 1, 0, 0]) (h3 : k0_off3 i = ![2, 1, 0, 0]) (di : Fin 3) (r : Fin 2048) (l : Fin 128) :
    View.canon (kernelRun0_A.sl.HS3_48 (F := Ideal) c i arg2 harg2 arg3 harg3 arg4 harg4 arg7 harg7
      arg10 arg14 x0 x1 x2 x5) (ix3 di r l) = brL x0 x1 x2 (tilesA c arg7 harg7 x5) 1 (ix3 di r l) :=
  (allA_L h1 h2 h3).canon rfl di r l

theorem canonB_O (h1 : k0_off1 i = ![0, 0, 0, 0]) (h2 : k0_off2 i = ![1, 0, 0, 0]) (h3 : k0_off3 i = ![2, 0, 0, 0]) (di : Fin 3) (r : Fin 2048) (l : Fin 128) :
    View.canon (kernelRun0_B.sl.HS2_48 (F := Ideal) c i arg2 harg2 arg3 harg3 arg4 harg4 arg5 harg5 arg6 harg6
      arg10 arg11 arg14 harg14 x0 x1 x2 x3 x4 xs4) (ix3 di r l) = brO x0 x1 x2 x3 x4 xs4 0 (ix3 di r l) :=
  (allB_O h1 h2 h3).canon rfl di r l

theorem canonB_L (h1 : k0_off1 i = ![0, 0, 0, 0]) (h2 : k0_off2 i = ![1, 0, 0, 0]) (h3 : k0_off3 i = ![2, 0, 0, 0]) (di : Fin 3) (r : Fin 2048) (l : Fin 128) :
    View.canon (kernelRun0_B.sl.HS3_48 (F := Ideal) c i arg2 harg2 arg3 harg3 arg4 harg4
      arg10 arg14 harg14 x0 x1 x2 xs4) (ix3 di r l) = brL x0 x1 x2 xs4 0 (ix3 di r l) :=
  (allB_L h1 h2 h3).canon rfl di r l

end Cert.Proof.Attn

end
-- ==== Proof.AttnLoop.lean ====
/- The loop that joins the branches, 256 rows at a time. -/
module

public import proofs.«01_k».proof.Proof.AttnLists

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable {arg12 arg13 : Memref sig .tc .vmem S3x2048x128 .f32} {X12 : BufTy.Contents (Elt Ideal) arg12.view.ty} {X13 : BufTy.Contents (Elt Ideal) arg13.view.ty}

theorem trips_le : k0_t1_loop.trips ≤ 8 := k0_t1_abs.2.1

/-- The three rows a joined row is made of. -/
abbrev rowsOf (B : Vec Ideal S3x2048x128 .f32) (r : Fin 2048) (l : Fin 128) (i : Fin 3) : EReal := B (ix3 i r l)

theorem ld_part {m : Memref sig .tc .vmem S3x2048x128 .f32} {X : BufTy.Contents (Elt Ideal) m.view.ty} {off : Fin 3 → ℕ} {b : ℕ} {i : Fin 3} {inb}
    (hoff : off = ![i.val, b, 0]) (a : Fin 256) (l : Fin 128) (hb : b + a.val < 2048) :
    View.readAt (Elt Ideal) m.view (Rect.unit (s := S3x2048x128) off S1x256x128.size inb).toLoadRect X (ix3 0 a l) = m.view.read (Elt Ideal) X (ix3 i ⟨b + a.val, hb⟩ l) := by
  subst hoff
  refine congrArg (m.view.read (Elt Ideal) X) (funext fun x => Fin.ext ?_)
  fin_cases x
  · rfl
  · show b + 1 * a.val = b + a.val; omega
  · show 0 + 1 * l.val = l.val; omega

theorem pay17_at (l0 l1 l2 o0 o1 o2 : Vec Ideal S1x256x128 .f32) (a : Fin 256) (l : Fin 128) :
    k0_pay17 l0 l1 l2 o0 o1 o2 (ix2 a l)
      = comb ![l0 (ix3 0 a l), l1 (ix3 0 a l), l2 (ix3 0 a l)] ![o0 (ix3 0 a l), o1 (ix3 0 a l), o2 (ix3 0 a l)] := by
  pointwise [k0_pay17, k0_pay16, k0_pay15, k0_pay14, k0_pay13, k0_pay12, k0_pay11, k0_pay10, k0_pay9]
  rfl

theorem pay18_at (l0 l1 l2 : Vec Ideal S1x256x128 .f32) (a : Fin 256) (l : Fin 128) :
    k0_pay18 l0 l1 l2 (ix2 a l) = combL ![l0 (ix3 0 a l), l1 (ix3 0 a l), l2 (ix3 0 a l)] := by
  pointwise [k0_pay18, k0_pay16, k0_pay15, k0_pay14, k0_pay13, k0_pay12, k0_pay11, k0_pay10, k0_pay9]
  rfl

theorem three (f g : Fin 3 → EReal) (h0 : f 0 = g 0) (h1 : f 1 = g 1) (h2 : f 2 = g 2) : f = g := by
  funext i
  fin_cases i
  exacts [h0, h1, h2]

theorem trip_o (k : Fin k0_t1_loop.trips) (a : Fin 256) (l : Fin 128) (hb : 256 * k.val + a.val < 2048) :
    trip_k0_t1.sl.v2669 arg12 arg13 X12 X13 k (ix2 a l)
      = comb (rowsOf (arg13.view.read (Elt Ideal) X13) ⟨256 * k.val + a.val, hb⟩ l) (rowsOf (arg12.view.read (Elt Ideal) X12) ⟨256 * k.val + a.val, hb⟩ l) := by
  rw [show trip_k0_t1.sl.v2669 arg12 arg13 X12 X13 k
    = k0_pay17 (View.readAt (Elt Ideal) arg13.view (Rect.unit (s := S3x2048x128) (k0_off4 k) S1x256x128.size (k0_off4_inb k)).toLoadRect X13)
      (View.readAt (Elt Ideal) arg13.view (Rect.unit (s := S3x2048x128) (k0_off5 k) S1x256x128.size (k0_off5_inb k)).toLoadRect X13)
      (View.readAt (Elt Ideal) arg13.view (Rect.unit (s := S3x2048x128) (k0_off6 k) S1x256x128.size (k0_off6_inb k)).toLoadRect X13)
      (View.readAt (Elt Ideal) arg12.view (Rect.unit (s := S3x2048x128) (k0_off4 k) S1x256x128.size (k0_off4_inb k)).toLoadRect X12)
      (View.readAt (Elt Ideal) arg12.view (Rect.unit (s := S3x2048x128) (k0_off5 k) S1x256x128.size (k0_off5_inb k)).toLoadRect X12)
      (View.readAt (Elt Ideal) arg12.view (Rect.unit (s := S3x2048x128) (k0_off6 k) S1x256x128.size (k0_off6_inb k)).toLoadRect X12) from rfl, pay17_at]
  exact congrArg₂ comb
    (three _ _ (ld_part (i := 0) (k0_off4_eq k) a l hb) (ld_part (i := 1) (k0_off5_eq k) a l hb) (ld_part (i := 2) (k0_off6_eq k) a l hb))
    (three _ _ (ld_part (i := 0) (k0_off4_eq k) a l hb) (ld_part (i := 1) (k0_off5_eq k) a l hb) (ld_part (i := 2) (k0_off6_eq k) a l hb))

theorem trip_l (k : Fin k0_t1_loop.trips) (a : Fin 256) (l : Fin 128) (hb : 256 * k.val + a.val < 2048) :
    trip_k0_t1.sl.v2673 arg13 X13 k (ix2 a l) = combL (rowsOf (arg13.view.read (Elt Ideal) X13) ⟨256 * k.val + a.val, hb⟩ l) := by
  rw [show trip_k0_t1.sl.v2673 arg13 X13 k
    = k0_pay18 (View.readAt (Elt Ideal) arg13.view (Rect.unit (s := S3x2048x128) (k0_off4 k) S1x256x128.size (k0_off4_inb k)).toLoadRect X13)
      (View.readAt (Elt Ideal) arg13.view (Rect.unit (s := S3x2048x128) (k0_off5 k) S1x256x128.size (k0_off5_inb k)).toLoadRect X13)
      (View.readAt (Elt Ideal) arg13.view (Rect.unit (s := S3x2048x128) (k0_off6 k) S1x256x128.size (k0_off6_inb k)).toLoadRect X13) from rfl, pay18_at]
  exact congrArg combL
    (three _ _ (ld_part (i := 0) (k0_off4_eq k) a l hb) (ld_part (i := 1) (k0_off5_eq k) a l hb) (ld_part (i := 2) (k0_off6_eq k) a l hb))

/-- A list of pieces that holds `G` on its part, and covers the first `b` rows. -/
structure Filled (G : Fin 2048 → Fin 128 → EReal) (b : ℕ) (L : List (View.Piece (Elt Ideal) S2048x128 .f32)) : Prop where
  holds : ∀ p ∈ L, ∀ z : p.1.shape.Idx, p.2 z = (fun y : S2048x128.Idx => G (y 0) (y 1)) (p.1.emb z)
  covers : ∀ (r : Fin 2048) (l : Fin 128), r.val < b → ∃ p ∈ L, (ix2 r l : S2048x128.Idx) ∈ p.1.set

theorem Filled.nil (G) : Filled G 0 [] := ⟨fun _ h => absurd h List.not_mem_nil, fun _ _ h => absurd h (Nat.not_lt_zero _)⟩

theorem Filled.cons {G : Fin 2048 → Fin 128 → EReal} {k : ℕ} {L : List (View.Piece (Elt Ideal) S2048x128 .f32)} (hL : Filled G (256 * k) L) {off : Fin 2 → ℕ} {inb}
    (hoff : off = ![256 * k, 0]) {P : Vec Ideal S256x128 .f32} (hk : k < 8)
    (hP : ∀ (a : Fin 256) (l : Fin 128), P (ix2 a l) = G ⟨256 * k + a.val, by omega⟩ l) :
    Filled G (256 * (k + 1)) (⟨Rect.unit (s := S2048x128) off S256x128.size inb, P⟩ :: L) := by
  subst hoff
  refine ⟨List.forall_mem_cons.2 ⟨fun z => ?_, hL.holds⟩, fun r l hr => ?_⟩
  · obtain ⟨a, l, rfl⟩ : ∃ (a : Fin 256) (l : Fin 128), z = ix2 a l := ⟨z 0, z 1, by funext x; fin_cases x <;> rfl⟩
    refine (hP a l).trans ?_
    refine congrArg₂ G (Fin.ext ?_) (Fin.ext ?_)
    · show 256 * k + a.val = 256 * k + 1 * a.val; omega
    · show l.val = 0 + 1 * l.val; omega
  · by_cases h : r.val < 256 * k
    · obtain ⟨p, hp, hm⟩ := hL.covers r l h
      exact ⟨p, List.mem_cons_of_mem _ hp, hm⟩
    · refine ⟨_, List.mem_cons_self, (LoadRect.mem_set _).2 fun x => ?_⟩
      fin_cases x
      · exact ⟨r.val - 256 * k, by show r.val - 256 * k < 256; omega, by show r.val = 256 * k + 1 * (r.val - 256 * k); omega⟩
      · exact ⟨l.val, l.isLt, by show l.val = 0 + 1 * l.val; omega⟩

theorem Filled.canon {G : Fin 2048 → Fin 128 → EReal} {L : List (View.Piece (Elt Ideal) S2048x128 .f32)} (hL : Filled G 2048 L) (r : Fin 2048) (l : Fin 128) :
    View.canon L (ix2 r l) = G r l :=
  View.canon_apply_of_pieces (Val := Elt Ideal) (e := .f32) (fun y : S2048x128.Idx => G (y 0) (y 1)) L hL.holds (ix2 r l) (hL.covers r l r.isLt)

variable {𝒱 : Variants} {c : Dev nD} {bd : Option 𝒱.V} {i : grid0.Coords}
  {arg2 : Memref sig .tc .vmem S2048x128 .f32} {arg3 : Memref sig .tc .vmem S2048x128 .f32} {arg4 : Memref sig .tc .vmem S2048x128 .f32} {arg5 : Memref sig .tc .vmem S2048x128 .f32} {arg6 : Memref sig .tc .vmem S2048x128 .f32} {arg7 : Memref sig .tc .vmem S3x1x256x256 .f32} {arg8 : Memref sig .tc .vmem S2048x128 .f32} {arg9 : Memref sig .tc .vmem S2048x128 .f32} {arg10 : Memref sig .tc .vmem S4096x128 .f32} {arg11 : Memref sig .tc .vmem S4096x128 .f32} {arg14 : Memref sig .tc .vmem S3x2x256x256 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}

theorem trips_eq : k0_t1_loop.trips = 8 := by decide +kernel

theorem pb_filled : ∀ n : ℕ, n ≤ 8 →
    Filled (fun r l => comb (rowsOf (arg13.view.read (Elt Ideal) X13) r l) (rowsOf (arg12.view.read (Elt Ideal) X12) r l)) (256 * n)
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X12 X13 n).1
    ∧ Filled (fun r l => combL (rowsOf (arg13.view.read (Elt Ideal) X13) r l)) (256 * n)
      (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 X12 X13 n).2
  | 0, _ => ⟨Filled.nil _, Filled.nil _⟩
  | n + 1, h => by
    have hi := pb_filled n (Nat.le_of_succ_le h)
    have hn : n < k0_t1_loop.trips := by rw [trips_eq]; omega
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 X12 X13 ⟨n, hn⟩]
    unfold tripL_k0_t1 trip_k0_t1
    dsimp only
    exact ⟨hi.1.cons (k0_off7_eq ⟨n, hn⟩) (by omega) (fun a l => trip_o ⟨n, hn⟩ a l _), hi.2.cons (k0_off7_eq ⟨n, hn⟩) (by omega) (fun a l => trip_l ⟨n, hn⟩ a l _)⟩

end Cert.Proof.Attn

end
-- ==== Proof.AttnRun.lean ====
/- What one grid point of the dilated attention's forward call leaves: its blocks of the two results. -/
module

public import proofs.«01_k».proof.Proof.AttnLoop
public import Idealize.ShloMosaic.Lib.StableHlo.RunRead

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable (m : (ℓ : Loc nD τ sig) → Buf (Elt Ideal) ℓ)

theorem offA1 : ∀ t : Fin cfg0.N, t.val % 4 = 0 → k0_off1 (grid0.coords t) = ![0, 1, 0, 0] := by decide +kernel
theorem offA2 : ∀ t : Fin cfg0.N, t.val % 4 = 0 → k0_off2 (grid0.coords t) = ![1, 1, 0, 0] := by decide +kernel
theorem offA3 : ∀ t : Fin cfg0.N, t.val % 4 = 0 → k0_off3 (grid0.coords t) = ![2, 1, 0, 0] := by decide +kernel
theorem offB1 : ∀ t : Fin cfg0.N, ¬ t.val % 4 = 0 → k0_off1 (grid0.coords t) = ![0, 0, 0, 0] := by decide +kernel
theorem offB2 : ∀ t : Fin cfg0.N, ¬ t.val % 4 = 0 → k0_off2 (grid0.coords t) = ![1, 0, 0, 0] := by decide +kernel
theorem offB3 : ∀ t : Fin cfg0.N, ¬ t.val % 4 = 0 → k0_off3 (grid0.coords t) = ![2, 0, 0, 0] := by decide +kernel

/-- The two tiles of each branch: as given, and without the first 128 keys. -/
def twoTiles (x5 : Vec Ideal S3x1x256x256 .f32) : Vec Ideal S3x2x256x256 .f32 := fun y =>
  if (y 1).val = 1 ∧ (y 3).val < 128 then (⊥ : EReal) else x5 (ix4 (y 0) 0 (y 2) (y 3))

theorem plain_at (w : Vec Ideal S1x1x256x256 .f32) (b j : Fin 256) : k0_pay25 w (ix4 0 0 b j) = w (ix4 0 0 b j) := by
  pointwise [k0_pay25, k0_pay24]

theorem key_lt : ∀ j : Fin 256, IntOp.cmpi .slt (BitVec.ofNat 32 j.val) 128#32 = if j.val < 128 then 1#1 else 0#1 := by decide +kernel

theorem mask_eq : (Named.named κ "mask" 0xF149F2CA#32 : Ideal .f32) = (⊥ : EReal) := rfl

theorem masked_at (w : Vec Ideal S1x1x256x256 .f32) (b j : Fin 256) :
    k0_pay26 (iota .tc S256x256 32 [1] iota_S256x256_d1_w32) w (ix4 0 0 b j) = if j.val < 128 then (⊥ : EReal) else w (ix4 0 0 b j) := by
  pointwise [k0_pay26, k0_pay24]
  rw [key_lt, mask_eq]
  by_cases h : j.val < 128
  · rw [if_pos h, if_pos h]; rfl
  · rw [if_neg h, if_neg h]; rfl

theorem ld_tile {arg7 : Memref sig .tc .vmem S3x1x256x256 .f32} {harg7 : arg7.IsWhole} {x5 : Vec Ideal S3x1x256x256 .f32} {off : Fin 4 → ℕ} {di : Fin 3} {inb}
    (hoff : off = ![di.val, 0, 0, 0]) (b j : Fin 256) :
    View.readAt (Elt Ideal) arg7.view (Rect.unit (s := S3x1x256x256) off S1x1x256x256.size inb).toLoadRect (harg7.unread x5) (ix4 0 0 b j) = x5 (ix4 di 0 b j) := by
  subst hoff
  rw [View.readAt_apply, harg7.read_unread]
  refine congrArg x5 (funext fun x => Fin.ext ?_)
  fin_cases x
  · rfl
  · rfl
  · show 0 + 1 * b.val = b.val; omega
  · show 0 + 1 * j.val = j.val; omega

theorem one_tile (z : S1x1x256x256.Idx) : ∃ (b j : Fin 256), z = ix4 0 0 b j := by
  refine ⟨z 2, z 3, funext fun x => ?_⟩
  fin_cases x
  · exact Subsingleton.elim (α := Fin 1) _ _
  · exact Subsingleton.elim (α := Fin 1) _ _
  · rfl
  · rfl

/-- A piece that holds its tile. -/
theorem tile_plain {arg7 : Memref sig .tc .vmem S3x1x256x256 .f32} {harg7 : arg7.IsWhole} {x5 : Vec Ideal S3x1x256x256 .f32} {off off' : Fin 4 → ℕ} {di : Fin 3} {inb inb'}
    {P : Vec Ideal S1x1x256x256 .f32}
    (hP : P = k0_pay25 (View.readAt (Elt Ideal) arg7.view (Rect.unit (s := S3x1x256x256) off S1x1x256x256.size inb).toLoadRect (harg7.unread x5)))
    (hoff : off = ![di.val, 0, 0, 0]) (hoff' : off' = ![di.val, (0 : Fin 2).val, 0, 0]) (z : S1x1x256x256.Idx) :
    P z = twoTiles x5 (Rect.emb (s := S3x2x256x256) (Rect.unit off' S1x1x256x256.size inb') z) := by
  obtain ⟨b, j, rfl⟩ := one_tile z
  rw [hP, plain_at, ld_tile hoff]
  refine Eq.trans ?_ (congrArg (twoTiles x5) (tile_emb inb' hoff' b j).symm)
  exact (if_neg fun h => absurd (show (0 : ℕ) = 1 from h.1) (by decide)).symm

theorem tile_masked {arg7 : Memref sig .tc .vmem S3x1x256x256 .f32} {harg7 : arg7.IsWhole} {x5 : Vec Ideal S3x1x256x256 .f32} {off off' : Fin 4 → ℕ} {di : Fin 3} {inb inb'}
    {P : Vec Ideal S1x1x256x256 .f32}
    (hP : P = k0_pay26 (iota .tc S256x256 32 [1] iota_S256x256_d1_w32) (View.readAt (Elt Ideal) arg7.view (Rect.unit (s := S3x1x256x256) off S1x1x256x256.size inb).toLoadRect (harg7.unread x5)))
    (hoff : off = ![di.val, 0, 0, 0]) (hoff' : off' = ![di.val, (1 : Fin 2).val, 0, 0]) (z : S1x1x256x256.Idx) :
    P z = twoTiles x5 (Rect.emb (s := S3x2x256x256) (Rect.unit off' S1x1x256x256.size inb') z) := by
  obtain ⟨b, j, rfl⟩ := one_tile z
  rw [hP, masked_at, ld_tile hoff]
  refine Eq.trans ?_ (congrArg (twoTiles x5) (tile_emb inb' hoff' b j).symm)
  exact if_congr ⟨fun h => ⟨rfl, h⟩, fun h => h.2⟩ rfl rfl

theorem tilesA_eq (c : Dev nD) (arg7 : Memref sig .tc .vmem S3x1x256x256 .f32) (harg7 : arg7.IsWhole) (x5 : Vec Ideal S3x1x256x256 .f32) :
    tilesA c arg7 harg7 x5 = twoTiles x5 := by
  funext y
  refine View.canon_apply_of_pieces (Val := Elt Ideal) (e := .f32) (twoTiles x5) _ ?_ y (View.cover_of_tiledL (s := S3x2x256x256) _ S1x1x256x256.size (by sl_kernel_rfl) y)
  unfold kernelRun0_A.sl.HS4_6
  refine List.forall_mem_cons.2 ⟨fun z => tile_masked (di := 2) (inb' := inb_S3x2x256x256_S1x1x256x256_2_1_0_0) rfl rfl rfl z, List.forall_mem_cons.2 ⟨fun z => tile_plain (di := 2) (inb' := inb_S3x2x256x256_S1x1x256x256_2_0_0_0) rfl rfl rfl z, ?_⟩⟩
  refine List.forall_mem_cons.2 ⟨fun z => tile_masked (di := 1) (inb' := inb_S3x2x256x256_S1x1x256x256_1_1_0_0) rfl rfl rfl z, List.forall_mem_cons.2 ⟨fun z => tile_plain (di := 1) (inb' := inb_S3x2x256x256_S1x1x256x256_1_0_0_0) rfl rfl rfl z, ?_⟩⟩
  refine List.forall_mem_cons.2 ⟨fun z => tile_masked (di := 0) (inb' := inb_S3x2x256x256_S1x1x256x256_0_1_0_0) rfl rfl rfl z, List.forall_mem_cons.2 ⟨fun z => tile_plain (di := 0) (inb' := inb_S3x2x256x256_S1x1x256x256_0_0_0_0) rfl rfl rfl z, ?_⟩⟩
  exact fun p h => absurd h List.not_mem_nil

theorem point_lt (t : Fin cfg0.N) : t.val < 16 := lt_of_lt_of_eq t.isLt N_0

/-- The pair of heads and the block of rows of a point. -/
abbrev hpOf (t : Fin cfg0.N) : Fin 4 := ⟨t.val / 4, by have := point_lt t; omega⟩
abbrev sbOf (t : Fin cfg0.N) : Fin 4 := ⟨t.val % 4, by omega⟩

theorem idx : ∀ t : Fin cfg0.N, win0_0.index t = ![t.val % 4, 13 + t.val / 4] ∧ win0_1.index t = ![t.val % 4 - 1, 17 + t.val / 4]
    ∧ win0_2.index t = ![t.val % 4, 17 + t.val / 4] ∧ win0_3.index t = ![t.val % 4 - 1, 21 + t.val / 4]
    ∧ win0_4.index t = ![t.val % 4, 21 + t.val / 4] ∧ win0_5.index t = ![0, t.val / 4, 0, 0]
    ∧ win0_6.index t = ![t.val % 4, t.val / 4] ∧ win0_7.index t = ![t.val % 4, t.val / 4] ∧ t.val < 16 :=
  (by decide +kernel : ∀ t : Fin grid0.N, _)

/-- The projected rows as an array. -/
def qkvOf (c : Dev nD) : Vec Ideal S8192x1536 .f32 := m ((c : Thread nD τ).loc main_arg0)
/-- The tiles of every pair of heads. -/
def tabOf (c : Dev nD) : Vec Ideal S3x4x256x256 .f32 := V m c main_v109

theorem padded_at (c : Dev nD) (i : Fin 8192) (j : Fin 1536) (h : 1664 + j.val < 3200) :
    (show Vec Ideal S8192x3200 .f32 from V m c main_v1) (ix2 i ⟨1664 + j.val, h⟩) = qkvOf m c (ix2 i j) := by
  unfold V
  after_reads_simp
  pointwise
  rfl

theorem blk0 (c : Dev nD) (t : Fin cfg0.N) (a : Fin 2048) (l : Fin 128) :
    iblk m c 0 t (ix2 a l) = qkvOf m c (ix2 ⟨t.val % 4 * 2048 + a.val, by omega⟩ ⟨t.val / 4 * 128 + l.val, by have := point_lt t; omega⟩) := by
  rw [← padded_at m c _ _ (by have := point_lt t; show 1664 + (t.val / 4 * 128 + l.val) < 3200; omega)]
  blk_ext! [iblk, idx t]

theorem blk5 (c : Dev nD) (t : Fin cfg0.N) (di : Fin 3) (b j : Fin 256) :
    iblk m c 5 t (ix4 di 0 b j) = tabOf m c (ix4 di (hpOf t) b j) := by
  unfold tabOf
  blk_ext! [iblk, idx t]

end Cert.Proof.Attn

end
-- ==== Proof.AttnPoints.lean ====
/- What every grid point of the dilated attention's forward call leaves in its blocks of the two results. -/
module

public import proofs.«01_k».proof.Proof.AttnRun

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable (m : (ℓ : Loc nD τ sig) → Buf (Elt Ideal) ℓ)

theorem blk1 (c : Dev nD) (t : Fin cfg0.N) (a : Fin 2048) (l : Fin 128) :
    iblk m c 1 t (ix2 a l) = qkvOf m c (ix2 ⟨(t.val % 4 - 1) * 2048 + a.val, by omega⟩ ⟨512 + (t.val / 4 * 128 + l.val), by have := point_lt t; omega⟩) := by
  rw [← padded_at m c _ _ (by have := point_lt t; show 1664 + (512 + (t.val / 4 * 128 + l.val)) < 3200; omega)]
  blk_ext! [iblk, idx t]

theorem blk2 (c : Dev nD) (t : Fin cfg0.N) (a : Fin 2048) (l : Fin 128) :
    iblk m c 2 t (ix2 a l) = qkvOf m c (ix2 ⟨t.val % 4 * 2048 + a.val, by omega⟩ ⟨512 + (t.val / 4 * 128 + l.val), by have := point_lt t; omega⟩) := by
  rw [← padded_at m c _ _ (by have := point_lt t; show 1664 + (512 + (t.val / 4 * 128 + l.val)) < 3200; omega)]
  blk_ext! [iblk, idx t]

theorem blk3 (c : Dev nD) (t : Fin cfg0.N) (a : Fin 2048) (l : Fin 128) :
    iblk m c 3 t (ix2 a l) = qkvOf m c (ix2 ⟨(t.val % 4 - 1) * 2048 + a.val, by omega⟩ ⟨1024 + (t.val / 4 * 128 + l.val), by have := point_lt t; omega⟩) := by
  rw [← padded_at m c _ _ (by have := point_lt t; show 1664 + (1024 + (t.val / 4 * 128 + l.val)) < 3200; omega)]
  blk_ext! [iblk, idx t]

theorem blk4 (c : Dev nD) (t : Fin cfg0.N) (a : Fin 2048) (l : Fin 128) :
    iblk m c 4 t (ix2 a l) = qkvOf m c (ix2 ⟨t.val % 4 * 2048 + a.val, by omega⟩ ⟨1024 + (t.val / 4 * 128 + l.val), by have := point_lt t; omega⟩) := by
  rw [← padded_at m c _ _ (by have := point_lt t; show 1664 + (1024 + (t.val / 4 * 128 + l.val)) < 3200; omega)]
  blk_ext! [iblk, idx t]

/-- The tiles of a point depend on its pair of heads alone. -/
theorem blk5_congr (c : Dev nD) (t t' : Fin cfg0.N) (h : t.val / 4 = t'.val / 4) : (iblk m c 5 t : Vec Ideal S3x1x256x256 .f32) = iblk m c 5 t' := by
  funext y
  obtain ⟨di, b, j, rfl⟩ : ∃ (di : Fin 3) (b j : Fin 256), y = ix4 di 0 b j := by
    refine ⟨y 0, y 2, y 3, funext fun x => ?_⟩
    fin_cases x
    · rfl
    · exact Subsingleton.elim (α := Fin 1) _ _
    · rfl
    · rfl
  rw [blk5, blk5]
  refine congrArg (fun z => tabOf m c (ix4 di z b j)) (Fin.ext h)

/-- The tiles that a point finds or leaves in the scratch memory. -/
theorem tiles_at (c : Dev nD) : ∀ (n : ℕ) (h : n < cfg0.N), (outsAt0 m c n h).2.2 = twoTiles (iblk m c 5 ⟨n, h⟩)
  | 0, h => by
    rw [outsAt0_A m c ⟨0, h⟩ rfl]
    unfold sout0_A_4 kernelRun0_A
    dsimp only
    rw [View.read_writes_junk_eq_canon]
    exact tilesA_eq c _ _ _
  | n + 1, h => by
    by_cases h0 : (n + 1) % 4 = 0
    · rw [outsAt0_A m c ⟨n + 1, h⟩ h0]
      unfold sout0_A_4 kernelRun0_A
      dsimp only
      rw [View.read_writes_junk_eq_canon]
      exact tilesA_eq c _ _ _
    · rw [outsAt0_B m c ⟨n + 1, h⟩ h0]
      refine (tiles_at c n (Nat.lt_of_succ_lt h)).trans ?_
      rw [blk5_congr m c ⟨n, Nat.lt_of_succ_lt h⟩ ⟨n + 1, h⟩ (by show n / 4 = (n + 1) / 4; omega)]

/-- The variant of the tile that a superblock's first block takes. -/
def firstOf (t : Fin cfg0.N) : Fin 2 := if t.val % 4 = 0 then 1 else 0

/-- A point's branch outputs and logarithms of sums. -/
def pointO (c : Dev nD) (t : Fin cfg0.N) (r : Fin 2048) (l : Fin 128) (i : Fin 3) : EReal :=
  brO (iblk m c 0 t) (iblk m c 1 t) (iblk m c 2 t) (iblk m c 3 t) (iblk m c 4 t) (twoTiles (iblk m c 5 t)) (firstOf t) (ix3 i r l)
def pointL (c : Dev nD) (t : Fin cfg0.N) (r : Fin 2048) (l : Fin 128) (i : Fin 3) : EReal :=
  brL (iblk m c 0 t) (iblk m c 1 t) (iblk m c 2 t) (twoTiles (iblk m c 5 t)) (firstOf t) (ix3 i r l)

/-- The tiles that a later superblock's point finds. -/
theorem tiles_prev (c : Dev nD) (t : Fin cfg0.N) (h0 : ¬ t.val % 4 = 0) :
    (outsAt0 m c (t.val - 1) (Nat.lt_of_le_of_lt (Nat.sub_le _ _) t.isLt)).2.2 = twoTiles (iblk m c 5 t) := by
  rw [tiles_at, blk5_congr m c ⟨t.val - 1, Nat.lt_of_le_of_lt (Nat.sub_le _ _) t.isLt⟩ t (by show (t.val - 1) / 4 = t.val / 4; omega)]

theorem point_out (c : Dev nD) (t : Fin cfg0.N) (r : Fin 2048) (l : Fin 128) :
    (outsAt0 m c t.val t.isLt).1 (ix2 r l) = comb (pointL m c t r l) (pointO m c t r l) := by
  by_cases h0 : t.val % 4 = 0
  · rw [outsAt0_A m c t h0]
    unfold out0_A_6 kernelRun0_A
    dsimp only
    rw [View.read_writes_junk_eq_canon]
    refine ((pb_filled 8 le_rfl).1.canon r l).trans ?_
    rw [View.read_writes_junk_eq_canon, View.read_writes_junk_eq_canon]
    refine congrArg₂ comb (funext fun i => ?_) (funext fun i => ?_)
    · refine (canonA_L (offA1 t h0) (offA2 t h0) (offA3 t h0) i r l).trans ?_
      unfold pointL firstOf
      rw [tilesA_eq, if_pos h0]
    · refine (canonA_O (offA1 t h0) (offA2 t h0) (offA3 t h0) i r l).trans ?_
      unfold pointO firstOf
      rw [tilesA_eq, if_pos h0]
  · rw [outsAt0_B m c t h0]
    unfold out0_B_6 kernelRun0_B
    dsimp only
    rw [View.read_writes_junk_eq_canon]
    refine ((pb_filled 8 le_rfl).1.canon r l).trans ?_
    rw [View.read_writes_junk_eq_canon, View.read_writes_junk_eq_canon]
    refine congrArg₂ comb (funext fun i => ?_) (funext fun i => ?_)
    · refine (canonB_L (offB1 t h0) (offB2 t h0) (offB3 t h0) i r l).trans ?_
      unfold pointL firstOf
      rw [tiles_prev m c t h0, if_neg h0]
    · refine (canonB_O (offB1 t h0) (offB2 t h0) (offB3 t h0) i r l).trans ?_
      unfold pointO firstOf
      rw [tiles_prev m c t h0, if_neg h0]

theorem point_lse (c : Dev nD) (t : Fin cfg0.N) (r : Fin 2048) (l : Fin 128) :
    (outsAt0 m c t.val t.isLt).2.1 (ix2 r l) = combL (pointL m c t r l) := by
  by_cases h0 : t.val % 4 = 0
  · rw [outsAt0_A m c t h0]
    unfold out0_A_7 out0_A_6 kernelRun0_A
    dsimp only
    rw [View.read_writes_junk_eq_canon]
    refine ((pb_filled 8 le_rfl).2.canon r l).trans ?_
    rw [View.read_writes_junk_eq_canon]
    refine congrArg combL (funext fun i => ?_)
    refine (canonA_L (offA1 t h0) (offA2 t h0) (offA3 t h0) i r l).trans ?_
    unfold pointL firstOf
    rw [tilesA_eq, if_pos h0]
  · rw [outsAt0_B m c t h0]
    unfold out0_B_7 out0_B_6 kernelRun0_B
    dsimp only
    rw [View.read_writes_junk_eq_canon]
    refine ((pb_filled 8 le_rfl).2.canon r l).trans ?_
    rw [View.read_writes_junk_eq_canon]
    refine congrArg combL (funext fun i => ?_)
    refine (canonB_L (offB1 t h0) (offB2 t h0) (offB3 t h0) i r l).trans ?_
    unfold pointL firstOf
    rw [tiles_prev m c t h0, if_neg h0]

end Cert.Proof.Attn

end
-- ==== Proof.AttnSpec.lean ====
/- The dilated attention's three branches as formulas over whole arrays, and the join of the branches. -/
module

public import proofs.«01_k».proof.Proof.AttnMath
public import proofs.«01_k».proof.Proof.PostReference

@[expose] public section

noncomputable section

namespace Cert.Proof.Attn

open Idealize.ShloMosaic Cert.Proof.Post Cert.Proof.Reals

theorem low_eq : Ideal.ofBits .f32 0xFF800000#32 = (⊥ : EReal) := by
  simp [Ideal.ofBits, Ideal.ieee]

theorem smax_three (l : Fin 3 → EReal) : smax l = max (max (l 0) (l 1)) (l 2) := by
  unfold smax
  rw [low_eq]
  have : (Finset.univ : Finset (Fin 3)) = {0, 1, 2} := by decide
  rw [this, Finset.fold_insert (by decide), Finset.fold_insert (by decide), Finset.fold_singleton, max_bot_right, ← max_assoc]

theorem combL_eq (l : Fin 3 → EReal) : combL l = lse l := by
  unfold combL lse den wt
  rw [smax_three, Fin.sum_univ_three]

/-- The largest of finitely many scores without `⊤`, one of them real, is real. -/
theorem smax_real {n : ℕ} (s : Fin n → EReal) (hs : ∀ j, s j ≠ ⊤) (j : Fin n) (hj : IsReal (s j)) : IsReal (smax s) := by
  have h1 : s j ≤ smax s := (Finset.le_fold_max (s j)).2 (Or.inr ⟨j, Finset.mem_univ j, le_rfl⟩)
  have h2 : smax s ≠ ⊤ := by
    intro h
    rcases (Finset.le_fold_max (⊤ : EReal)).1 h.ge with h' | ⟨k, _, hk⟩
    · rw [low_eq] at h'
      exact absurd (le_bot_iff.1 h') (by simp)
    · exact hs k (top_le_iff.1 hk)
  obtain ⟨r, hr⟩ := hj
  have h3 : smax s ≠ ⊥ := fun h => by
    rw [h, hr] at h1
    exact absurd (le_bot_iff.1 h1) (EReal.coe_ne_bot r)
  exact ⟨(smax s).toReal, (EReal.coe_toReal h2 h3).symm⟩

/-- Each weight is a real number, not negative. -/
theorem wt_real {n : ℕ} (s : Fin n → EReal) (hs : ∀ j, s j ≠ ⊤) (hm : IsReal (smax s)) (j : Fin n) : ∃ r : ℝ, 0 ≤ r ∧ wt s j = r := by
  obtain ⟨M, hM⟩ := hm
  rw [wt, hM]
  induction hsj : s j using EReal.rec with
  | bot => exact ⟨0, le_rfl, rfl⟩
  | coe x => exact ⟨Real.exp (x - M), (Real.exp_pos _).le, rfl⟩
  | top => exact absurd hsj (hs j)

theorem wt_pos {n : ℕ} (s : Fin n → EReal) (hm : IsReal (smax s)) (j : Fin n) (hj : IsReal (s j)) : ∃ r : ℝ, 0 < r ∧ wt s j = r := by
  obtain ⟨M, hM⟩ := hm
  obtain ⟨x, hx⟩ := hj
  exact ⟨Real.exp (x - M), Real.exp_pos _, by rw [wt, hM, hx]; rfl⟩

/-- The sum of the weights is a positive real number. -/
theorem den_pos {n : ℕ} (s : Fin n → EReal) (hs : ∀ j, s j ≠ ⊤) (j : Fin n) (hj : IsReal (s j)) : ∃ r : ℝ, 0 < r ∧ den s = r := by
  have hm := smax_real s hs j hj
  choose f hf0 hf using wt_real s hs hm
  obtain ⟨p, hp, hpe⟩ := wt_pos s hm j hj
  refine ⟨∑ k, f k, ?_, ?_⟩
  · refine Finset.sum_pos' (fun k _ => hf0 k) ⟨j, Finset.mem_univ j, ?_⟩
    have : ((f j : ℝ) : EReal) = p := (hf j).symm.trans hpe
    rw [EReal.coe_eq_coe_iff] at this
    rw [this]; exact hp
  · unfold den
    rw [← sum_coe]
    exact Finset.sum_congr rfl fun k _ => hf k

theorem lse_real {n : ℕ} (s : Fin n → EReal) (hs : ∀ j, s j ≠ ⊤) (j : Fin n) (hj : IsReal (s j)) : IsReal (lse s) := by
  obtain ⟨M, hM⟩ := smax_real s hs j hj
  obtain ⟨d, hd, hde⟩ := den_pos s hs j hj
  refine ⟨M + Real.log d, ?_⟩
  rw [lse, hM, hde, EReal.coe_add]
  congr 1
  exact if_neg (not_le.2 hd)

/-- Dividing the joined sum is joining with divided weights, where the branches' logarithms are real. -/
theorem comb_eq (l o : Fin 3 → EReal) (hl : ∀ i, IsReal (l i)) : comb l o = ∑ i, Ideal.div (wt l i) (den l) * o i := by
  have hs : ∀ i, l i ≠ ⊤ := fun i => by obtain ⟨r, hr⟩ := hl i; rw [hr]; exact EReal.coe_ne_top r
  obtain ⟨d, hd, hde⟩ := den_pos l hs 0 (hl 0)
  have key : comb l o = Ideal.div (∑ i, wt l i * o i) (den l) := by
    unfold comb den wt
    rw [smax_three, Fin.sum_univ_three, Fin.sum_univ_three]
  have hdiv : ∀ x : EReal, Ideal.div x (den l) = ((d⁻¹ : ℝ) : EReal) * x := fun x => by
    rw [hde, Ideal.div, if_neg (by rw [← EReal.coe_zero, EReal.coe_eq_coe_iff]; exact hd.ne'), mul_comm, ← EReal.coe_inv]
  rw [key, hdiv, mul_sum_of_nonneg _ _ _ (inv_nonneg.2 hd.le)]
  refine Finset.sum_congr rfl fun i _ => ?_
  rw [hdiv, mul_assoc]

/-- The rows' queries, keys and values side by side. -/
abbrev Rows := Fin 8192 → Fin 1536 → EReal
/-- A branch's bias of every head, place and key. -/
abbrev Bias := Fin 8 → Fin 128 → Fin 256 → EReal

/-- The row of a query's key `j` at dilation `d`. -/
def keyRow (d r j : ℕ) : Fin 8192 := ⟨(r + d * j - d * (r / d % 128 + 128)) % 8192, Nat.mod_lt _ (by decide)⟩
/-- Key `j` is in the window and not before the sequence's start. -/
def Seen (d r j : ℕ) : Prop := (r / d % 128 ≤ j ∧ j ≤ r / d % 128 + 128) ∧ 128 ≤ r / d / 128 * 128 + j
instance (d r j : ℕ) : Decidable (Seen d r j) := inferInstanceAs (Decidable (_ ∧ _))

/-- A query's scores in one head. -/
def sc (Q : Rows) (B : Bias) (d : ℕ) (r : Fin 8192) (H : Fin 8) (j : Fin 256) : EReal :=
  if Seen d r.val j.val then
    (∑ e : Fin 64, Q r ⟨H.val * 64 + e.val, by omega⟩ * qscale * Q (keyRow d r.val j.val) ⟨512 + (H.val * 64 + e.val), by omega⟩)
      + B H ⟨r.val / d % 128, by omega⟩ j
  else ⊥

/-- One lane of the values. -/
def vals (Q : Rows) (d : ℕ) (r : Fin 8192) (C : Fin 512) (j : Fin 256) : EReal := Q (keyRow d r.val j.val) ⟨1024 + C.val, by omega⟩

theorem isReal_qscale : IsReal qscale := by
  refine ⟨1 / 8, ?_⟩
  simp [Ideal.ofBits, Ideal.ieee]
  rw [← EReal.coe_mul]
  norm_num

theorem sc_real {Q : Rows} {B : Bias} (hQ : ∀ r c, IsReal (Q r c)) (hB : ∀ H a j, IsReal (B H a j)) (d : ℕ) (r : Fin 8192) (H : Fin 8) :
    (∀ j, sc Q B d r H j ≠ ⊤) ∧ ∃ j, IsReal (sc Q B d r H j) := by
  have key : ∀ j : Fin 256, Seen d r.val j.val → IsReal (sc Q B d r H j) := fun j hj => by
    rw [sc, if_pos hj]
    exact (IsReal.sum fun e => ((hQ _ _).mul isReal_qscale).mul (hQ _ _)).add (hB _ _ _)
  refine ⟨fun j => ?_, ⟨r.val / d % 128 + 128, by omega⟩, key _ ?_⟩
  · by_cases hj : Seen d r.val j.val
    · obtain ⟨x, hx⟩ := key j hj
      rw [hx]; exact EReal.coe_ne_top x
    · rw [sc, if_neg hj]; exact bot_ne_top
  · exact ⟨⟨by show _ ≤ _ + 128; omega, le_rfl⟩, by show 128 ≤ _ + (_ + 128); omega⟩

end Cert.Proof.Attn

end
-- ==== Proof.AttnWindow.lean ====
/- The window's mask, as the host computes it. -/
module

public import proofs.«01_k».proof.Proof.AttnSpec
public import proofs.«01_k».proof.Proof.Gen.Reference3Ideal.Read
public import Idealize.ShloMosaic.Lib.Pipeline.ValueKit

@[expose] public section

set_option maxRecDepth 16384

noncomputable section

namespace Cert.Proof.Attn

open Idealize.ShloMosaic

/-- A key is in a query's window. -/
def Win (a : Fin 128) (j : Fin 256) : Prop := a.val ≤ j.val ∧ j.val ≤ a.val + 128
instance (a : Fin 128) (j : Fin 256) : Decidable (Win a j) := inferInstanceAs (Decidable (_ ∧ _))

theorem window_bits : ∀ (a : Fin 128) (j : Fin 256),
    IntOp.andi (IntOp.cmpi .sge (IntOp.subi (IntOp.addi 128#32 (BitVec.ofNat 32 a.val)) (BitVec.ofNat 32 j.val)) 0#32)
      (IntOp.cmpi .sle (IntOp.subi (IntOp.addi 128#32 (BitVec.ofNat 32 a.val)) (BitVec.ofNat 32 j.val)) 128#32) = if Win a j then 1#1 else 0#1 := by
  decide +kernel

/-- A key is not before the sequence's start. -/
theorem start_bits : ∀ (c : Fin 64) (j : Fin 256),
    IntOp.cmpi .sge (IntOp.subi (IntOp.addi (IntOp.muli (BitVec.ofNat 32 c.val) 128#32) (BitVec.ofNat 32 j.val)) 128#32) 0#32
      = if 128 ≤ c.val * 128 + j.val then 1#1 else 0#1 := by
  decide +kernel

theorem mask_bits (a : Fin 128) (j : Fin 256) (c : Fin 64) :
    IntOp.andi (IntOp.andi (IntOp.cmpi .sge (IntOp.subi (IntOp.addi 128#32 (BitVec.ofNat 32 a.val)) (BitVec.ofNat 32 j.val)) 0#32)
      (IntOp.cmpi .sle (IntOp.subi (IntOp.addi 128#32 (BitVec.ofNat 32 a.val)) (BitVec.ofNat 32 j.val)) 128#32))
      (IntOp.cmpi .sge (IntOp.subi (IntOp.addi (IntOp.muli (BitVec.ofNat 32 c.val) 128#32) (BitVec.ofNat 32 j.val)) 128#32) 0#32)
      = if Win a j ∧ 128 ≤ c.val * 128 + j.val then 1#1 else 0#1 := by
  rw [window_bits, start_bits]
  by_cases h1 : Win a j <;> by_cases h2 : 128 ≤ c.val * 128 + j.val <;> simp [h1, h2, IntOp.andi]

end Cert.Proof.Attn

end
-- ==== Proof.AttnTab.lean ====
/- The dilated attention's bias tiles, read from the host's lines. -/
module

public import proofs.«01_k».proof.Proof.AttnRun
public import proofs.«01_k».proof.Proof.AttnWindow

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable (m : (ℓ : Loc nD τ sig) → Buf (Elt Ideal) ℓ)

/-- What a buffer holds when the three branches' tiles are joined. -/
def atJoin (c : Dev nD) (b : Ref sig .tc) : b.ty.Contents (Elt Ideal) :=
  StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 157 (Proc.tc.devRef b)

theorem v109_eq (c : Dev nD) : tabOf m c =
    shapeCast S3x4x256x256 (concatenate S3x8x128x256 0 [⟨S1x8x128x256, atJoin m c main_v105⟩, ⟨S1x8x128x256, atJoin m c main_v106⟩, ⟨S1x8x128x256, atJoin m c main_v107⟩]
      concatenates_S1x8x128x256_S1x8x128x256_S1x8x128x256_S3x8x128x256_d0) shapeCasts_S3x8x128x256_S3x4x256x256 := by
  unfold tabOf V
  after_reads_simp
  rfl

/-- The words of the window's mask. -/
def inWin : Vec Ideal S128x256 .i1 :=
  andi (cmpi .sge (subi (addi (broadcastInDim S128x256 ![] bcast_S_S128x256 (constantI S_ 32 128#32)) (iotaInDim S128x256 32 0)) (iotaInDim S128x256 32 1)) (broadcastInDim S128x256 ![] bcast_S_S128x256 (constantI S_ 32 0#32)))
    (cmpi .sle (subi (addi (broadcastInDim S128x256 ![] bcast_S_S128x256 (constantI S_ 32 128#32)) (iotaInDim S128x256 32 0)) (iotaInDim S128x256 32 1)) (broadcastInDim S128x256 ![] bcast_S_S128x256 (constantI S_ 32 128#32)))

theorem inWin_at (a : Fin 128) (j : Fin 256) : inWin (ix2 a j) = if Win a j then 1#1 else 0#1 := by
  rw [← window_bits]
  pointwise [inWin]

/-- A branch's tile over every head: its bias inside the window, `⊥` outside. -/
def tileOf (B : Vec Ideal S8x128x256 .f32) : Vec Ideal S1x8x128x256 .f32 :=
  broadcastInDim S1x8x128x256 ![1, 2, 3] bcast_S8x128x256_S1x8x128x256_1_2_3
    (select (broadcastInDim S8x128x256 ![1, 2] bcast_S128x256_S8x128x256_1_2 inWin) B (broadcastInDim S8x128x256 ![] bcast_S_S8x128x256 (constant (F := Ideal) S_ .f32 0xFF800000#32)))

theorem tileOf_at (B : Vec Ideal S8x128x256 .f32) (H : Fin 8) (a : Fin 128) (j : Fin 256) :
    tileOf B (ix4 0 H a j) = if Win a j then B (ix3 H a j) else (⊥ : EReal) := by
  pointwise [tileOf]
  rw [inWin_at]
  by_cases h : Win a j
  · rw [if_pos h, if_pos h]; rfl
  · rw [if_neg h, if_neg h]; exact low_eq

/-- The bias given. -/
abbrev relOf (c : Dev nD) : Vec Ideal S32x8 .f32 := m ((c : Thread nD τ).loc main_arg1)

theorem v105_eq (c : Dev nD) : atJoin m c main_v105 = tileOf (Cert.Reference3Ideal.Read.val_main_v80 (F := Ideal) (relOf m c)) := by
  unfold atJoin
  after_reads_simp
  rfl

theorem v106_eq (c : Dev nD) : atJoin m c main_v106 = tileOf (Cert.Reference3Ideal.Read.val_main_v178 (F := Ideal) (relOf m c)) := by
  unfold atJoin
  after_reads_simp
  rfl

theorem v107_eq (c : Dev nD) : atJoin m c main_v107 = tileOf (Cert.Reference3Ideal.Read.val_main_v276 (F := Ideal) (relOf m c)) := by
  unfold atJoin
  after_reads_simp
  rfl

/-- The three branches' biases by head, place and key. -/
def biasOf (w : Vec Ideal S32x8 .f32) : Fin 3 → Bias := fun di H a j =>
  (![Cert.Reference3Ideal.Read.val_main_v80 (F := Ideal) w, Cert.Reference3Ideal.Read.val_main_v178 (F := Ideal) w, Cert.Reference3Ideal.Read.val_main_v276 (F := Ideal) w] di : Vec Ideal S8x128x256 .f32) (ix3 H a j)

theorem tab_at (c : Dev nD) (di : Fin 3) (hp : Fin 4) (h : Fin 2) (a : Fin 128) (j : Fin 256) :
    tabOf m c (ix4 di hp (row h a) j) = if Win a j then biasOf (relOf m c) di ⟨hp.val * 2 + h.val, by omega⟩ a j else (⊥ : EReal) := by
  rw [v109_eq]
  refine (shapeCast_apply _ shapeCasts_S3x8x128x256_S3x4x256x256 _ (ix4 di ⟨hp.val * 2 + h.val, by omega⟩ a j) ?_).trans ?_
  · rw [Shape.rowMajor_val_four, Shape.rowMajor_val_four]
    show (((di.val * 8 + (hp.val * 2 + h.val)) * 128 + a.val) * 256 + j.val) = (((di.val * 4 + hp.val) * 256 + (h.val * 128 + a.val)) * 256 + j.val)
    ring
  rw [v105_eq, v106_eq, v107_eq]
  fin_cases di
  · refine Eq.trans ?_ (tileOf_at _ _ a j)
    pointwise
  · refine Eq.trans ?_ (tileOf_at _ _ a j)
    pointwise
  · refine Eq.trans ?_ (tileOf_at _ _ a j)
    pointwise

end Cert.Proof.Attn

end
-- ==== Proof.AttnValue.lean ====
/- The dilated attention's two result arrays: every branch's scores as formulas over the whole arrays. -/
module

public import proofs.«01_k».proof.Proof.AttnPoints
public import proofs.«01_k».proof.Proof.AttnTab
public import proofs.«01_k».proof.Proof.Gen.Kernel3Ideal.Value

@[expose] public section

set_option maxRecDepth 16384
set_option maxHeartbeats 4000000

noncomputable section

namespace Cert.Proof.Attn

open Cert.Kernel3Ideal Cert.Kernel3Ideal.Gen Idealize.ShloMosaic Idealize.ShloMosaic.TcCoe Idealize.SL.Sem

variable (m : (ℓ : Loc nD τ sig) → Buf (Elt Ideal) ℓ)

theorem dil_cases : ∀ i : Fin 3, dil i = 1 ∨ dil i = 4 ∨ dil i = 16 := by decide

/-- A row's place and block, from its superblock and its row there. -/
theorem place {d s r : ℕ} (hd : d = 1 ∨ d = 4 ∨ d = 16) (hr : r < 2048) :
    (s * 2048 + r) / d % 128 = r / d % 128 ∧ (s * 2048 + r) / d / 128 = s * (16 / d) + r / d / 128 := by
  rcases hd with rfl | rfl | rfl <;> constructor <;> omega

/-- A key that is seen lies in the block before or in the block itself. -/
theorem seen_key {d s r j : ℕ} (hd : d = 1 ∨ d = 4 ∨ d = 16) (hr : r < 2048) (hs : s < 4) (hj : j < 256) (h : Seen d (s * 2048 + r) j) :
    (kbase d r + d * j < 2048 → (keyRow d (s * 2048 + r) j).val = (s - 1) * 2048 + (kbase d r + d * j))
    ∧ (¬ kbase d r + d * j < 2048 → kbase d r + d * j - 2048 < 2048 ∧ (keyRow d (s * 2048 + r) j).val = s * 2048 + (kbase d r + d * j - 2048)) := by
  obtain ⟨⟨h1, h2⟩, h3⟩ := h
  obtain ⟨e1, e2⟩ := place (s := s) hd hr
  rw [e1] at h1 h2
  rw [e2] at h3
  have hp : (plc d r).val = r / d % 128 := rfl
  have hk : kbase d r = 2048 + r - d * (r / d % 128) - 128 * d := by rw [kbase, hp]
  have hv : (keyRow d (s * 2048 + r) j).val = (s * 2048 + r + d * j - d * (r / d % 128 + 128)) % 8192 := by
    show (s * 2048 + r + d * j - d * ((s * 2048 + r) / d % 128 + 128)) % 8192 = _
    rw [e1]
  rw [hv, hk]
  rcases hd with rfl | rfl | rfl <;> constructor <;> intro hn <;> omega

theorem two_seen {Q : Rows} {x1 x2 : Vec Ideal S2048x128 .f32} {d s r j : ℕ} {l : Fin 128} {C : Fin 1536} (hd : d = 1 ∨ d = 4 ∨ d = 16)
    (hr : r < 2048) (hs : s < 4) (hj : j < 256) (h : Seen d (s * 2048 + r) j)
    (h1 : ∀ a : Fin 2048, x1 (ix2 a l) = Q ⟨(s - 1) * 2048 + a.val, by omega⟩ C) (h2 : ∀ a : Fin 2048, x2 (ix2 a l) = Q ⟨s * 2048 + a.val, by omega⟩ C) :
    two x1 x2 (kbase d r + d * j) l = Q (keyRow d (s * 2048 + r) j) C := by
  obtain ⟨k1, k2⟩ := seen_key hd hr hs hj h
  unfold two
  by_cases hn : kbase d r + d * j < 2048
  · rw [dif_pos hn, h1]
    exact congrArg (Q · C) (Fin.ext (k1 hn).symm)
  · rw [dif_neg hn, dif_pos (k2 hn).1, h2]
    exact congrArg (Q · C) (Fin.ext (k2 hn).2.symm)

/-- The rows as a function of row and column. -/
abbrev rowsQ (c : Dev nD) : Rows := fun r j => qkvOf m c (ix2 r j)
/-- The row and the head of a lane of a point. -/
abbrev rho (t : Fin cfg0.N) (r : Fin 2048) : Fin 8192 := ⟨t.val % 4 * 2048 + r.val, by omega⟩
abbrev colOf (t : Fin cfg0.N) (l : Fin 128) : Fin 512 := ⟨t.val / 4 * 128 + l.val, by have := point_lt t; omega⟩
abbrev headOf (C : Fin 512) : Fin 8 := ⟨C.val / 64, by omega⟩

theorem tile_at (c : Dev nD) (t : Fin cfg0.N) (i : Fin 3) (r : Fin 2048) (h : Fin 2) (j : Fin 256) (H : Fin 8) (hH : H.val = t.val / 4 * 2 + h.val) :
    twoTiles (iblk m c 5 t) (ix4 i (if r.val / dil i / 128 = 0 then firstOf t else 0) (row h (plc (dil i) r.val)) j)
      = if Seen (dil i) (rho t r).val j.val then biasOf (relOf m c) i H ⟨(rho t r).val / dil i % 128, by omega⟩ j else (⊥ : EReal) := by
  obtain ⟨e1, e2⟩ := place (s := t.val % 4) (dil_cases i) r.isLt
  have hH' : (⟨(hpOf t).val * 2 + h.val, by have := point_lt t; show t.val / 4 * 2 + h.val < 8; omega⟩ : Fin 8) = H := Fin.ext hH.symm
  have hP : plc (dil i) r.val = ⟨(rho t r).val / dil i % 128, by omega⟩ := Fin.ext e1.symm
  have hW : Win (plc (dil i) r.val) j ↔ (rho t r).val / dil i % 128 ≤ j.val ∧ j.val ≤ (rho t r).val / dil i % 128 + 128 := by rw [hP]; exact Iff.rfl
  have hd := dil_cases i
  by_cases hm : (if r.val / dil i / 128 = 0 then firstOf t else 0).val = 1 ∧ j.val < 128
  · have : ¬ Seen (dil i) (rho t r).val j.val := by
      rintro ⟨_, h3⟩
      rw [e2] at h3
      obtain ⟨hm1, hm2⟩ := hm
      by_cases h0 : r.val / dil i / 128 = 0
      · rw [if_pos h0] at hm1
        unfold firstOf at hm1
        by_cases h4 : t.val % 4 = 0
        · rw [h4] at h3; omega
        · rw [if_neg h4] at hm1; exact absurd hm1 (by decide)
      · rw [if_neg h0] at hm1; exact absurd hm1 (by decide)
    rw [if_neg this]
    exact if_pos hm
  · refine (if_neg hm).trans ((blk5 m c t i _ j).trans ((tab_at m c i (hpOf t) h _ j).trans ?_))
    rw [hH']
    have hs : Seen (dil i) (rho t r).val j.val ↔ Win (plc (dil i) r.val) j := by
      rw [hW]
      refine ⟨fun h => h.1, fun h => ⟨h, ?_⟩⟩
      rw [e2]
      by_contra h3
      apply hm
      have h4 : t.val % 4 = 0 := by
        by_contra h4
        rcases hd with hd | hd | hd <;> rw [hd] at h3 <;> omega
      rw [h4] at h3
      have h0 : r.val / dil i / 128 = 0 := by omega
      rw [if_pos h0]
      unfold firstOf
      rw [if_pos h4]
      exact ⟨rfl, by omega⟩
    rw [hP] at hs ⊢
    exact if_congr hs.symm rfl rfl

theorem scores_at (c : Dev nD) (t : Fin cfg0.N) (i : Fin 3) (r : Fin 2048) (l : Fin 128) :
    brS (iblk m c 0 t) (iblk m c 1 t) (iblk m c 2 t) (twoTiles (iblk m c 5 t)) (firstOf t) i r (hd l)
      = sc (rowsQ m c) (biasOf (relOf m c) i) (dil i) (rho t r) (headOf (colOf t l)) := by
  have hlt := point_lt t
  have hH : (headOf (colOf t l)).val = t.val / 4 * 2 + (hd l).val := by
    show (t.val / 4 * 128 + l.val) / 64 = t.val / 4 * 2 + l.val / 64
    omega
  funext j
  unfold brS usc sc
  dsimp only
  rw [tile_at m c t i r (hd l) j _ hH]
  by_cases hS : Seen (dil i) (rho t r).val j.val
  · rw [if_pos hS, if_pos hS, sum_head]
    refine congrArg (· + _) (Finset.sum_congr rfl fun e _ => ?_)
    have hc : t.val / 4 * 128 + ((hd l).val * 64 + e.val) = (headOf (colOf t l)).val * 64 + e.val := by rw [hH]; omega
    refine congrArg₂ (· * ·) (congrArg (· * qscale) ?_) ?_
    · rw [blk0]
      exact congrArg (fun z => qkvOf m c (ix2 (rho t r) z)) (Fin.ext hc)
    · refine (two_seen (Q := rowsQ m c) (C := ⟨512 + (t.val / 4 * 128 + ((hd l).val * 64 + e.val)), by omega⟩) (dil_cases i) r.isLt (by omega) j.isLt hS (fun a => blk1 m c t a _) (fun a => blk2 m c t a _)).trans ?_
      exact congrArg (rowsQ m c _) (Fin.ext (congrArg (512 + ·) hc))
  · rw [if_neg hS, if_neg hS, EReal.add_bot]

theorem pointL_eq (c : Dev nD) (t : Fin cfg0.N) (r : Fin 2048) (l : Fin 128) :
    pointL m c t r l = fun i => lse (sc (rowsQ m c) (biasOf (relOf m c) i) (dil i) (rho t r) (headOf (colOf t l))) :=
  funext fun i => congrArg lse (scores_at m c t i r l)

theorem pointO_eq (c : Dev nD) (t : Fin cfg0.N) (r : Fin 2048) (l : Fin 128) :
    pointO m c t r l = fun i => att (sc (rowsQ m c) (biasOf (relOf m c) i) (dil i) (rho t r) (headOf (colOf t l))) (vals (rowsQ m c) (dil i) (rho t r) (colOf t l)) := by
  funext i
  refine att_congr (scores_at m c t i r l) fun j => ?_
  by_cases hS : Seen (dil i) (rho t r).val j.val
  · refine Or.inr (two_seen (Q := rowsQ m c) (C := ⟨1024 + (colOf t l).val, by omega⟩) (dil_cases i) r.isLt (by omega) j.isLt hS (fun a => ?_) (fun a => ?_))
    · exact blk3 m c t a _
    · exact blk4 m c t a _
  · left
    exact (congrFun (scores_at m c t i r l) j).trans (if_neg hS)

/-- The branches' logarithms of sums and outputs at a row and a column. -/
def lses (Q : Rows) (B : Fin 3 → Bias) (r : Fin 8192) (H : Fin 8) (i : Fin 3) : EReal := lse (sc Q (B i) (dil i) r H)
def outs (Q : Rows) (B : Fin 3 → Bias) (r : Fin 8192) (C : Fin 512) (i : Fin 3) : EReal := att (sc Q (B i) (dil i) r (headOf C)) (vals Q (dil i) r C)

theorem final_out (c : Dev nD) : (dats m 0 c).arrAt 6 (cfgs 0).N = fun i : S8192x512.Idx => comb (lses (rowsQ m c) (biasOf (relOf m c)) (i 0) (headOf (i 1))) (outs (rowsQ m c) (biasOf (relOf m c)) (i 0) (i 1)) := by
  refine (dats m 0 c).arrAt_eq_of_covers 6 _ (by decide +kernel) fun t _ y => ?_
  blk_simp
  rw [after0_6]
  idx_vars y
  have e : ((View.whole main_v110_0).slice (win0_6.rect t)).emb (ix2 y0 y1) = ix2 (rho t y0) (colOf t y1) := by
    blk_ext [idx t]
  rw [e, point_out, pointL_eq, pointO_eq]
  rfl

theorem final_lse (c : Dev nD) : (dats m 0 c).arrAt 7 (cfgs 0).N = fun i : S8192x512.Idx => lse (lses (rowsQ m c) (biasOf (relOf m c)) (i 0) (headOf (i 1))) := by
  refine (dats m 0 c).arrAt_eq_of_covers 7 _ (by decide +kernel) fun t _ y => ?_
  blk_simp
  rw [after0_7]
  idx_vars y
  have e : ((View.whole main_v110_1).slice (win0_7.rect t)).emb (ix2 y0 y1) = ix2 (rho t y0) (colOf t y1) := by
    blk_ext [idx t]
  rw [e, point_lse, pointL_eq, combL_eq]
  rfl

end Cert.Proof.Attn

end
-- ==== Proof.AttnRef1.lean ====
/- The dilated attention's reference at dilation 1, read stage by stage. -/
module

public import proofs.«01_k».proof.Proof.AttnWindow

@[expose] public section

set_option maxRecDepth 16384
set_option maxHeartbeats 400000

noncomputable section

namespace Cert.Proof.Attn.Ref1

open Cert.Reference3Ideal Cert.Reference3Ideal.Read Idealize.ShloMosaic

variable (x : Vec Ideal S8192x1536 .f32) (w : Vec Ideal S32x8 .f32)

theorem q_at (r : Fin 1) (H : Fin 8) (c : Fin 64) (a : Fin 128) (e : Fin 64) :
    val_main_v10 (F := Ideal) x (ix5 r H c a e) = x (ix2 ⟨(c.val * 128 + a.val) * 1 + r.val, by omega⟩ ⟨H.val * 64 + e.val, by omega⟩) * qscale := by
  obtain rfl : r = 0 := Subsingleton.elim _ _
  pointwise [val_main_v10, val_main_v9, val_main_v8, val_main_v7, val_main_v6, val_main_cst, val_main_v1, val_main_v0]

theorem ksub_at (r : Fin 1) (H : Fin 8) (n : Fin 8192) (e : Fin 64) :
    val_main_v12 (F := Ideal) x (ix4 r H n e) = x (ix2 ⟨n.val * 1 + r.val, by omega⟩ ⟨512 + (H.val * 64 + e.val), by omega⟩) := by
  obtain rfl : r = 0 := Subsingleton.elim _ _
  pointwise [val_main_v12, val_main_v11, val_main_v3, val_main_v2]

theorem kpad_at (r : Fin 1) (H : Fin 8) (n : Fin 8320) (e : Fin 64) :
    val_main_v14 (F := Ideal) x (ix4 r H n e) = if h : n.val < 128 then (0 : EReal) else x (ix2 ⟨(n.val - 128) * 1 + r.val, by omega⟩ ⟨512 + (H.val * 64 + e.val), by omega⟩) := by
  obtain rfl : r = 0 := Subsingleton.elim _ _
  pointwise [val_main_v14, val_main_v13, val_main_cst_0]
  by_cases h : n.val < 128
  · rw [dif_pos h, dif_pos h]
  · rw [dif_neg h, dif_neg h, ksub_at]
    exact congrArg (fun z => x (ix2 z _)) (Fin.ext (by show (n.val - 128) * 1 + 0 = n.val - 128; omega))

theorem kblk_at (r : Fin 1) (H : Fin 8) (c : Fin 65) (a : Fin 128) (e : Fin 64) :
    val_main_v15 (F := Ideal) x (ix5 r H c a e) = val_main_v14 (F := Ideal) x (ix4 r H ⟨c.val * 128 + a.val, by omega⟩ e) := by
  rw [val_main_v15_apply]
  refine congrArg _ (funext fun z => Fin.ext ?_)
  fin_cases z
  · show 0 = r.val; omega
  · show ((((r.val * 8 + H.val) * 65 + c.val) * 128 + a.val) * 64 + e.val) / 532480 % 8 = H.val; omega
  · show ((((r.val * 8 + H.val) * 65 + c.val) * 128 + a.val) * 64 + e.val) / 64 % 8320 = c.val * 128 + a.val; omega
  · show ((((r.val * 8 + H.val) * 65 + c.val) * 128 + a.val) * 64 + e.val) % 64 = e.val; omega

theorem klo_at (r : Fin 1) (H : Fin 8) (c : Fin 64) (a : Fin 128) (e : Fin 64) :
    val_main_v16 (F := Ideal) x (ix5 r H c a e) = val_main_v14 (F := Ideal) x (ix4 r H ⟨c.val * 128 + a.val, by omega⟩ e) := by
  rw [val_main_v16_apply, ← kblk_at x r H ⟨c.val, by omega⟩ a e]
  refine congrArg _ (funext fun z => ?_)
  fin_cases z <;> rfl

theorem khi_at (r : Fin 1) (H : Fin 8) (c : Fin 64) (a : Fin 128) (e : Fin 64) :
    val_main_v17 (F := Ideal) x (ix5 r H c a e) = val_main_v14 (F := Ideal) x (ix4 r H ⟨(1 + c.val) * 128 + a.val, by omega⟩ e) := by
  rw [val_main_v17_apply, ← kblk_at x r H ⟨1 + c.val, by omega⟩ a e]
  refine congrArg _ (funext fun z => ?_)
  fin_cases z <;> rfl

theorem k_at (r : Fin 1) (H : Fin 8) (c : Fin 64) (j : Fin 256) (e : Fin 64) :
    val_main_v18 (F := Ideal) x (ix5 r H c j e) = val_main_v14 (F := Ideal) x (ix4 r H ⟨c.val * 128 + j.val, by omega⟩ e) := by
  obtain rfl : r = 0 := Subsingleton.elim _ _
  pointwise [val_main_v18]
  by_cases h : j.val < 128
  · rw [dif_pos h, klo_at]
  · rw [dif_neg h, khi_at]
    have hj : (1 + c.val) * 128 + (j.val - 128) = c.val * 128 + j.val := by omega
    exact congrArg (fun z => val_main_v14 (F := Ideal) x (ix4 0 H z e)) (Fin.ext hj)

theorem vsub_at (r : Fin 1) (H : Fin 8) (n : Fin 8192) (e : Fin 64) :
    val_main_v20 (F := Ideal) x (ix4 r H n e) = x (ix2 ⟨n.val * 1 + r.val, by omega⟩ ⟨1024 + (H.val * 64 + e.val), by omega⟩) := by
  obtain rfl : r = 0 := Subsingleton.elim _ _
  pointwise [val_main_v20, val_main_v19, val_main_v5, val_main_v4]

theorem vpad_at (r : Fin 1) (H : Fin 8) (n : Fin 8320) (e : Fin 64) :
    val_main_v22 (F := Ideal) x (ix4 r H n e) = if h : n.val < 128 then (0 : EReal) else x (ix2 ⟨(n.val - 128) * 1 + r.val, by omega⟩ ⟨1024 + (H.val * 64 + e.val), by omega⟩) := by
  obtain rfl : r = 0 := Subsingleton.elim _ _
  pointwise [val_main_v22, val_main_v21, val_main_cst_1]
  by_cases h : n.val < 128
  · rw [dif_pos h, dif_pos h]
  · rw [dif_neg h, dif_neg h, vsub_at]
    exact congrArg (fun z => x (ix2 z _)) (Fin.ext (by show (n.val - 128) * 1 + 0 = n.val - 128; omega))

theorem vblk_at (r : Fin 1) (H : Fin 8) (c : Fin 65) (a : Fin 128) (e : Fin 64) :
    val_main_v23 (F := Ideal) x (ix5 r H c a e) = val_main_v22 (F := Ideal) x (ix4 r H ⟨c.val * 128 + a.val, by omega⟩ e) := by
  rw [val_main_v23_apply]
  refine congrArg _ (funext fun z => Fin.ext ?_)
  fin_cases z
  · show 0 = r.val; omega
  · show ((((r.val * 8 + H.val) * 65 + c.val) * 128 + a.val) * 64 + e.val) / 532480 % 8 = H.val; omega
  · show ((((r.val * 8 + H.val) * 65 + c.val) * 128 + a.val) * 64 + e.val) / 64 % 8320 = c.val * 128 + a.val; omega
  · show ((((r.val * 8 + H.val) * 65 + c.val) * 128 + a.val) * 64 + e.val) % 64 = e.val; omega

theorem vlo_at (r : Fin 1) (H : Fin 8) (c : Fin 64) (a : Fin 128) (e : Fin 64) :
    val_main_v24 (F := Ideal) x (ix5 r H c a e) = val_main_v22 (F := Ideal) x (ix4 r H ⟨c.val * 128 + a.val, by omega⟩ e) := by
  rw [val_main_v24_apply, ← vblk_at x r H ⟨c.val, by omega⟩ a e]
  refine congrArg _ (funext fun z => ?_)
  fin_cases z <;> rfl

theorem vhi_at (r : Fin 1) (H : Fin 8) (c : Fin 64) (a : Fin 128) (e : Fin 64) :
    val_main_v25 (F := Ideal) x (ix5 r H c a e) = val_main_v22 (F := Ideal) x (ix4 r H ⟨(1 + c.val) * 128 + a.val, by omega⟩ e) := by
  rw [val_main_v25_apply, ← vblk_at x r H ⟨1 + c.val, by omega⟩ a e]
  refine congrArg _ (funext fun z => ?_)
  fin_cases z <;> rfl

theorem v_at (r : Fin 1) (H : Fin 8) (c : Fin 64) (j : Fin 256) (e : Fin 64) :
    val_main_v26 (F := Ideal) x (ix5 r H c j e) = val_main_v22 (F := Ideal) x (ix4 r H ⟨c.val * 128 + j.val, by omega⟩ e) := by
  obtain rfl : r = 0 := Subsingleton.elim _ _
  pointwise [val_main_v26]
  by_cases h : j.val < 128
  · rw [dif_pos h, vlo_at]
  · rw [dif_neg h, vhi_at]
    have hj : (1 + c.val) * 128 + (j.val - 128) = c.val * 128 + j.val := by omega
    exact congrArg (fun z => val_main_v22 (F := Ideal) x (ix4 0 H z e)) (Fin.ext hj)

theorem mask_at (c : Fin 64) (a : Fin 128) (j : Fin 256) :
    val_main_v50 (F := Ideal) (ix3 c a j) = if Win a j ∧ 128 ≤ c.val * 128 + j.val then 1#1 else 0#1 := by
  rw [← mask_bits a j ⟨c.val, by omega⟩]
  pointwise [val_main_v50, val_main_v49, val_main_v48, val_main_v47, val_main_v46, val_main_v45, val_main_v44, val_main_v36, val_main_v33, val_main_v35, val_main_v31, val_main_v32, val_main_v34, val_main_v29, val_main_v30, val_main_v28, val_main_v27, val_main_v43, val_main_v42, val_main_v41, val_main_v40, val_main_v39, val_main_v38, val_main_v37, val_main_c, val_main_c_2, val_main_c_3, val_main_c_4, val_main_c_5, val_main_c_6]

theorem score_at (r : Fin 1) (H : Fin 8) (c : Fin 64) (a : Fin 128) (j : Fin 256) :
    val_main_v86 (F := Ideal) x w (ix5 r H c a j) = Scalar.select (val_main_v50 (F := Ideal) (ix3 c a j))
      ((∑ e : Fin 64, val_main_v10 (F := Ideal) x (ix5 r H c a e) * val_main_v18 (F := Ideal) x (ix5 r H c j e)) + val_main_v80 (F := Ideal) w (ix3 H a j)) (Ideal.ofBits .f32 0xFF800000#32) := by
  obtain rfl : r = 0 := Subsingleton.elim _ _
  pointwise [val_main_v86, val_main_v85, val_main_v84, val_main_v83, val_main_v82, val_main_call1_v1, val_main_call1_v2, val_main_call1_v0, val_main_cst_18, val_main_v81]
  rfl

theorem max_at (r : Fin 1) (H : Fin 8) (c : Fin 64) (a : Fin 128) :
    val_main_v87 (F := Ideal) x w (ix4 r H c a) = smax fun j => val_main_v86 (F := Ideal) x w (ix5 r H c a j) := by
  obtain rfl : r = 0 := Subsingleton.elim _ _
  pointwise [val_main_v87]
  rfl

theorem wt_at (r : Fin 1) (H : Fin 8) (c : Fin 64) (a : Fin 128) (j : Fin 256) :
    val_main_v91 (F := Ideal) x w (ix5 r H c a j) = wt (fun j => val_main_v86 (F := Ideal) x w (ix5 r H c a j)) j := by
  obtain rfl : r = 0 := Subsingleton.elim _ _
  pointwise [val_main_v91, val_main_v90, val_main_v89, val_main_v88]
  rw [max_at]
  rfl

theorem den_at (r : Fin 1) (H : Fin 8) (c : Fin 64) (a : Fin 128) :
    val_main_v92 (F := Ideal) x w (ix4 r H c a) = den fun j => val_main_v86 (F := Ideal) x w (ix5 r H c a j) := by
  obtain rfl : r = 0 := Subsingleton.elim _ _
  pointwise [val_main_v92, val_main_cst_20]
  simp only [wt_at]
  rfl

theorem out_at (r : Fin 1) (H : Fin 8) (c : Fin 64) (a : Fin 128) (e : Fin 64) :
    val_main_v96 (F := Ideal) x w (ix5 r H c a e) = att (fun j => val_main_v86 (F := Ideal) x w (ix5 r H c a j)) fun j => val_main_v26 (F := Ideal) x (ix5 r H c j e) := by
  obtain rfl : r = 0 := Subsingleton.elim _ _
  pointwise [val_main_v96, val_main_v95, val_main_v94, val_main_v93]
  simp only [wt_at, den_at]
  rfl

theorem lse_at (r : Fin 1) (H : Fin 8) (c : Fin 64) (a : Fin 128) :
    val_main_v99 (F := Ideal) x w (ix4 r H c a) = lse fun j => val_main_v86 (F := Ideal) x w (ix5 r H c a j) := by
  have e : idx_main_v88 (idx_main_v99 (ix4 r H c a)) = ix4 r H c a := by
    refine funext fun z => Fin.ext ?_
    fin_cases z
    · show 0 = r.val; omega
    · show (((r.val * 8 + H.val) * 64 + c.val) * 128 + a.val) / 8192 % 8 = H.val; omega
    · show (((r.val * 8 + H.val) * 64 + c.val) * 128 + a.val) / 128 % 64 = c.val; omega
    · show (((r.val * 8 + H.val) * 64 + c.val) * 128 + a.val) / 1 % 128 = a.val; omega
  have e' : idx_main_v93 (idx_main_v99 (ix4 r H c a)) = ix4 r H c a := e
  rw [val_main_v99_apply, val_main_v98_apply, val_main_v97_apply, val_main_v88_apply, val_main_v93_apply, e, e', max_at, den_at]
  rfl

theorem o_at (n : Fin 8192) (H : Fin 8) (e : Fin 64) :
    val_main_v102 (F := Ideal) x w (ix3 n H e) = val_main_v96 (F := Ideal) x w (ix5 ⟨n.val % 1, by omega⟩ H ⟨n.val / 1 / 128, by omega⟩ ⟨n.val / 1 % 128, by omega⟩ e) := by
  pointwise [val_main_v102, val_main_v101, val_main_v100]

theorem l_at (n : Fin 8192) (H : Fin 8) :
    val_main_v105 (F := Ideal) x w (ix2 n H) = val_main_v99 (F := Ideal) x w (ix4 ⟨n.val % 1, by omega⟩ H ⟨n.val / 1 / 128, by omega⟩ ⟨n.val / 1 % 128, by omega⟩) := by
  pointwise [val_main_v105, val_main_v104, val_main_v103]

/-- The rows, and this dilation's bias. -/
abbrev Q : Rows := fun r j => x (ix2 r j)
abbrev B : Bias := fun H a j => val_main_v80 (F := Ideal) w (ix3 H a j)

theorem seen_iff (n : Fin 8192) (j : Fin 256) :
    Seen 1 n.val j.val ↔ Win ⟨n.val / 1 % 128, by omega⟩ j ∧ 128 ≤ n.val / 1 / 128 * 128 + j.val := Iff.rfl

theorem key_eq (n : Fin 8192) (j : Fin 256) (h : Seen 1 n.val j.val) :
    (n.val / 1 / 128 * 128 + j.val - 128) * 1 + n.val % 1 = (keyRow 1 n.val j.val).val := by
  obtain ⟨⟨h1, h2⟩, h3⟩ := h
  show _ = (n.val + 1 * j.val - 1 * (n.val / 1 % 128 + 128)) % 8192
  omega

theorem scores_eq (n : Fin 8192) (H : Fin 8) :
    (fun j => val_main_v86 (F := Ideal) x w (ix5 ⟨n.val % 1, by omega⟩ H ⟨n.val / 1 / 128, by omega⟩ ⟨n.val / 1 % 128, by omega⟩ j)) = sc (Q x) (B w) 1 n H := by
  funext j
  rw [score_at, mask_at, sc]
  by_cases h : Seen 1 n.val j.val
  · rw [if_pos ((seen_iff n j).1 h), if_pos h]
    refine congrArg (· + _) (Finset.sum_congr rfl fun e _ => congrArg₂ (· * ·) ?_ ?_)
    · rw [q_at]
      exact congrArg (fun z => x (ix2 z _) * qscale) (Fin.ext (by show (n.val / 1 / 128 * 128 + n.val / 1 % 128) * 1 + n.val % 1 = n.val; omega))
    · rw [k_at, kpad_at, dif_neg (not_lt.2 h.2)]
      exact congrArg (fun z => x (ix2 z _)) (Fin.ext (key_eq n j h))
  · rw [if_neg (fun h' => h ((seen_iff n j).2 h')), if_neg h]
    exact low_eq

/-- The branch's logarithm of sums at every row and head. -/
theorem branch_lse (n : Fin 8192) (H : Fin 8) : val_main_v105 (F := Ideal) x w (ix2 n H) = lse (sc (Q x) (B w) 1 n H) := by
  rw [l_at, lse_at, scores_eq]

/-- The branch's output at every row, head and lane. -/
theorem branch_out (n : Fin 8192) (H : Fin 8) (e : Fin 64) (C : Fin 512) (hC : C.val = H.val * 64 + e.val) :
    val_main_v102 (F := Ideal) x w (ix3 n H e) = att (sc (Q x) (B w) 1 n H) (vals (Q x) 1 n C) := by
  rw [o_at, out_at]
  refine att_congr (scores_eq x w n H) fun j => ?_
  by_cases h : Seen 1 n.val j.val
  · right
    rw [v_at, vpad_at, dif_neg (not_lt.2 h.2)]
    exact congrArg₂ (fun z y => x (ix2 z y)) (Fin.ext (key_eq n j h)) (Fin.ext (congrArg (1024 + ·) hC.symm))
  · left
    exact (congrFun (scores_eq x w n H) j).trans (if_neg h)

end Cert.Proof.Attn.Ref1

end
-- ==== Proof.AttnRef4.lean ====
/- The dilated attention's reference at dilation 4, read stage by stage. -/
module

public import proofs.«01_k».proof.Proof.AttnWindow

@[expose] public section

set_option maxRecDepth 16384
set_option maxHeartbeats 400000

noncomputable section

namespace Cert.Proof.Attn.Ref4

open Cert.Reference3Ideal Cert.Reference3Ideal.Read Idealize.ShloMosaic

variable (x : Vec Ideal S8192x1536 .f32) (w : Vec Ideal S32x8 .f32)

theorem q_at (r : Fin 4) (H : Fin 8) (c : Fin 16) (a : Fin 128) (e : Fin 64) :
    val_main_v108 (F := Ideal) x (ix5 r H c a e) = x (ix2 ⟨(c.val * 128 + a.val) * 4 + r.val, by omega⟩ ⟨H.val * 64 + e.val, by omega⟩) * qscale := by
  pointwise [val_main_v108, val_main_v107, val_main_v106, val_main_v7, val_main_v6, val_main_cst, val_main_v1, val_main_v0]

theorem ksub_at (r : Fin 4) (H : Fin 8) (n : Fin 2048) (e : Fin 64) :
    val_main_v110 (F := Ideal) x (ix4 r H n e) = x (ix2 ⟨n.val * 4 + r.val, by omega⟩ ⟨512 + (H.val * 64 + e.val), by omega⟩) := by
  pointwise [val_main_v110, val_main_v109, val_main_v3, val_main_v2]

theorem kpad_at (r : Fin 4) (H : Fin 8) (n : Fin 2176) (e : Fin 64) :
    val_main_v112 (F := Ideal) x (ix4 r H n e) = if h : n.val < 128 then (0 : EReal) else x (ix2 ⟨(n.val - 128) * 4 + r.val, by omega⟩ ⟨512 + (H.val * 64 + e.val), by omega⟩) := by
  pointwise [val_main_v112, val_main_v111, val_main_cst_21]
  by_cases h : n.val < 128
  · rw [dif_pos h, dif_pos h]
  · rw [dif_neg h, dif_neg h, ksub_at]

theorem kblk_at (r : Fin 4) (H : Fin 8) (c : Fin 17) (a : Fin 128) (e : Fin 64) :
    val_main_v113 (F := Ideal) x (ix5 r H c a e) = val_main_v112 (F := Ideal) x (ix4 r H ⟨c.val * 128 + a.val, by omega⟩ e) := by
  rw [val_main_v113_apply]
  refine congrArg _ (funext fun z => Fin.ext ?_)
  fin_cases z
  · show ((((r.val * 8 + H.val) * 17 + c.val) * 128 + a.val) * 64 + e.val) / 1114112 = r.val; omega
  · show ((((r.val * 8 + H.val) * 17 + c.val) * 128 + a.val) * 64 + e.val) / 139264 % 8 = H.val; omega
  · show ((((r.val * 8 + H.val) * 17 + c.val) * 128 + a.val) * 64 + e.val) / 64 % 2176 = c.val * 128 + a.val; omega
  · show ((((r.val * 8 + H.val) * 17 + c.val) * 128 + a.val) * 64 + e.val) % 64 = e.val; omega

theorem klo_at (r : Fin 4) (H : Fin 8) (c : Fin 16) (a : Fin 128) (e : Fin 64) :
    val_main_v114 (F := Ideal) x (ix5 r H c a e) = val_main_v112 (F := Ideal) x (ix4 r H ⟨c.val * 128 + a.val, by omega⟩ e) := by
  rw [val_main_v114_apply, ← kblk_at x r H ⟨c.val, by omega⟩ a e]
  refine congrArg _ (funext fun z => ?_)
  fin_cases z <;> rfl

theorem khi_at (r : Fin 4) (H : Fin 8) (c : Fin 16) (a : Fin 128) (e : Fin 64) :
    val_main_v115 (F := Ideal) x (ix5 r H c a e) = val_main_v112 (F := Ideal) x (ix4 r H ⟨(1 + c.val) * 128 + a.val, by omega⟩ e) := by
  rw [val_main_v115_apply, ← kblk_at x r H ⟨1 + c.val, by omega⟩ a e]
  refine congrArg _ (funext fun z => ?_)
  fin_cases z <;> rfl

theorem k_at (r : Fin 4) (H : Fin 8) (c : Fin 16) (j : Fin 256) (e : Fin 64) :
    val_main_v116 (F := Ideal) x (ix5 r H c j e) = val_main_v112 (F := Ideal) x (ix4 r H ⟨c.val * 128 + j.val, by omega⟩ e) := by
  pointwise [val_main_v116]
  by_cases h : j.val < 128
  · rw [dif_pos h, klo_at]
  · rw [dif_neg h, khi_at]
    have hj : (1 + c.val) * 128 + (j.val - 128) = c.val * 128 + j.val := by omega
    exact congrArg (fun z => val_main_v112 (F := Ideal) x (ix4 r H z e)) (Fin.ext hj)

theorem vsub_at (r : Fin 4) (H : Fin 8) (n : Fin 2048) (e : Fin 64) :
    val_main_v118 (F := Ideal) x (ix4 r H n e) = x (ix2 ⟨n.val * 4 + r.val, by omega⟩ ⟨1024 + (H.val * 64 + e.val), by omega⟩) := by
  pointwise [val_main_v118, val_main_v117, val_main_v5, val_main_v4]

theorem vpad_at (r : Fin 4) (H : Fin 8) (n : Fin 2176) (e : Fin 64) :
    val_main_v120 (F := Ideal) x (ix4 r H n e) = if h : n.val < 128 then (0 : EReal) else x (ix2 ⟨(n.val - 128) * 4 + r.val, by omega⟩ ⟨1024 + (H.val * 64 + e.val), by omega⟩) := by
  pointwise [val_main_v120, val_main_v119, val_main_cst_22]
  by_cases h : n.val < 128
  · rw [dif_pos h, dif_pos h]
  · rw [dif_neg h, dif_neg h, vsub_at]

theorem vblk_at (r : Fin 4) (H : Fin 8) (c : Fin 17) (a : Fin 128) (e : Fin 64) :
    val_main_v121 (F := Ideal) x (ix5 r H c a e) = val_main_v120 (F := Ideal) x (ix4 r H ⟨c.val * 128 + a.val, by omega⟩ e) := by
  rw [val_main_v121_apply]
  refine congrArg _ (funext fun z => Fin.ext ?_)
  fin_cases z
  · show ((((r.val * 8 + H.val) * 17 + c.val) * 128 + a.val) * 64 + e.val) / 1114112 = r.val; omega
  · show ((((r.val * 8 + H.val) * 17 + c.val) * 128 + a.val) * 64 + e.val) / 139264 % 8 = H.val; omega
  · show ((((r.val * 8 + H.val) * 17 + c.val) * 128 + a.val) * 64 + e.val) / 64 % 2176 = c.val * 128 + a.val; omega
  · show ((((r.val * 8 + H.val) * 17 + c.val) * 128 + a.val) * 64 + e.val) % 64 = e.val; omega

theorem vlo_at (r : Fin 4) (H : Fin 8) (c : Fin 16) (a : Fin 128) (e : Fin 64) :
    val_main_v122 (F := Ideal) x (ix5 r H c a e) = val_main_v120 (F := Ideal) x (ix4 r H ⟨c.val * 128 + a.val, by omega⟩ e) := by
  rw [val_main_v122_apply, ← vblk_at x r H ⟨c.val, by omega⟩ a e]
  refine congrArg _ (funext fun z => ?_)
  fin_cases z <;> rfl

theorem vhi_at (r : Fin 4) (H : Fin 8) (c : Fin 16) (a : Fin 128) (e : Fin 64) :
    val_main_v123 (F := Ideal) x (ix5 r H c a e) = val_main_v120 (F := Ideal) x (ix4 r H ⟨(1 + c.val) * 128 + a.val, by omega⟩ e) := by
  rw [val_main_v123_apply, ← vblk_at x r H ⟨1 + c.val, by omega⟩ a e]
  refine congrArg _ (funext fun z => ?_)
  fin_cases z <;> rfl

theorem v_at (r : Fin 4) (H : Fin 8) (c : Fin 16) (j : Fin 256) (e : Fin 64) :
    val_main_v124 (F := Ideal) x (ix5 r H c j e) = val_main_v120 (F := Ideal) x (ix4 r H ⟨c.val * 128 + j.val, by omega⟩ e) := by
  pointwise [val_main_v124]
  by_cases h : j.val < 128
  · rw [dif_pos h, vlo_at]
  · rw [dif_neg h, vhi_at]
    have hj : (1 + c.val) * 128 + (j.val - 128) = c.val * 128 + j.val := by omega
    exact congrArg (fun z => val_main_v120 (F := Ideal) x (ix4 r H z e)) (Fin.ext hj)

theorem mask_at (c : Fin 16) (a : Fin 128) (j : Fin 256) :
    val_main_v148 (F := Ideal) (ix3 c a j) = if Win a j ∧ 128 ≤ c.val * 128 + j.val then 1#1 else 0#1 := by
  rw [← mask_bits a j ⟨c.val, by omega⟩]
  pointwise [val_main_v148, val_main_v147, val_main_v146, val_main_v145, val_main_v144, val_main_v143, val_main_v142, val_main_v134, val_main_v131, val_main_v133, val_main_v129, val_main_v130, val_main_v132, val_main_v127, val_main_v128, val_main_v126, val_main_v125, val_main_v141, val_main_v140, val_main_v139, val_main_v138, val_main_v137, val_main_v136, val_main_v135, val_main_c_23, val_main_c_24, val_main_c_25, val_main_c_26, val_main_c_27, val_main_c_28]

theorem score_at (r : Fin 4) (H : Fin 8) (c : Fin 16) (a : Fin 128) (j : Fin 256) :
    val_main_v184 (F := Ideal) x w (ix5 r H c a j) = Scalar.select (val_main_v148 (F := Ideal) (ix3 c a j))
      ((∑ e : Fin 64, val_main_v108 (F := Ideal) x (ix5 r H c a e) * val_main_v116 (F := Ideal) x (ix5 r H c j e)) + val_main_v178 (F := Ideal) w (ix3 H a j)) (Ideal.ofBits .f32 0xFF800000#32) := by
  pointwise [val_main_v184, val_main_v183, val_main_v182, val_main_v181, val_main_v180, val_main_call3_v1, val_main_call3_v2, val_main_call3_v0, val_main_cst_40, val_main_v179]
  rfl

theorem max_at (r : Fin 4) (H : Fin 8) (c : Fin 16) (a : Fin 128) :
    val_main_v185 (F := Ideal) x w (ix4 r H c a) = smax fun j => val_main_v184 (F := Ideal) x w (ix5 r H c a j) := by
  pointwise [val_main_v185]
  rfl

theorem wt_at (r : Fin 4) (H : Fin 8) (c : Fin 16) (a : Fin 128) (j : Fin 256) :
    val_main_v189 (F := Ideal) x w (ix5 r H c a j) = wt (fun j => val_main_v184 (F := Ideal) x w (ix5 r H c a j)) j := by
  pointwise [val_main_v189, val_main_v188, val_main_v187, val_main_v186]
  rw [max_at]
  rfl

theorem den_at (r : Fin 4) (H : Fin 8) (c : Fin 16) (a : Fin 128) :
    val_main_v190 (F := Ideal) x w (ix4 r H c a) = den fun j => val_main_v184 (F := Ideal) x w (ix5 r H c a j) := by
  pointwise [val_main_v190, val_main_cst_42]
  simp only [wt_at]
  rfl

theorem out_at (r : Fin 4) (H : Fin 8) (c : Fin 16) (a : Fin 128) (e : Fin 64) :
    val_main_v194 (F := Ideal) x w (ix5 r H c a e) = att (fun j => val_main_v184 (F := Ideal) x w (ix5 r H c a j)) fun j => val_main_v124 (F := Ideal) x (ix5 r H c j e) := by
  pointwise [val_main_v194, val_main_v193, val_main_v192, val_main_v191]
  simp only [wt_at, den_at]
  rfl

theorem lse_at (r : Fin 4) (H : Fin 8) (c : Fin 16) (a : Fin 128) :
    val_main_v197 (F := Ideal) x w (ix4 r H c a) = lse fun j => val_main_v184 (F := Ideal) x w (ix5 r H c a j) := by
  have e : idx_main_v186 (idx_main_v197 (ix4 r H c a)) = ix4 r H c a := by
    refine funext fun z => Fin.ext ?_
    fin_cases z
    · show (((r.val * 8 + H.val) * 16 + c.val) * 128 + a.val) / 16384 = r.val; omega
    · show (((r.val * 8 + H.val) * 16 + c.val) * 128 + a.val) / 2048 % 8 = H.val; omega
    · show (((r.val * 8 + H.val) * 16 + c.val) * 128 + a.val) / 128 % 16 = c.val; omega
    · show (((r.val * 8 + H.val) * 16 + c.val) * 128 + a.val) / 1 % 128 = a.val; omega
  have e' : idx_main_v191 (idx_main_v197 (ix4 r H c a)) = ix4 r H c a := e
  rw [val_main_v197_apply, val_main_v196_apply, val_main_v195_apply, val_main_v186_apply, val_main_v191_apply, e, e', max_at, den_at]
  rfl

theorem o_at (n : Fin 8192) (H : Fin 8) (e : Fin 64) :
    val_main_v200 (F := Ideal) x w (ix3 n H e) = val_main_v194 (F := Ideal) x w (ix5 ⟨n.val % 4, by omega⟩ H ⟨n.val / 4 / 128, by omega⟩ ⟨n.val / 4 % 128, by omega⟩ e) := by
  pointwise [val_main_v200, val_main_v199, val_main_v198]

theorem l_at (n : Fin 8192) (H : Fin 8) :
    val_main_v203 (F := Ideal) x w (ix2 n H) = val_main_v197 (F := Ideal) x w (ix4 ⟨n.val % 4, by omega⟩ H ⟨n.val / 4 / 128, by omega⟩ ⟨n.val / 4 % 128, by omega⟩) := by
  pointwise [val_main_v203, val_main_v202, val_main_v201]

/-- The rows, and this dilation's bias. -/
abbrev Q : Rows := fun r j => x (ix2 r j)
abbrev B : Bias := fun H a j => val_main_v178 (F := Ideal) w (ix3 H a j)

theorem seen_iff (n : Fin 8192) (j : Fin 256) :
    Seen 4 n.val j.val ↔ Win ⟨n.val / 4 % 128, by omega⟩ j ∧ 128 ≤ n.val / 4 / 128 * 128 + j.val := Iff.rfl

theorem key_eq (n : Fin 8192) (j : Fin 256) (h : Seen 4 n.val j.val) :
    (n.val / 4 / 128 * 128 + j.val - 128) * 4 + n.val % 4 = (keyRow 4 n.val j.val).val := by
  obtain ⟨⟨h1, h2⟩, h3⟩ := h
  show _ = (n.val + 4 * j.val - 4 * (n.val / 4 % 128 + 128)) % 8192
  omega

theorem scores_eq (n : Fin 8192) (H : Fin 8) :
    (fun j => val_main_v184 (F := Ideal) x w (ix5 ⟨n.val % 4, by omega⟩ H ⟨n.val / 4 / 128, by omega⟩ ⟨n.val / 4 % 128, by omega⟩ j)) = sc (Q x) (B w) 4 n H := by
  funext j
  rw [score_at, mask_at, sc]
  by_cases h : Seen 4 n.val j.val
  · rw [if_pos ((seen_iff n j).1 h), if_pos h]
    refine congrArg (· + _) (Finset.sum_congr rfl fun e _ => congrArg₂ (· * ·) ?_ ?_)
    · rw [q_at]
      exact congrArg (fun z => x (ix2 z _) * qscale) (Fin.ext (by show (n.val / 4 / 128 * 128 + n.val / 4 % 128) * 4 + n.val % 4 = n.val; omega))
    · rw [k_at, kpad_at, dif_neg (not_lt.2 h.2)]
      exact congrArg (fun z => x (ix2 z _)) (Fin.ext (key_eq n j h))
  · rw [if_neg (fun h' => h ((seen_iff n j).2 h')), if_neg h]
    exact low_eq

/-- The branch's logarithm of sums at every row and head. -/
theorem branch_lse (n : Fin 8192) (H : Fin 8) : val_main_v203 (F := Ideal) x w (ix2 n H) = lse (sc (Q x) (B w) 4 n H) := by
  rw [l_at, lse_at, scores_eq]

/-- The branch's output at every row, head and lane. -/
theorem branch_out (n : Fin 8192) (H : Fin 8) (e : Fin 64) (C : Fin 512) (hC : C.val = H.val * 64 + e.val) :
    val_main_v200 (F := Ideal) x w (ix3 n H e) = att (sc (Q x) (B w) 4 n H) (vals (Q x) 4 n C) := by
  rw [o_at, out_at]
  refine att_congr (scores_eq x w n H) fun j => ?_
  by_cases h : Seen 4 n.val j.val
  · right
    rw [v_at, vpad_at, dif_neg (not_lt.2 h.2)]
    exact congrArg₂ (fun z y => x (ix2 z y)) (Fin.ext (key_eq n j h)) (Fin.ext (congrArg (1024 + ·) hC.symm))
  · left
    exact (congrFun (scores_eq x w n H) j).trans (if_neg h)

end Cert.Proof.Attn.Ref4

end
-- ==== Proof.AttnRef16.lean ====
/- The dilated attention's reference at dilation 16, read stage by stage. -/
module

public import proofs.«01_k».proof.Proof.AttnWindow

@[expose] public section

set_option maxRecDepth 16384
set_option maxHeartbeats 400000

noncomputable section

namespace Cert.Proof.Attn.Ref16

open Cert.Reference3Ideal Cert.Reference3Ideal.Read Idealize.ShloMosaic

variable (x : Vec Ideal S8192x1536 .f32) (w : Vec Ideal S32x8 .f32)

theorem q_at (r : Fin 16) (H : Fin 8) (c : Fin 4) (a : Fin 128) (e : Fin 64) :
    val_main_v206 (F := Ideal) x (ix5 r H c a e) = x (ix2 ⟨(c.val * 128 + a.val) * 16 + r.val, by omega⟩ ⟨H.val * 64 + e.val, by omega⟩) * qscale := by
  pointwise [val_main_v206, val_main_v205, val_main_v204, val_main_v7, val_main_v6, val_main_cst, val_main_v1, val_main_v0]

theorem ksub_at (r : Fin 16) (H : Fin 8) (n : Fin 512) (e : Fin 64) :
    val_main_v208 (F := Ideal) x (ix4 r H n e) = x (ix2 ⟨n.val * 16 + r.val, by omega⟩ ⟨512 + (H.val * 64 + e.val), by omega⟩) := by
  pointwise [val_main_v208, val_main_v207, val_main_v3, val_main_v2]

theorem kpad_at (r : Fin 16) (H : Fin 8) (n : Fin 640) (e : Fin 64) :
    val_main_v210 (F := Ideal) x (ix4 r H n e) = if h : n.val < 128 then (0 : EReal) else x (ix2 ⟨(n.val - 128) * 16 + r.val, by omega⟩ ⟨512 + (H.val * 64 + e.val), by omega⟩) := by
  pointwise [val_main_v210, val_main_v209, val_main_cst_43]
  by_cases h : n.val < 128
  · rw [dif_pos h, dif_pos h]
  · rw [dif_neg h, dif_neg h, ksub_at]

theorem kblk_at (r : Fin 16) (H : Fin 8) (c : Fin 5) (a : Fin 128) (e : Fin 64) :
    val_main_v211 (F := Ideal) x (ix5 r H c a e) = val_main_v210 (F := Ideal) x (ix4 r H ⟨c.val * 128 + a.val, by omega⟩ e) := by
  rw [val_main_v211_apply]
  refine congrArg _ (funext fun z => Fin.ext ?_)
  fin_cases z
  · show ((((r.val * 8 + H.val) * 5 + c.val) * 128 + a.val) * 64 + e.val) / 327680 = r.val; omega
  · show ((((r.val * 8 + H.val) * 5 + c.val) * 128 + a.val) * 64 + e.val) / 40960 % 8 = H.val; omega
  · show ((((r.val * 8 + H.val) * 5 + c.val) * 128 + a.val) * 64 + e.val) / 64 % 640 = c.val * 128 + a.val; omega
  · show ((((r.val * 8 + H.val) * 5 + c.val) * 128 + a.val) * 64 + e.val) % 64 = e.val; omega

theorem klo_at (r : Fin 16) (H : Fin 8) (c : Fin 4) (a : Fin 128) (e : Fin 64) :
    val_main_v212 (F := Ideal) x (ix5 r H c a e) = val_main_v210 (F := Ideal) x (ix4 r H ⟨c.val * 128 + a.val, by omega⟩ e) := by
  rw [val_main_v212_apply, ← kblk_at x r H ⟨c.val, by omega⟩ a e]
  refine congrArg _ (funext fun z => ?_)
  fin_cases z <;> rfl

theorem khi_at (r : Fin 16) (H : Fin 8) (c : Fin 4) (a : Fin 128) (e : Fin 64) :
    val_main_v213 (F := Ideal) x (ix5 r H c a e) = val_main_v210 (F := Ideal) x (ix4 r H ⟨(1 + c.val) * 128 + a.val, by omega⟩ e) := by
  rw [val_main_v213_apply, ← kblk_at x r H ⟨1 + c.val, by omega⟩ a e]
  refine congrArg _ (funext fun z => ?_)
  fin_cases z <;> rfl

theorem k_at (r : Fin 16) (H : Fin 8) (c : Fin 4) (j : Fin 256) (e : Fin 64) :
    val_main_v214 (F := Ideal) x (ix5 r H c j e) = val_main_v210 (F := Ideal) x (ix4 r H ⟨c.val * 128 + j.val, by omega⟩ e) := by
  pointwise [val_main_v214]
  by_cases h : j.val < 128
  · rw [dif_pos h, klo_at]
  · rw [dif_neg h, khi_at]
    have hj : (1 + c.val) * 128 + (j.val - 128) = c.val * 128 + j.val := by omega
    exact congrArg (fun z => val_main_v210 (F := Ideal) x (ix4 r H z e)) (Fin.ext hj)

theorem vsub_at (r : Fin 16) (H : Fin 8) (n : Fin 512) (e : Fin 64) :
    val_main_v216 (F := Ideal) x (ix4 r H n e) = x (ix2 ⟨n.val * 16 + r.val, by omega⟩ ⟨1024 + (H.val * 64 + e.val), by omega⟩) := by
  pointwise [val_main_v216, val_main_v215, val_main_v5, val_main_v4]

theorem vpad_at (r : Fin 16) (H : Fin 8) (n : Fin 640) (e : Fin 64) :
    val_main_v218 (F := Ideal) x (ix4 r H n e) = if h : n.val < 128 then (0 : EReal) else x (ix2 ⟨(n.val - 128) * 16 + r.val, by omega⟩ ⟨1024 + (H.val * 64 + e.val), by omega⟩) := by
  pointwise [val_main_v218, val_main_v217, val_main_cst_44]
  by_cases h : n.val < 128
  · rw [dif_pos h, dif_pos h]
  · rw [dif_neg h, dif_neg h, vsub_at]

theorem vblk_at (r : Fin 16) (H : Fin 8) (c : Fin 5) (a : Fin 128) (e : Fin 64) :
    val_main_v219 (F := Ideal) x (ix5 r H c a e) = val_main_v218 (F := Ideal) x (ix4 r H ⟨c.val * 128 + a.val, by omega⟩ e) := by
  rw [val_main_v219_apply]
  refine congrArg _ (funext fun z => Fin.ext ?_)
  fin_cases z
  · show ((((r.val * 8 + H.val) * 5 + c.val) * 128 + a.val) * 64 + e.val) / 327680 = r.val; omega
  · show ((((r.val * 8 + H.val) * 5 + c.val) * 128 + a.val) * 64 + e.val) / 40960 % 8 = H.val; omega
  · show ((((r.val * 8 + H.val) * 5 + c.val) * 128 + a.val) * 64 + e.val) / 64 % 640 = c.val * 128 + a.val; omega
  · show ((((r.val * 8 + H.val) * 5 + c.val) * 128 + a.val) * 64 + e.val) % 64 = e.val; omega

theorem vlo_at (r : Fin 16) (H : Fin 8) (c : Fin 4) (a : Fin 128) (e : Fin 64) :
    val_main_v220 (F := Ideal) x (ix5 r H c a e) = val_main_v218 (F := Ideal) x (ix4 r H ⟨c.val * 128 + a.val, by omega⟩ e) := by
  rw [val_main_v220_apply, ← vblk_at x r H ⟨c.val, by omega⟩ a e]
  refine congrArg _ (funext fun z => ?_)
  fin_cases z <;> rfl

theorem vhi_at (r : Fin 16) (H : Fin 8) (c : Fin 4) (a : Fin 128) (e : Fin 64) :
    val_main_v221 (F := Ideal) x (ix5 r H c a e) = val_main_v218 (F := Ideal) x (ix4 r H ⟨(1 + c.val) * 128 + a.val, by omega⟩ e) := by
  rw [val_main_v221_apply, ← vblk_at x r H ⟨1 + c.val, by omega⟩ a e]
  refine congrArg _ (funext fun z => ?_)
  fin_cases z <;> rfl

theorem v_at (r : Fin 16) (H : Fin 8) (c : Fin 4) (j : Fin 256) (e : Fin 64) :
    val_main_v222 (F := Ideal) x (ix5 r H c j e) = val_main_v218 (F := Ideal) x (ix4 r H ⟨c.val * 128 + j.val, by omega⟩ e) := by
  pointwise [val_main_v222]
  by_cases h : j.val < 128
  · rw [dif_pos h, vlo_at]
  · rw [dif_neg h, vhi_at]
    have hj : (1 + c.val) * 128 + (j.val - 128) = c.val * 128 + j.val := by omega
    exact congrArg (fun z => val_main_v218 (F := Ideal) x (ix4 r H z e)) (Fin.ext hj)

theorem mask_at (c : Fin 4) (a : Fin 128) (j : Fin 256) :
    val_main_v246 (F := Ideal) (ix3 c a j) = if Win a j ∧ 128 ≤ c.val * 128 + j.val then 1#1 else 0#1 := by
  rw [← mask_bits a j ⟨c.val, by omega⟩]
  pointwise [val_main_v246, val_main_v245, val_main_v244, val_main_v243, val_main_v242, val_main_v241, val_main_v240, val_main_v232, val_main_v229, val_main_v231, val_main_v227, val_main_v228, val_main_v230, val_main_v225, val_main_v226, val_main_v224, val_main_v223, val_main_v239, val_main_v238, val_main_v237, val_main_v236, val_main_v235, val_main_v234, val_main_v233, val_main_c_45, val_main_c_46, val_main_c_47, val_main_c_48, val_main_c_49, val_main_c_50]

theorem score_at (r : Fin 16) (H : Fin 8) (c : Fin 4) (a : Fin 128) (j : Fin 256) :
    val_main_v282 (F := Ideal) x w (ix5 r H c a j) = Scalar.select (val_main_v246 (F := Ideal) (ix3 c a j))
      ((∑ e : Fin 64, val_main_v206 (F := Ideal) x (ix5 r H c a e) * val_main_v214 (F := Ideal) x (ix5 r H c j e)) + val_main_v276 (F := Ideal) w (ix3 H a j)) (Ideal.ofBits .f32 0xFF800000#32) := by
  pointwise [val_main_v282, val_main_v281, val_main_v280, val_main_v279, val_main_v278, val_main_call5_v1, val_main_call5_v2, val_main_call5_v0, val_main_cst_62, val_main_v277]
  rfl

theorem max_at (r : Fin 16) (H : Fin 8) (c : Fin 4) (a : Fin 128) :
    val_main_v283 (F := Ideal) x w (ix4 r H c a) = smax fun j => val_main_v282 (F := Ideal) x w (ix5 r H c a j) := by
  pointwise [val_main_v283]
  rfl

theorem wt_at (r : Fin 16) (H : Fin 8) (c : Fin 4) (a : Fin 128) (j : Fin 256) :
    val_main_v287 (F := Ideal) x w (ix5 r H c a j) = wt (fun j => val_main_v282 (F := Ideal) x w (ix5 r H c a j)) j := by
  pointwise [val_main_v287, val_main_v286, val_main_v285, val_main_v284]
  rw [max_at]
  rfl

theorem den_at (r : Fin 16) (H : Fin 8) (c : Fin 4) (a : Fin 128) :
    val_main_v288 (F := Ideal) x w (ix4 r H c a) = den fun j => val_main_v282 (F := Ideal) x w (ix5 r H c a j) := by
  pointwise [val_main_v288, val_main_cst_64]
  simp only [wt_at]
  rfl

theorem out_at (r : Fin 16) (H : Fin 8) (c : Fin 4) (a : Fin 128) (e : Fin 64) :
    val_main_v292 (F := Ideal) x w (ix5 r H c a e) = att (fun j => val_main_v282 (F := Ideal) x w (ix5 r H c a j)) fun j => val_main_v222 (F := Ideal) x (ix5 r H c j e) := by
  pointwise [val_main_v292, val_main_v291, val_main_v290, val_main_v289]
  simp only [wt_at, den_at]
  rfl

theorem lse_at (r : Fin 16) (H : Fin 8) (c : Fin 4) (a : Fin 128) :
    val_main_v295 (F := Ideal) x w (ix4 r H c a) = lse fun j => val_main_v282 (F := Ideal) x w (ix5 r H c a j) := by
  have e : idx_main_v284 (idx_main_v295 (ix4 r H c a)) = ix4 r H c a := by
    refine funext fun z => Fin.ext ?_
    fin_cases z
    · show (((r.val * 8 + H.val) * 4 + c.val) * 128 + a.val) / 4096 = r.val; omega
    · show (((r.val * 8 + H.val) * 4 + c.val) * 128 + a.val) / 512 % 8 = H.val; omega
    · show (((r.val * 8 + H.val) * 4 + c.val) * 128 + a.val) / 128 % 4 = c.val; omega
    · show (((r.val * 8 + H.val) * 4 + c.val) * 128 + a.val) / 1 % 128 = a.val; omega
  have e' : idx_main_v289 (idx_main_v295 (ix4 r H c a)) = ix4 r H c a := e
  rw [val_main_v295_apply, val_main_v294_apply, val_main_v293_apply, val_main_v284_apply, val_main_v289_apply, e, e', max_at, den_at]
  rfl

theorem o_at (n : Fin 8192) (H : Fin 8) (e : Fin 64) :
    val_main_v298 (F := Ideal) x w (ix3 n H e) = val_main_v292 (F := Ideal) x w (ix5 ⟨n.val % 16, by omega⟩ H ⟨n.val / 16 / 128, by omega⟩ ⟨n.val / 16 % 128, by omega⟩ e) := by
  pointwise [val_main_v298, val_main_v297, val_main_v296]

theorem l_at (n : Fin 8192) (H : Fin 8) :
    val_main_v301 (F := Ideal) x w (ix2 n H) = val_main_v295 (F := Ideal) x w (ix4 ⟨n.val % 16, by omega⟩ H ⟨n.val / 16 / 128, by omega⟩ ⟨n.val / 16 % 128, by omega⟩) := by
  pointwise [val_main_v301, val_main_v300, val_main_v299]

/-- The rows, and this dilation's bias. -/
abbrev Q : Rows := fun r j => x (ix2 r j)
abbrev B : Bias := fun H a j => val_main_v276 (F := Ideal) w (ix3 H a j)

theorem seen_iff (n : Fin 8192) (j : Fin 256) :
    Seen 16 n.val j.val ↔ Win ⟨n.val / 16 % 128, by omega⟩ j ∧ 128 ≤ n.val / 16 / 128 * 128 + j.val := Iff.rfl

theorem key_eq (n : Fin 8192) (j : Fin 256) (h : Seen 16 n.val j.val) :
    (n.val / 16 / 128 * 128 + j.val - 128) * 16 + n.val % 16 = (keyRow 16 n.val j.val).val := by
  obtain ⟨⟨h1, h2⟩, h3⟩ := h
  show _ = (n.val + 16 * j.val - 16 * (n.val / 16 % 128 + 128)) % 8192
  omega

theorem scores_eq (n : Fin 8192) (H : Fin 8) :
    (fun j => val_main_v282 (F := Ideal) x w (ix5 ⟨n.val % 16, by omega⟩ H ⟨n.val / 16 / 128, by omega⟩ ⟨n.val / 16 % 128, by omega⟩ j)) = sc (Q x) (B w) 16 n H := by
  funext j
  rw [score_at, mask_at, sc]
  by_cases h : Seen 16 n.val j.val
  · rw [if_pos ((seen_iff n j).1 h), if_pos h]
    refine congrArg (· + _) (Finset.sum_congr rfl fun e _ => congrArg₂ (· * ·) ?_ ?_)
    · rw [q_at]
      exact congrArg (fun z => x (ix2 z _) * qscale) (Fin.ext (by show (n.val / 16 / 128 * 128 + n.val / 16 % 128) * 16 + n.val % 16 = n.val; omega))
    · rw [k_at, kpad_at, dif_neg (not_lt.2 h.2)]
      exact congrArg (fun z => x (ix2 z _)) (Fin.ext (key_eq n j h))
  · rw [if_neg (fun h' => h ((seen_iff n j).2 h')), if_neg h]
    exact low_eq

/-- The branch's logarithm of sums at every row and head. -/
theorem branch_lse (n : Fin 8192) (H : Fin 8) : val_main_v301 (F := Ideal) x w (ix2 n H) = lse (sc (Q x) (B w) 16 n H) := by
  rw [l_at, lse_at, scores_eq]

/-- The branch's output at every row, head and lane. -/
theorem branch_out (n : Fin 8192) (H : Fin 8) (e : Fin 64) (C : Fin 512) (hC : C.val = H.val * 64 + e.val) :
    val_main_v298 (F := Ideal) x w (ix3 n H e) = att (sc (Q x) (B w) 16 n H) (vals (Q x) 16 n C) := by
  rw [o_at, out_at]
  refine att_congr (scores_eq x w n H) fun j => ?_
  by_cases h : Seen 16 n.val j.val
  · right
    rw [v_at, vpad_at, dif_neg (not_lt.2 h.2)]
    exact congrArg₂ (fun z y => x (ix2 z y)) (Fin.ext (key_eq n j h)) (Fin.ext (congrArg (1024 + ·) hC.symm))
  · left
    exact (congrFun (scores_eq x w n H) j).trans (if_neg h)

end Cert.Proof.Attn.Ref16

end
-- ==== Proof.AttnJoin.lean ====
/- The dilated attention's reference: the three dilations joined, and both results. -/
module

public import proofs.«01_k».proof.Proof.AttnTab
public import proofs.«01_k».proof.Proof.AttnRef1
public import proofs.«01_k».proof.Proof.AttnRef4
public import proofs.«01_k».proof.Proof.AttnRef16

@[expose] public section

set_option maxRecDepth 16384
set_option maxHeartbeats 400000

noncomputable section

namespace Cert.Proof.Attn.Join

open Cert.Reference3Ideal Cert.Reference3Ideal.Read Idealize.ShloMosaic Cert.Proof.Reals Cert.Proof.Post

variable (x : Vec Ideal S8192x1536 .f32) (w : Vec Ideal S32x8 .f32)

/-- The rows of the first argument. -/
abbrev Q : Rows := fun r j => x (ix2 r j)

/-- The three logarithms of sums at a row and head. -/
abbrev L (n : Fin 8192) (H : Fin 8) : Fin 3 → EReal := fun i => val_main_v305 (F := Ideal) x w (ix3 i n H)

theorem join_lse (n : Fin 8192) (H : Fin 8) : L x w n H = fun i => lse (sc (Q x) (biasOf w i) (dil i) n H) := by
  funext i
  fin_cases i
  · refine Eq.trans ?_ (Ref1.branch_lse x w n H)
    pointwise [val_main_v305, val_main_v302]
    rfl
  · refine Eq.trans ?_ (Ref4.branch_lse x w n H)
    pointwise [val_main_v305, val_main_v303]
    rfl
  · refine Eq.trans ?_ (Ref16.branch_lse x w n H)
    pointwise [val_main_v305, val_main_v304]
    rfl

theorem join_out (n : Fin 8192) (H : Fin 8) (e : Fin 64) (C : Fin 512) (hC : C.val = H.val * 64 + e.val) :
    (fun i : Fin 3 => val_main_v322 (F := Ideal) x w (ix4 i n H e)) = fun i => att (sc (Q x) (biasOf w i) (dil i) n H) (vals (Q x) (dil i) n C) := by
  funext i
  fin_cases i
  · refine Eq.trans ?_ (Ref1.branch_out x w n H e C hC)
    pointwise [val_main_v322, val_main_v319]
  · refine Eq.trans ?_ (Ref4.branch_out x w n H e C hC)
    pointwise [val_main_v322, val_main_v320]
  · refine Eq.trans ?_ (Ref16.branch_out x w n H e C hC)
    pointwise [val_main_v322, val_main_v321]

theorem top_at (n : Fin 8192) (H : Fin 8) : val_main_v317 (F := Ideal) x w (ix2 n H) = smax (L x w n H) := by
  pointwise [val_main_v317]
  rfl

theorem top_at' (n : Fin 8192) (H : Fin 8) : val_main_v308 (F := Ideal) x w (ix2 n H) = smax (L x w n H) := by
  refine Eq.trans ?_ (top_at x w n H)
  pointwise [val_main_v308, val_main_v307, val_main_v306, val_main_v317]
  exact (congrArg (max · _) low_eq).trans (max_eq_right bot_le)

theorem w_at (i : Fin 3) (n : Fin 8192) (H : Fin 8) : val_main_v312 (F := Ideal) x w (ix3 i n H) = wt (L x w n H) i := by
  pointwise [val_main_v312, val_main_v311, val_main_v310, val_main_v309]
  rw [top_at']
  rfl

theorem w_at' (i : Fin 3) (n : Fin 8192) (H : Fin 8) : val_main_v329 (F := Ideal) x w (ix3 i n H) = wt (L x w n H) i := by
  pointwise [val_main_v329, val_main_v328, val_main_v327, val_main_v326]
  rw [top_at]
  rfl

theorem d_at (n : Fin 8192) (H : Fin 8) : val_main_v313 (F := Ideal) x w (ix2 n H) = den (L x w n H) := by
  pointwise [val_main_v313, val_main_cst_67]
  simp only [w_at]
  rfl

theorem d_at' (n : Fin 8192) (H : Fin 8) : val_main_v330 (F := Ideal) x w (ix2 n H) = den (L x w n H) := by
  pointwise [val_main_v330, val_main_cst_70]
  simp only [w_at']
  rfl

theorem out_at (n : Fin 8192) (H : Fin 8) (e : Fin 64) : val_main_v325 (F := Ideal) x w (ix3 n H e)
    = ∑ i, Ideal.div (wt (L x w n H) i) (den (L x w n H)) * val_main_v322 (F := Ideal) x w (ix4 i n H e) := by
  pointwise [val_main_v325, val_main_cst_69, val_main_v324, val_main_v323, val_main_v318, val_main_v316, val_main_v315, val_main_v314]
  simp only [w_at, d_at]

theorem lse_at (n : Fin 8192) (H : Fin 8) : val_main_v332 (F := Ideal) x w (ix2 n H) = lse (L x w n H) := by
  pointwise [val_main_v332, val_main_v331]
  rw [top_at, d_at']
  rfl

theorem real_bias (hw : ∀ k, IsReal (w k)) (i : Fin 3) (H : Fin 8) (a : Fin 128) (j : Fin 256) : IsReal (biasOf w i H a j) := by
  fin_cases i <;> exact hw _

/-- The reference's first result. -/
theorem ref_out (hx : ∀ k, IsReal (x k)) (hw : ∀ k, IsReal (w k)) (n : Fin 8192) (H : Fin 8) (e : Fin 64) (C : Fin 512)
    (hC : C.val = H.val * 64 + e.val) : val_main_v325 (F := Ideal) x w (ix3 n H e)
    = comb (fun i => lse (sc (Q x) (biasOf w i) (dil i) n H)) fun i => att (sc (Q x) (biasOf w i) (dil i) n H) (vals (Q x) (dil i) n C) := by
  rw [comb_eq, out_at, join_lse]
  · exact Finset.sum_congr rfl fun i _ => congrArg _ (congrFun (join_out x w n H e C hC) i)
  · intro i
    obtain ⟨h1, j, h2⟩ := sc_real (Q := Q x) (B := biasOf w i) (fun r c => hx _) (real_bias w hw i) (dil i) n H
    exact lse_real _ h1 j h2

/-- The reference's second result. -/
theorem ref_lse (n : Fin 8192) (H : Fin 8) : val_main_v332 (F := Ideal) x w (ix2 n H)
    = lse fun i => lse (sc (Q x) (biasOf w i) (dil i) n H) := by
  rw [lse_at, join_lse]

theorem res_out (n : Fin 8192) (C : Fin 512) : val_main_v333 (F := Ideal) x w (ix2 n C)
    = val_main_v325 (F := Ideal) x w (ix3 n ⟨C.val / 64, by omega⟩ ⟨C.val % 64, by omega⟩) := by
  pointwise [val_main_v333]

theorem res_lse (n : Fin 8192) (C : Fin 512) : val_main_v336 (F := Ideal) x w (ix2 n C)
    = val_main_v332 (F := Ideal) x w (ix2 n ⟨C.val / 64, by omega⟩) := by
  pointwise [val_main_v336, val_main_v335, val_main_v334]

end Cert.Proof.Attn.Join

end
-- ==== Proof.AttnPre.lean ====
module

public import proofs.«01_k».proof.Pre_finite_qkv

/-! The shape facts the dilated attention's condition asks for. -/

@[expose] public section

namespace Cert.Proof.Attn

/-- Every shape fact of the condition is decided. -/
instance preFacts : Cert.Pre_finite_qkv.Facts where
  bcast_S_S8192x1536 := by decide
  reducesTo_S8192x1536_S_d0_1 := by decide
  h_S_ := by decide
  bcast_S_S32x8 := by decide
  reducesTo_S32x8_S_d0_1 := by decide

end Cert.Proof.Attn
end
-- ==== Proof.AttnClaim.lean ====
/- The dilated attention's forward pass: the kernel's two results are the reference's. -/
module

public import proofs.«01_k».proof.Defs
public import proofs.«01_k».proof.Proof.AttnValue
public import proofs.«01_k».proof.Proof.AttnJoin
public import proofs.«01_k».proof.Proof.AttnPre
public import proofs.«01_k».proof.Proof.Gen.Reference3Ideal.Run

@[expose] public section

noncomputable section

namespace Cert.Proof.Attn

section

open Cert.Reference3Ideal Cert.Reference3Ideal.Read Idealize.ShloMosaic Cert.Proof.Reals Cert.Proof.Post

/-- The precondition: every entry of both arguments is a real number. -/
theorem finite_of_pre (x : Vec Ideal S8192x1536 .f32) (w : Vec Ideal S32x8 .f32)
    (h : Cert.Pre_finite_qkv.fn (F := Ideal) x w = fun _ => 1#1) : (∀ k, IsReal (x k)) ∧ ∀ k, IsReal (w k) := by
  have h0 := congrFun h ix0
  dsimp only [Cert.Pre_finite_qkv.fn, andi] at h0
  obtain ⟨h1, h2⟩ := IntOp.andi_eq_one.mp h0
  exact ⟨real_of_all _ h1, real_of_all _ h2⟩

variable (x : Vec Ideal S8192x1536 .f32) (w : Vec Ideal S32x8 .f32)

/-- The reference's first result, over every row and lane. -/
theorem ref_first (hx : ∀ k, IsReal (x k)) (hw : ∀ k, IsReal (w k)) : val_main_v333 (F := Ideal) x w
    = fun i : S8192x512.Idx => comb (lses (Join.Q x) (biasOf w) (i 0) (headOf (i 1))) (outs (Join.Q x) (biasOf w) (i 0) (i 1)) := by
  funext i
  obtain ⟨n, C, rfl⟩ := (⟨i 0, i 1, funext fun z => by fin_cases z <;> rfl⟩ : ∃ n C, i = ix2 n C)
  exact (Join.res_out x w n C).trans (Join.ref_out x w hx hw n ⟨C.val / 64, by omega⟩ ⟨C.val % 64, by omega⟩ C (by show C.val = C.val / 64 * 64 + C.val % 64; omega))

/-- The reference's second result, over every row and lane. -/
theorem ref_second : val_main_v336 (F := Ideal) x w
    = fun i : S8192x512.Idx => lse (lses (Join.Q x) (biasOf w) (i 0) (headOf (i 1))) := by
  funext i
  obtain ⟨n, C, rfl⟩ := (⟨i 0, i 1, funext fun z => by fin_cases z <;> rfl⟩ : ∃ n C, i = ix2 n C)
  exact (Join.res_lse x w n C).trans (Join.ref_lse x w n ⟨C.val / 64, by omega⟩)

end

open Cert.Reference3Ideal Cert.Reference3Ideal.Read Idealize.ShloMosaic Idealize.ShloMosaic.TcCoe Idealize.SL.Sem

theorem algebraic : Cert.algebraic_Kernel3Ideal_Reference3Ideal_pre_finite_qkv (hKernel3Ideal := Cert.Kernel3Ideal.Gen.facts)
    (hReference3Ideal := Cert.Reference3Ideal.Gen.facts) (hPre_finite_qkv := preFacts) := by
  intro m g m' g' hpre hagree
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m g, ?_⟩
  refine (θ_run _ _ _).mono (fun r h c => ?_) (Cert.Reference3Ideal.Value.run m' g')
  obtain ⟨h0, h1, hargs⟩ := h c
  obtain ⟨e0, e1⟩ := hagree c
  obtain ⟨hx, hw⟩ := finite_of_pre _ _ (hpre c)
  refine ⟨h0.trans ((val_main_v333_eq _).trans ?_), h1.trans ((val_main_v336_eq _).trans ?_), hargs⟩
  · refine (congrArg₂ (val_main_v333 (F := Ideal)) e0 e1).trans ?_
    exact (ref_first _ _ hx hw).trans (final_out m c).symm
  · refine (congrArg₂ (val_main_v336 (F := Ideal)) e0 e1).trans ?_
    exact (ref_second _ _).trans (final_lse m c).symm

end Cert.Proof.Attn

end
-- ==== Proof.BiasStores.lean ====
/- The position table's gradient: what one grid point's stores leave in the table of sums. -/
module

public import proofs.«01_k».proof.Defs
public import proofs.«01_k».proof.Proof.Gen.Kernel4Ideal.Value
public import Idealize.ShloMosaic.Lib.Pointwise

@[expose] public section

set_option maxRecDepth 16384
set_option maxHeartbeats 4000000

noncomputable section

namespace Cert.Proof.Bias

open Cert.Kernel4Ideal Cert.Kernel4Ideal.Gen Idealize.ShloMosaic Idealize.ShloMosaic.TcCoe Idealize.SL.Sem

/-- One bucket's sum of one head, added to what was there. -/
def added (ids : IVec S128x256 32) (b : BitVec 32) (d : Vec Ideal S1x1x128x256 .f32) (old : EReal) : EReal :=
  k0_pay1 (F := Ideal) (cmpi .eq ids (broadcast S128x256 b)) old d

theorem added_eq (ids : IVec S128x256 32) (b : BitVec 32) (d : Vec Ideal S1x1x128x256 .f32) (old : EReal) :
    added ids b d old = old + ∑ a : Fin 128, ∑ j : Fin 256, if ids (ix2 a j) = b then d (ix4 0 0 a j) else 0 := by
  unfold added
  pointwise [k0_pay1]
  refine congrArg (old + ·) (Finset.sum_congr rfl fun a _ => Finset.sum_congr rfl fun j _ => ?_)
  by_cases h : ids (ix2 a j) = b
  · simp [Scalar.select, IntOp.cmpi, h]
  · have h' : (ids (ix2 a j) == b) = false := beq_false_of_ne h
    simp [Scalar.select, IntOp.cmpi, h, h']

/-- The sum of head `h` over the places whose bucket is `b`. -/
def place (x0 : Vec Ideal S1x8x128x256 .f32) (x1 : Vec Ideal S1x128x256 .i32) (i : S32x8.Idx) : EReal :=
  ∑ a : Fin 128, ∑ j : Fin 256, if x1 (ix3 0 a j) = BitVec.ofNat 32 (i 0).val then x0 (ix4 0 (i 1) a j) else 0

/-- A store holds `G` where it writes. -/
def Holds (G : S32x8.Idx → EReal) (p : View.Piece (Elt Ideal) S32x8 .f32) : Prop := ∀ z : p.1.shape.Idx, p.2 z = G (p.1.emb z)

/-- The last `n` stores hold `G`. -/
inductive Last (G : S32x8.Idx → EReal) : ℕ → List (View.Piece (Elt Ideal) S32x8 .f32) → Prop
  | zero (L) : Last G 0 L
  | cons {n p L} : Holds G p → Last G n L → Last G (n + 1) (p :: L)

theorem Last.holds {G : S32x8.Idx → EReal} {n : ℕ} {L : List (View.Piece (Elt Ideal) S32x8 .f32)} (h : Last G n L) : ∀ y : S32x8.Idx,
    (∃ p ∈ L.take n, y ∈ p.1.set) → View.canon L y = G y := by
  induction h with
  | zero L => rintro y ⟨p, hp, _⟩; simp at hp
  | @cons n p L hp _ ih =>
    rintro y ⟨q, hq, hy⟩
    by_cases hm : y ∈ p.1.set
    · obtain ⟨x, rfl⟩ := p.1.exists_idx_of_mem hm
      exact (View.canon_cons_emb _ _ _ x).trans (hp x)
    · refine (View.canon_cons_of_not_mem _ _ hm).trans (ih y ?_)
      rcases List.mem_cons.1 hq with rfl | hq
      · exact absurd hy hm
      · exact ⟨q, hq, hy⟩

variable {c : Dev nD} {i : grid0.Coords} {arg1 : Memref sig .tc .vmem S1x8x128x256 .f32} {harg1 : arg1.IsWhole}
  {arg2 : Memref sig .tc .vmem S1x128x256 .i32} {harg2 : arg2.IsWhole} {arg3 : Memref sig .tc .smem S32x8 .f32} {harg3 : arg3.IsWhole}
  {x0 : Vec Ideal S1x8x128x256 .f32} {x1 : Vec Ideal S1x128x256 .i32} {xo2 : Vec Ideal S32x8 .f32}

theorem rowcol (y : S32x8.Idx) (b : Fin 32) (h : Fin 8) (h0 : (y 0).val = b.val) (h1 : (y 1).val = h.val) : y = ix2 b h := by
  funext x
  refine Fin.ext ?_
  fin_cases x
  · exact h0
  · exact h1

/-- The store of a bucket and head, over what was there. -/
theorem holds_at {G : S32x8.Idx → EReal} {b h : ℕ} {inb inbd inbi} {P old : EReal} (hb : b < 32) (hh : h < 8)
    (hG : old + place x0 x1 (ix2 ⟨b, hb⟩ ⟨h, hh⟩) = G (ix2 ⟨b, hb⟩ ⟨h, hh⟩))
    (hP : P = added (k0_pay2 (F := Ideal) (View.readAt (Elt Ideal) arg2.view (Rect.unit (s := S1x128x256) ![0, 0, 0] S1x128x256.size inbi).toLoadRect (harg2.unread x1)))
      (BitVec.ofNat 32 b) (View.readAt (Elt Ideal) arg1.view (Rect.unit (s := S1x8x128x256) ![0, h, 0, 0] S1x1x128x256.size inbd).toLoadRect (harg1.unread x0)) old) :
    Holds G ⟨Rect.unit ![b, h] S1x1.size inb, fun _ => P⟩ := fun z => by
  have e : (Rect.emb (s := S32x8) (Rect.unit ![b, h] S1x1.size inb)) z = ix2 ⟨b, hb⟩ ⟨h, hh⟩ := rowcol _ _ _
    (by have := (z 0).isLt; show b + 1 * (z 0).val = b; have : (z 0).val < 1 := (z 0).isLt; omega)
    (by show h + 1 * (z 1).val = h; have : (z 1).val < 1 := (z 1).isLt; omega)
  refine Eq.trans ?_ (congrArg G e).symm
  refine Eq.trans ?_ hG
  refine hP.trans ((added_eq _ _ _ _).trans (congrArg (old + ·) ?_))
  refine Finset.sum_congr rfl fun a _ => Finset.sum_congr rfl fun j _ => ?_
  have e1 : k0_pay2 (F := Ideal) (View.readAt (Elt Ideal) arg2.view (Rect.unit (s := S1x128x256) ![0, 0, 0] S1x128x256.size inbi).toLoadRect (harg2.unread x1)) (ix2 a j) = x1 (ix3 0 a j) := by
    pointwise [k0_pay2]
    rw [View.readAt_apply, harg2.read_unread]
    exact congrArg x1 (funext fun x => Fin.ext (by fin_cases x <;> simp <;> rfl))
  have e2 : View.readAt (Elt Ideal) arg1.view (Rect.unit (s := S1x8x128x256) ![0, h, 0, 0] S1x1x128x256.size inbd).toLoadRect (harg1.unread x0) (ix4 0 0 a j)
      = x0 (ix4 0 ⟨h, hh⟩ a j) := by
    rw [View.readAt_apply, harg1.read_unread]
    exact congrArg x0 (funext fun x => Fin.ext (by fin_cases x <;> simp <;> rfl))
  rw [e1, e2]
  rfl

/-- The store of a bucket and head at a later grid point: what the point before left, and this point's sum. -/
theorem holds_next {b h : ℕ} {inb inbd inbi inbo} {P : EReal} {z : (Rect.unit (s := S32x8) ![b, h] S1x1.size inbo).toLoadRect.shape.Idx} (hb : b < 32) (hh : h < 8)
    (hP : P = added (k0_pay2 (F := Ideal) (View.readAt (Elt Ideal) arg2.view (Rect.unit (s := S1x128x256) ![0, 0, 0] S1x128x256.size inbi).toLoadRect (harg2.unread x1)))
      (BitVec.ofNat 32 b) (View.readAt (Elt Ideal) arg1.view (Rect.unit (s := S1x8x128x256) ![0, h, 0, 0] S1x1x128x256.size inbd).toLoadRect (harg1.unread x0))
      (View.readAt (Elt Ideal) arg3.view (Rect.unit (s := S32x8) ![b, h] S1x1.size inbo).toLoadRect (harg3.unread xo2) z)) :
    Holds (fun y => xo2 y + place x0 x1 y) ⟨Rect.unit ![b, h] S1x1.size inb, fun _ => P⟩ := by
  refine holds_at hb hh (congrArg (· + place x0 x1 _) ?_) hP
  rw [View.readAt_apply, harg3.read_unread]
  exact congrArg xo2 (rowcol _ _ _ (by have : (z 0).val < 1 := (z 0).isLt; show b + 1 * (z 0).val = b; omega)
    (by have : (z 1).val < 1 := (z 1).isLt; show h + 1 * (z 1).val = h; omega))

/-- The store of a bucket and head at the first grid point: this point's sum over zero. -/
theorem holds_first {b h : ℕ} {inb inbd inbi} {P : EReal} (hb : b < 32) (hh : h < 8)
    (hP : P = added (k0_pay2 (F := Ideal) (View.readAt (Elt Ideal) arg2.view (Rect.unit (s := S1x128x256) ![0, 0, 0] S1x128x256.size inbi).toLoadRect (harg2.unread x1)))
      (BitVec.ofNat 32 b) (View.readAt (Elt Ideal) arg1.view (Rect.unit (s := S1x8x128x256) ![0, h, 0, 0] S1x1x128x256.size inbd).toLoadRect (harg1.unread x0))
      (Scalar.ofBits (F := Ideal) .f32 0x00000000#32)) :
    Holds (place x0 x1) ⟨Rect.unit ![b, h] S1x1.size inb, fun _ => P⟩ := by
  refine holds_at hb hh ?_ hP
  pointwise []

end Cert.Proof.Bias

end
-- ==== Proof.BiasFirst.lean ====
/- The position table's gradient: the 256 stores of the first grid point. -/
module

public import proofs.«01_k».proof.Proof.BiasStores

@[expose] public section

set_option maxRecDepth 16384
set_option maxHeartbeats 40000000

noncomputable section

namespace Cert.Proof.Bias

open Cert.Kernel4Ideal Cert.Kernel4Ideal.Gen Idealize.ShloMosaic Idealize.ShloMosaic.TcCoe Idealize.SL.Sem

variable {c : Dev nD} {i : grid0.Coords} {arg1 : Memref sig .tc .vmem S1x8x128x256 .f32} {harg1 : arg1.IsWhole}
  {arg2 : Memref sig .tc .vmem S1x128x256 .i32} {harg2 : arg2.IsWhole} {arg3 : Memref sig .tc .smem S32x8 .f32} {harg3 : arg3.IsWhole}
  {x0 : Vec Ideal S1x8x128x256 .f32} {x1 : Vec Ideal S1x128x256 .i32} {xo2 : Vec Ideal S32x8 .f32}

theorem stores_first (hc0 : cond0_0 i) : Last (place x0 x1) 256 (kernelRun0_A (F := Ideal) c i arg1 harg1 arg2 harg2 arg3 harg3 hc0 x0 x1).1 := by
  iterate 256
    refine Last.cons (holds_first (arg1 := arg1) (harg1 := harg1) (arg2 := arg2) (harg2 := harg2) (by decide) (by decide) rfl) ?_
  exact Last.zero _

end Cert.Proof.Bias

end
-- ==== Proof.BiasNext.lean ====
/- The position table's gradient: the 256 stores of a later grid point. -/
module

public import proofs.«01_k».proof.Proof.BiasStores

@[expose] public section

set_option maxRecDepth 16384
set_option maxHeartbeats 40000000

noncomputable section

namespace Cert.Proof.Bias

open Cert.Kernel4Ideal Cert.Kernel4Ideal.Gen Idealize.ShloMosaic Idealize.ShloMosaic.TcCoe Idealize.SL.Sem

variable {c : Dev nD} {i : grid0.Coords} {arg1 : Memref sig .tc .vmem S1x8x128x256 .f32} {harg1 : arg1.IsWhole}
  {arg2 : Memref sig .tc .vmem S1x128x256 .i32} {harg2 : arg2.IsWhole} {arg3 : Memref sig .tc .smem S32x8 .f32} {harg3 : arg3.IsWhole}
  {x0 : Vec Ideal S1x8x128x256 .f32} {x1 : Vec Ideal S1x128x256 .i32} {xo2 : Vec Ideal S32x8 .f32}

theorem stores_next (hc0 : ¬cond0_0 i) : Last (fun y => xo2 y + place x0 x1 y) 256 (kernelRun0_B (F := Ideal) c i arg1 harg1 arg2 harg2 arg3 harg3 hc0 x0 x1 xo2).1 := by
  iterate 256
    refine Last.cons (holds_next (arg1 := arg1) (harg1 := harg1) (arg2 := arg2) (harg2 := harg2) (arg3 := arg3) (harg3 := harg3) (by decide) (by decide) rfl) ?_
  exact Last.zero _

end Cert.Proof.Bias

end
-- ==== Proof.BiasPoints.lean ====
/- The position table's gradient: what each grid point leaves, and the final array. -/
module

public import proofs.«01_k».proof.Proof.BiasFirst
public import proofs.«01_k».proof.Proof.BiasNext
public import Idealize.ShloMosaic.Lib.Pipeline.ValueKit

@[expose] public section

set_option maxRecDepth 16384
set_option maxHeartbeats 4000000

noncomputable section

namespace Cert.Proof.Bias

open Cert.Kernel4Ideal Cert.Kernel4Ideal.Gen Idealize.ShloMosaic Idealize.ShloMosaic.TcCoe Idealize.SL.Sem

/-- Where a store writes. -/
def key (p : View.Piece (Elt Ideal) S32x8 .f32) : List ℕ := [p.1.off 0, p.1.off 1, p.1.size 0, p.1.size 1, p.1.stride 0, p.1.stride 1]

/-- What the 256 stores cover, the last first. -/
def keys : List (List ℕ) := (List.range 256).reverse.map fun n => [n / 8, n % 8, 1, 1, 1, 1]

theorem mem_keys (y : S32x8.Idx) : [(y 0).val, (y 1).val, 1, 1, 1, 1] ∈ keys := by
  have h0 : (y 0).val < 32 := (y 0).isLt
  have h1 : (y 1).val < 8 := (y 1).isLt
  refine List.mem_map.2 ⟨(y 0).val * 8 + (y 1).val, by simp; omega, ?_⟩
  have e0 : ((y 0).val * 8 + (y 1).val) / 8 = (y 0).val := by omega
  have e1 : ((y 0).val * 8 + (y 1).val) % 8 = (y 1).val := by omega
  rw [e0, e1]

theorem covered {L : List (View.Piece (Elt Ideal) S32x8 .f32)} (hk : (L.take 256).map key = keys) (y : S32x8.Idx) :
    ∃ p ∈ L.take 256, y ∈ p.1.set := by
  obtain ⟨p, hp, he⟩ := List.mem_map.1 (hk ▸ mem_keys y : [(y 0).val, (y 1).val, 1, 1, 1, 1] ∈ (L.take 256).map key)
  refine ⟨p, hp, (LoadRect.mem_set _).2 ?_⟩
  simp only [key, List.cons.injEq, and_true] at he
  obtain ⟨h0, h1, s0, s1, t0, t1⟩ := he
  intro x
  fin_cases x
  · exact ⟨0, by show 0 < p.1.size 0; omega, by show (y 0).val = p.1.off 0 + p.1.stride 0 * 0; omega⟩
  · exact ⟨0, by show 0 < p.1.size 1; omega, by show (y 1).val = p.1.off 1 + p.1.stride 1 * 0; omega⟩

section

variable (c : Dev nD) (i : grid0.Coords) (arg1 : Memref sig .tc .vmem S1x8x128x256 .f32) (harg1 : arg1.IsWhole)
  (arg2 : Memref sig .tc .vmem S1x128x256 .i32) (harg2 : arg2.IsWhole) (arg3 : Memref sig .tc .smem S32x8 .f32) (harg3 : arg3.IsWhole)
  (x0 : Vec Ideal S1x8x128x256 .f32) (x1 : Vec Ideal S1x128x256 .i32) (xo2 : Vec Ideal S32x8 .f32)

theorem keys_first (hc0 : cond0_0 i) : ((kernelRun0_A (F := Ideal) c i arg1 harg1 arg2 harg2 arg3 harg3 hc0 x0 x1).1.take 256).map key = keys := by
  sl_kernel_rfl

theorem keys_next (hc0 : ¬cond0_0 i) : ((kernelRun0_B (F := Ideal) c i arg1 harg1 arg2 harg2 arg3 harg3 hc0 x0 x1 xo2).1.take 256).map key = keys := by
  sl_kernel_rfl

theorem left_first (hc0 : cond0_0 i) : out0_A_2 (F := Ideal) c i arg1 harg1 arg2 harg2 arg3 harg3 hc0 x0 x1 = place x0 x1 := by
  funext y
  refine (congrFun (View.read_writes_junk_eq_canon _ _) y).trans ?_
  exact (stores_first hc0).holds y (covered (keys_first c i arg1 harg1 arg2 harg2 arg3 harg3 x0 x1 hc0) y)

theorem left_next (hc0 : ¬cond0_0 i) : out0_B_2 (F := Ideal) c i arg1 harg1 arg2 harg2 arg3 harg3 hc0 x0 x1 xo2 = fun y => xo2 y + place x0 x1 y := by
  funext y
  refine (congrFun (View.read_writes_junk_eq_canon _ _) y).trans ?_
  exact (stores_next hc0).holds y (covered (keys_next c i arg1 harg1 arg2 harg2 arg3 harg3 x0 x1 xo2 hc0) y)

end

variable (m : (ℓ : Loc nD τ sig) → Buf (Elt Ideal) ℓ)

theorem at_first (c : Dev nD) (t : Fin cfg0.N) (h : t.val % 3 = 0) :
    outsAt0 m c t.val t.isLt = place (iblk m c 0 t) (iblk m c 1 t) :=
  (outsAt0_A m c t h).trans (left_first ..)

theorem at_next (c : Dev nD) (t : Fin cfg0.N) (h : ¬t.val % 3 = 0) :
    outsAt0 m c t.val t.isLt = fun y => outsAt0 m c (t.val - 1) (Nat.lt_of_le_of_lt (Nat.sub_le _ _) t.isLt) y + place (iblk m c 0 t) (iblk m c 1 t) y :=
  (outsAt0_B m c t h).trans (left_next ..)

/-- The gradient of the tables given. -/
abbrev tabOf (c : Dev nD) : Vec Ideal S3x8x128x256 .f32 := m ((c : Thread nD τ).loc main_arg0)

/-- The buckets the body compares with. -/
abbrev idsIn (c : Dev nD) : Vec Ideal S3x128x256 .i32 := V m c main_v82

/-- One dilation's sum. -/
def part (c : Dev nD) (d : Fin 3) (i : S32x8.Idx) : EReal :=
  ∑ a : Fin 128, ∑ j : Fin 256, if idsIn m c (ix3 d a j) = BitVec.ofNat 32 (i 0).val then tabOf m c (ix4 d (i 1) a j) else 0

theorem point_lt (t : Fin cfg0.N) : t.val < 3 := lt_of_lt_of_eq t.isLt N_0

theorem idx : ∀ t : Fin cfg0.N, win0_0.index t = ![t.val, 0, 0, 0] ∧ win0_1.index t = ![t.val, 0, 0] ∧ win0_2.index t = ![0, 0] :=
  (by decide +kernel : ∀ t : Fin grid0.N, _)

theorem place_eq (c : Dev nD) (t : Fin cfg0.N) (ht : t.val < 3) (i : S32x8.Idx) :
    place (iblk m c 0 t) (iblk m c 1 t) i = part m c ⟨t.val, ht⟩ i := by
  have e0 : ∀ (h : Fin 8) (a : Fin 128) (j : Fin 256), (iblk m c 0 t : Vec Ideal S1x8x128x256 .f32) (ix4 0 h a j) = tabOf m c (ix4 ⟨t.val, ht⟩ h a j) := fun h a j => by
    blk_ext! [iblk, V, idx t]
  have e1 : ∀ (a : Fin 128) (j : Fin 256), (iblk m c 1 t : Vec Ideal S1x128x256 .i32) (ix3 0 a j) = idsIn m c (ix3 ⟨t.val, ht⟩ a j) := fun a j => by
    unfold idsIn
    blk_ext! [iblk, idx t]
  unfold place part
  refine Finset.sum_congr rfl fun a _ => Finset.sum_congr rfl fun j _ => ?_
  rw [e1 a j]
  exact congrArg (fun v => if idsIn m c (ix3 ⟨t.val, ht⟩ a j) = BitVec.ofNat 32 (i 0).val then v else 0) (e0 (i 1) a j)

theorem sum_points (c : Dev nD) (t : Fin cfg0.N) (i : S32x8.Idx) (h : ∀ s : Fin 3, 3 * (t.val / 3) + s.val < 3) :
    ∑ s : Fin 3, part m c ⟨3 * (t.val / 3) + s.val, h s⟩ i = ∑ d : Fin 3, part m c d i := by
  have ht : t.val / 3 = 0 := by have := point_lt t; omega
  exact Finset.sum_congr rfl fun s _ => congrArg (fun d => part m c d i) (Fin.ext (by show 3 * (t.val / 3) + s.val = s.val; omega))

/-- The result array: the three dilations' sums. -/
theorem final (c : Dev nD) : (dats m 0 c).arrAt 2 (cfgs 0).N = fun i => ∑ d : Fin 3, part m c d i := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0)
    (fun t i => part m c ⟨t.val, point_lt t⟩ i)
    (fun t h i => by rw [at_first m c t h, place_eq m c t (point_lt t), zero_add])
    (fun t h i => by rw [at_next m c t h]; exact congrArg (_ + ·) (place_eq m c t (point_lt t) i)) t ((flush0_2 t).mp hf) _, zero_add]
  idx_vars y
  have e : (win0_2.blk t).view.emb (ix2 y0 y1) = ix2 y0 y1 := by
    blk_ext [idx t]
  rw [e]
  exact sum_points m c t _ _

end Cert.Proof.Bias

end
-- ==== Proof.BiasIds.lean ====
/- The position table's gradient: the buckets the kernel compares with, read from the host's lines. -/
module

public import proofs.«01_k».proof.Proof.Gen.Kernel4Ideal.Value
public import proofs.«01_k».proof.Proof.Gen.Reference4Ideal.Read
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Proof.Bias

open Cert.Kernel4Ideal Cert.Kernel4Ideal.Gen Idealize.ShloMosaic Idealize.ShloMosaic.TcCoe Idealize.SL.Sem

variable (m : (ℓ : Loc nD τ sig) → Buf (Elt Ideal) ℓ)

/-- What a buffer holds when the three dilations' buckets are joined. -/
def atJoin (c : Dev nD) (b : Ref sig .tc) : b.ty.Contents (Elt Ideal) :=
  StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 121 (Proc.tc.devRef b)

theorem v82_eq (c : Dev nD) : V m c main_v82 =
    concatenate S3x128x256 0 [⟨S1x128x256, atJoin m c main_v79⟩, ⟨S1x128x256, atJoin m c main_v80⟩, ⟨S1x128x256, atJoin m c main_v81⟩]
      concatenates_S1x128x256_S1x128x256_S1x128x256_S3x128x256_d0 := by
  unfold V
  after_reads_simp
  rfl

/-- The buckets of one dilation, with the word −1 outside the band. -/
def idsOf (B : Vec Ideal S128x256 .i32) : Vec Ideal S1x128x256 .i32 :=
  broadcastInDim S1x128x256 ![1, 2] bcast_S128x256_S1x128x256_1_2
    (select (Cert.Reference4Ideal.Read.val_main_v10 (F := Ideal)) B (broadcastInDim S128x256 ![] bcast_S_S128x256 (constantI S_ 32 4294967295#32)))

theorem v79_eq (c : Dev nD) : atJoin m c main_v79 = idsOf (Cert.Reference4Ideal.Read.val_main_v32 (F := Ideal)) := by
  unfold atJoin
  after_reads_simp
  rfl

theorem v80_eq (c : Dev nD) : atJoin m c main_v80 = idsOf (Cert.Reference4Ideal.Read.val_main_v68 (F := Ideal)) := by
  unfold atJoin
  after_reads_simp
  rfl

theorem v81_eq (c : Dev nD) : atJoin m c main_v81 = idsOf (Cert.Reference4Ideal.Read.val_main_v104 (F := Ideal)) := by
  unfold atJoin
  after_reads_simp
  rfl

/-- The buckets by dilation. -/
def bucketOf (d : Fin 3) : Vec Ideal S128x256 .i32 :=
  (![Cert.Reference4Ideal.Read.val_main_v32 (F := Ideal), Cert.Reference4Ideal.Read.val_main_v68 (F := Ideal), Cert.Reference4Ideal.Read.val_main_v104 (F := Ideal)] d : Vec Ideal S128x256 .i32)

/-- The word of the band at a place. -/
abbrev band (a : Fin 128) (j : Fin 256) : BitVec 1 := Cert.Reference4Ideal.Read.val_main_v10 (F := Ideal) (ix2 a j)

theorem idsOf_at (B : Vec Ideal S128x256 .i32) (a : Fin 128) (j : Fin 256) :
    idsOf B (ix3 0 a j) = Scalar.select (band a j) (B (ix2 a j)) (4294967295#32 : BitVec 32) := by
  pointwise [idsOf]

theorem ids_at (c : Dev nD) (d : Fin 3) (a : Fin 128) (j : Fin 256) :
    (V m c main_v82 : Vec Ideal S3x128x256 .i32) (ix3 d a j) = Scalar.select (band a j) (bucketOf d (ix2 a j)) (4294967295#32 : BitVec 32) := by
  rw [v82_eq, v79_eq, v80_eq, v81_eq]
  fin_cases d
  · refine Eq.trans ?_ (idsOf_at (Cert.Reference4Ideal.Read.val_main_v32 (F := Ideal)) a j)
    pointwise
  · refine Eq.trans ?_ (idsOf_at (Cert.Reference4Ideal.Read.val_main_v68 (F := Ideal)) a j)
    pointwise
  · refine Eq.trans ?_ (idsOf_at (Cert.Reference4Ideal.Read.val_main_v104 (F := Ideal)) a j)
    pointwise

end Cert.Proof.Bias

end
-- ==== Proof.BiasBucket.lean ====
/- The position table's gradient: a distance's bucket is never negative. -/
module

public import proofs.«01_k».proof.Proof.BiasIds

@[expose] public section

set_option maxRecDepth 16384
set_option maxHeartbeats 4000000

noncomputable section

namespace Cert.Proof.Bias

open Cert.Reference4Ideal Cert.Reference4Ideal.Read Idealize.ShloMosaic

/-- The logarithm of the number of buckets' ratio, as the programs hold it. -/
def ratio : ℝ := 10175445 / 2 ^ 21

theorem ofBits_ratio : Ideal.ofBits .f32 0x409B43D5#32 = (ratio : EReal) := by
  simp [Ideal.ofBits, Ideal.ieee, ratio]
  rw [← EReal.coe_mul]
  norm_num

theorem ofBits_16 : Ideal.ofBits .f32 0x41800000#32 = ((16 : ℝ) : EReal) := by
  simp [Ideal.ofBits, Ideal.ieee]
  rw [← EReal.coe_mul]
  norm_num

/-- The part of a large distance's bucket above sixteen. -/
def above (q : BitVec 32) : EReal :=
  Ideal.div (Ideal.log (Ideal.div (((q.toInt : ℤ) : ℝ) : EReal) (Ideal.ofBits .f32 0x41800000#32))) (Ideal.ofBits .f32 0x409B43D5#32) * Ideal.ofBits .f32 0x41800000#32

/-- The bucket of a distance. -/
def bucket (n : BitVec 32) : BitVec 32 :=
  Scalar.select (IntOp.cmpi .slt (IntOp.maxsi n 0#32) 16#32) (IntOp.maxsi n 0#32)
    (IntOp.minsi (16#32 + Ideal.fptosi 32 (above (IntOp.maxsi (IntOp.maxsi n 0#32) 1#32))) 31#32)

theorem toInt_maxsi (x y : BitVec 32) : (IntOp.maxsi x y).toInt = max x.toInt y.toInt := by
  unfold IntOp.maxsi
  by_cases h : y.toInt < x.toInt
  · rw [if_pos (by simpa [BitVec.slt] using h), max_eq_left h.le]
  · rw [if_neg (by simpa [BitVec.slt] using h), max_eq_right (not_lt.1 h)]

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]

/-- Above sixteen the part is a real number that is not negative and stays far below the largest word. -/
theorem above_eq (q : BitVec 32) (h : 16 ≤ q.toInt) : ∃ z : ℝ, above q = (z : EReal) ∧ 0 ≤ z ∧ z < 2 ^ 30 := by
  have hq : q.toInt < 2 ^ 31 := by have := BitVec.toInt_lt (x := q); simpa using this
  have hr : (16 : ℝ) ≤ (q.toInt : ℝ) := by exact_mod_cast h
  have hr' : (q.toInt : ℝ) < 2 ^ 31 := by exact_mod_cast hq
  have h1 : (1 : ℝ) ≤ (q.toInt : ℝ) * (1 / 16) := by linarith
  have hpos : ¬(q.toInt : ℝ) * (1 / 16) ≤ 0 := by linarith
  have hlog := Real.log_le_sub_one_of_pos (lt_of_lt_of_le one_pos h1)
  have hlog0 := Real.log_nonneg h1
  have hc : (4 : ℝ) ≤ ratio := by unfold ratio; norm_num
  have hi : 1 / ratio ≤ 1 / 4 := one_div_le_one_div_of_le (by norm_num) hc
  have hi0 : 0 < 1 / ratio := by positivity
  refine ⟨Real.log ((q.toInt : ℝ) * (1 / 16)) * (1 / ratio) * 16, ?_, by positivity, ?_⟩
  · unfold above
    rw [ofBits_16, ofBits_ratio, Ideal.div_coe (y := 16) (by norm_num), ← EReal.coe_mul]
    show Ideal.div (if (q.toInt : ℝ) * (1 / 16) ≤ 0 then ⊥ else (Real.log ((q.toInt : ℝ) * (1 / 16)) : EReal)) _ * _ = _
    rw [if_neg hpos, Ideal.div_coe (by linarith), ← EReal.coe_mul, ← EReal.coe_mul]
  · have : Real.log ((q.toInt : ℝ) * (1 / 16)) * (1 / ratio) ≤ 2 ^ 27 * (1 / 4) :=
      mul_le_mul (by linarith) hi hi0.le (by norm_num)
    nlinarith

theorem toInt_fptosi (z : ℝ) (h0 : 0 ≤ z) (h1 : z < 2 ^ 30) : 0 ≤ (Ideal.fptosi 32 (z : EReal)).toInt ∧ (Ideal.fptosi 32 (z : EReal)).toInt < 2 ^ 30 := by
  have hf0 : 0 ≤ ⌊z⌋ := Int.floor_nonneg.2 h0
  have hf1 : ⌊z⌋ < 2 ^ 30 := Int.floor_lt.2 (by exact_mod_cast h1)
  have e : (Ideal.fptosi 32 (z : EReal)).toInt = ⌊z⌋ := by
    unfold Ideal.fptosi
    rw [Ideal.toIntClamped_coe, if_pos h0, BitVec.toInt_ofInt]
    rw [show max (-((2 ^ (32 - 1) : ℕ) : ℤ)) (min (((2 ^ (32 - 1) : ℕ) : ℤ) - 1) ⌊z⌋) = ⌊z⌋ by norm_num; omega]
    unfold Int.bmod
    norm_num
    omega
  rw [e]
  exact ⟨hf0, hf1⟩

theorem bucket_nonneg (n : BitVec 32) : 0 ≤ (bucket n).toInt := by
  have hp : 0 ≤ (IntOp.maxsi n 0#32).toInt := by rw [toInt_maxsi]; simp
  unfold bucket
  by_cases h : (IntOp.maxsi n 0#32).toInt < 16
  · have e : IntOp.cmpi .slt (IntOp.maxsi n 0#32) 16#32 = 1#1 := by simp [IntOp.cmpi, BitVec.slt, h]
    rw [e]
    exact hp
  · have e : IntOp.cmpi .slt (IntOp.maxsi n 0#32) 16#32 = 0#1 := by simp [IntOp.cmpi, BitVec.slt, h]
    rw [e]
    show 0 ≤ (IntOp.minsi _ _).toInt
    obtain ⟨z, hz, h0, h1⟩ := above_eq (IntOp.maxsi (IntOp.maxsi n 0#32) 1#32) (by rw [toInt_maxsi]; exact le_max_of_le_left (not_lt.1 h))
    obtain ⟨i0, i1⟩ := toInt_fptosi z h0 h1
    rw [toInt_minsi, hz, BitVec.toInt_add]
    refine le_min ?_ (by decide)
    have : (16#32).toInt = 16 := rfl
    rw [this]
    unfold Int.bmod
    norm_num
    omega

theorem bucket1 (i : S128x256.Idx) : val_main_v32 (F := Ideal) i = bucket (val_main_v12 (F := Ideal) i) := rfl
theorem bucket4 (i : S128x256.Idx) : val_main_v68 (F := Ideal) i = bucket (val_main_v48 (F := Ideal) i) := rfl
theorem bucket16 (i : S128x256.Idx) : val_main_v104 (F := Ideal) i = bucket (val_main_v84 (F := Ideal) i) := rfl

end Cert.Proof.Bias

end
-- ==== Proof.BiasReference.lean ====
/- The position table's gradient: the reference's three scatters as sums over the places. -/
module

public import proofs.«01_k».proof.Proof.BiasBucket

@[expose] public section

set_option maxRecDepth 16384
set_option maxHeartbeats 4000000

noncomputable section

namespace Cert.Proof.Bias

open Cert.Reference4Ideal Cert.Reference4Ideal.Read Idealize.ShloMosaic

/-- The scatter of the three dilations. -/
abbrev scat : ScatterDims S32x8 S128x256x1 S128x256x8 := scatter_S32x8_S128x256x1_S128x256x8_2_0_0_2

theorem start_0 (idx : IVec S128x256x1 32) (a : Fin 128) (j : Fin 256) (k : Fin 8) :
    scat.start (ix3 a j k) idx 0 = (idx (ix3 a j 0)).toInt := by
  have e : scat.siIdx (ix3 a j k) ⟨0, by decide⟩ = ix3 a j 0 := by
    funext x
    fin_cases x <;> rfl
  exact congrArg (fun z => (idx z).toInt) e

theorem start_1 (idx : IVec S128x256x1 32) (a : Fin 128) (j : Fin 256) (k : Fin 8) : scat.start (ix3 a j k) idx 1 = 0 := rfl

theorem window_0 (a : Fin 128) (j : Fin 256) (k : Fin 8) : scat.window (ix3 a j k) 0 = 0 := rfl

theorem window_1 (a : Fin 128) (j : Fin 256) (k : Fin 8) : scat.window (ix3 a j k) 1 = k.val := rfl

/-- Where an update lands. -/
theorem lands (idx : IVec S128x256x1 32) (a : Fin 128) (j : Fin 256) (k : Fin 8) (b : Fin 32) (h : Fin 8) :
    scat.resultIdx? (ix3 a j k) idx = some (ix2 b h) ↔ (idx (ix3 a j 0)).toInt = b.val ∧ k = h := by
  unfold ScatterDims.resultIdx?
  have hb := b.isLt
  have hk := k.isLt
  constructor
  · intro e
    split at e
    · rename_i hin
      have e' := Option.some.inj e
      have e0 := congrArg Fin.val (congrFun e' 0)
      have e1 := congrArg Fin.val (congrFun e' 1)
      have h0 := hin 0
      replace e0 : (scat.start (ix3 a j k) idx 0 + scat.window (ix3 a j k) 0).toNat = b.val := e0
      replace e1 : (scat.start (ix3 a j k) idx 1 + scat.window (ix3 a j k) 1).toNat = h.val := e1
      rw [start_0, window_0] at e0 h0
      rw [start_1, window_1] at e1
      exact ⟨by omega, Fin.ext (by omega)⟩
    · cases e
  · rintro ⟨e0, rfl⟩
    have hin : ∀ x : Fin 2, 0 ≤ scat.start (ix3 a j k) idx x + scat.window (ix3 a j k) x
        ∧ scat.start (ix3 a j k) idx x + scat.window (ix3 a j k) x < S32x8.size x := by
      intro x
      fin_cases x
      · show 0 ≤ scat.start (ix3 a j k) idx 0 + scat.window (ix3 a j k) 0 ∧ scat.start (ix3 a j k) idx 0 + scat.window (ix3 a j k) 0 < 32
        rw [start_0, window_0]; omega
      · show 0 ≤ scat.start (ix3 a j k) idx 1 + scat.window (ix3 a j k) 1 ∧ scat.start (ix3 a j k) idx 1 + scat.window (ix3 a j k) 1 < 8
        rw [start_1, window_1]; omega
    refine (dif_pos hin).trans (congrArg some (funext fun x => Fin.ext ?_))
    fin_cases x
    · show (scat.start (ix3 a j k) idx 0 + scat.window (ix3 a j k) 0).toNat = b.val
      rw [start_0, window_0]; omega
    · show (scat.start (ix3 a j k) idx 1 + scat.window (ix3 a j k) 1).toNat = k.val
      rw [start_1, window_1]; omega

/-- The scatter adds to a bucket's entry the updates whose bucket it is. -/
theorem scatter_at (x : FVec Ideal S32x8 .f32) (idx : IVec S128x256x1 32) (upd : FVec Ideal S128x256x8 .f32) (b : Fin 32) (h : Fin 8) :
    Host.scatterAdd scat x idx upd (ix2 b h) = x (ix2 b h) + ∑ a : Fin 128, ∑ j : Fin 256, if (idx (ix3 a j 0)).toInt = b.val then upd (ix3 a j h) else 0 := by
  refine congrArg (x (ix2 b h) + ·) ?_
  rw [Finset.sum_filter, sum_idx3]
  refine Finset.sum_congr rfl fun a _ => Finset.sum_congr rfl fun j _ => ?_
  simp only [lands, ite_and]
  by_cases hb : (idx (ix3 a j 0)).toInt = b.val
  · simp [hb]
  · simp [hb]

/-- A bucket that isn't negative is left as it is. -/
theorem wrap (w : BitVec 32) (h : 0 ≤ w.toInt) : Scalar.select (IntOp.cmpi .slt w 0#32) (w + 32#32) w = w := by
  have e : IntOp.cmpi .slt w 0#32 = 0#1 := by simp [IntOp.cmpi, BitVec.slt, not_lt.2 h]
  rw [e]
  rfl

/-- Masking the bucket and masking the value leave the same addend. -/
theorem agree (g : BitVec 1) (w : BitVec 32) (hw : 0 ≤ w.toInt) (b : Fin 32) (v : EReal) :
    (if w.toInt = b.val then Scalar.select g v (0 : EReal) else 0) = if Scalar.select g w (4294967295#32 : BitVec 32) = BitVec.ofNat 32 b.val then v else 0 := by
  have hb := b.isLt
  rcases BitVec.eq_zero_or_eq_one g with rfl | rfl
  · have hn : (4294967295#32 : BitVec 32) ≠ BitVec.ofNat 32 b.val := fun e => by
      have := congrArg BitVec.toNat e
      simp at this
      omega
    show (if _ then (0 : EReal) else 0) = if (4294967295#32 : BitVec 32) = _ then v else 0
    rw [if_neg hn, ite_self]
  · show (if _ then v else 0) = if w = _ then v else 0
    have hi : ∀ b : Fin 32, (BitVec.ofNat 32 b.val).toInt = b.val := by decide
    have : w.toInt = b.val ↔ w = BitVec.ofNat 32 b.val := by
      rw [← BitVec.toInt_inj, hi]
    simp only [this]

variable (x : Vec Ideal S3x8x128x256 .f32)

/-- One dilation's part of the gradient. -/
def share (x : Vec Ideal S3x8x128x256 .f32) (d : Fin 3) (b : Fin 32) (h : Fin 8) : EReal :=
  ∑ a : Fin 128, ∑ j : Fin 256, if Scalar.select (band a j) (bucketOf d (ix2 a j)) (4294967295#32 : BitVec 32) = BitVec.ofNat 32 b.val then x (ix4 d h a j) else 0

/-- A scatter of the masked table over nonnegative buckets is the dilation's part. -/
theorem scatter_share (d : Fin 3) (z : FVec Ideal S32x8 .f32) (idx : IVec S128x256x1 32) (upd : FVec Ideal S128x256x8 .f32) (b : Fin 32) (h : Fin 8)
    (hz : z (ix2 b h) = 0) (hn : ∀ i, 0 ≤ (bucketOf d i).toInt)
    (hidx : ∀ (a : Fin 128) (j : Fin 256), idx (ix3 a j 0) = Scalar.select (IntOp.cmpi .slt (bucketOf d (ix2 a j)) 0#32) (bucketOf d (ix2 a j) + 32#32) (bucketOf d (ix2 a j)))
    (hupd : ∀ (a : Fin 128) (j : Fin 256), upd (ix3 a j h) = Scalar.select (band a j) (x (ix4 d h a j)) (0 : EReal)) :
    Host.scatterAdd scat z idx upd (ix2 b h) = share x d b h := by
  rw [scatter_at, hz, zero_add]
  refine Finset.sum_congr rfl fun a _ => Finset.sum_congr rfl fun j _ => ?_
  rw [hidx, hupd, wrap _ (hn _), agree _ _ (hn _)]

theorem zero_bits : Ideal.ofBits .f32 0x00000000#32 = (0 : EReal) := by
  simp [Ideal.ofBits, Ideal.ieee]

theorem part_1 (b : Fin 32) (h : Fin 8) : val_main_v136 (F := Ideal) x (ix2 b h) = share x 0 b h := by
  refine scatter_share x 0 _ _ _ b h zero_bits (fun i => bucket_nonneg _) (fun a j => ?_) (fun a j => ?_)
  · pointwise [val_main_v38]
    rfl
  · have e : val_main_call8_v0 (F := Ideal) (ix3 h a j) = (0 : EReal) := zero_bits
    have g : val_main_v41_1 (F := Ideal) (ix3 h a j) = band a j := by pointwise [val_main_v41_1]
    pointwise [val_main_v134, val_main_v133, val_main_v119, val_main_v118]
    rw [e, g]

theorem part_4 (b : Fin 32) (h : Fin 8) : val_main_v131 (F := Ideal) x (ix2 b h) = share x 1 b h := by
  refine scatter_share x 1 _ _ _ b h zero_bits (fun i => bucket_nonneg _) (fun a j => ?_) (fun a j => ?_)
  · pointwise [val_main_v74]
    rfl
  · have e : val_main_call7_v0 (F := Ideal) (ix3 h a j) = (0 : EReal) := zero_bits
    have g : val_main_v77_1 (F := Ideal) (ix3 h a j) = band a j := by
      pointwise [val_main_v77_1]
      rfl
    pointwise [val_main_v129, val_main_v128, val_main_v121, val_main_v120]
    rw [e, g]

theorem part_16 (b : Fin 32) (h : Fin 8) : val_main_v127 (F := Ideal) x (ix2 b h) = share x 2 b h := by
  refine scatter_share x 2 _ _ _ b h zero_bits (fun i => bucket_nonneg _) (fun a j => ?_) (fun a j => ?_)
  · pointwise [val_main_v110]
    rfl
  · have e : val_main_call6_v0 (F := Ideal) (ix3 h a j) = (0 : EReal) := zero_bits
    have g : val_main_v113_1 (F := Ideal) (ix3 h a j) = band a j := by
      pointwise [val_main_v113_1]
      rfl
    pointwise [val_main_v125, val_main_v124, val_main_v123, val_main_v122]
    rw [e, g]

/-- The reference's result: the three dilations' parts. -/
theorem reference_at (b : Fin 32) (h : Fin 8) : val_main_v137 (F := Ideal) x (ix2 b h) = ∑ d : Fin 3, share x d b h := by
  show (val_main_v127 (F := Ideal) x (ix2 b h) + val_main_v131 (F := Ideal) x (ix2 b h)) + val_main_v136 (F := Ideal) x (ix2 b h) = _
  rw [part_1, part_4, part_16, Fin.sum_univ_three, add_comm, add_comm (share x 2 b h), add_assoc]

end Cert.Proof.Bias

end
-- ==== Proof.BiasClaim.lean ====
/- The position table's gradient: kernel and reference give the same array. -/
module

public import proofs.«01_k».proof.Defs
public import proofs.«01_k».proof.Proof.BiasPoints
public import proofs.«01_k».proof.Proof.BiasReference

@[expose] public section

noncomputable section

namespace Cert.Proof.Bias

open Cert.Kernel4Ideal Cert.Kernel4Ideal.Gen Idealize.ShloMosaic Idealize.ShloMosaic.TcCoe Idealize.SL.Sem

variable (m : (ℓ : Loc nD τ sig) → Buf (Elt Ideal) ℓ)

theorem part_eq (c : Dev nD) (d : Fin 3) (b : Fin 32) (h : Fin 8) : part m c d (ix2 b h) = share (tabOf m c) d b h := by
  unfold part share
  refine Finset.sum_congr rfl fun a _ => Finset.sum_congr rfl fun j _ => ?_
  rw [show idsIn m c (ix3 d a j) = _ from ids_at m c d a j]
  rfl

/-- The kernel's array is the reference's. -/
theorem final_eq (c : Dev nD) : (dats m 0 c).arrAt 2 (cfgs 0).N = Cert.Reference4Ideal.Read.val_main_v137 (F := Ideal) (tabOf m c) := by
  refine (final m c).trans (funext fun i => ?_)
  obtain ⟨b, h, rfl⟩ := (⟨i 0, i 1, funext fun z => by fin_cases z <;> rfl⟩ : ∃ (b : Fin 32) (h : Fin 8), i = ix2 b h)
  rw [reference_at]
  exact Finset.sum_congr rfl fun d _ => part_eq m c d b h

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => (dats m 0 c).arrAt 2 cfg0.N, Cert.Kernel4Ideal.Value.run_blocks m g, ?_⟩
  refine (θ_run _ _ _).mono (fun r h c => ?_) (Cert.Reference4Ideal.Value.run m' g')
  obtain ⟨h0, hargs⟩ := h c
  refine ⟨h0.trans ((Cert.Reference4Ideal.Read.val_main_v137_eq _).trans ?_), hargs⟩
  exact (congrArg (Cert.Reference4Ideal.Read.val_main_v137 (F := Ideal)) (hagree c)).trans (final_eq m c).symm

end Cert.Proof.Bias

end
-- ==== Proof.InValue.lean ====
/- The in-projection's kernel: what one grid point leaves, and its two result arrays after the run. -/
module

public import proofs.«01_k».proof.Proof.Gen.Kernel5Ideal.Frame
public import proofs.«01_k».proof.Proof.DxValue

@[expose] public section

set_option maxRecDepth 16384

noncomputable section

namespace Cert.Proof.In

open Cert.Kernel5Ideal Cert.Kernel5Ideal.Gen Idealize.ShloMosaic Idealize.ShloMosaic.TcCoe Idealize.SL.Sem
open Cert.Proof.RmsGrad

variable (m : (ℓ : Loc nD τ sig) → Buf (Elt Ideal) ℓ)

/-- The scratch holds the padded weight after every point: the first point copies it, the others keep it. -/
theorem weight (c : Dev nD) : ∀ (n : ℕ) (h : n < cfg0.N), (outsAt0 m c n h).2.2 = V m c main_v4 := by
  intro n
  induction n with
  | zero =>
    intro h
    rw [outsAt0_A m c ⟨0, h⟩ rfl]
    frame_out
    exact Cert.Proof.Dx.canon_whole _
  | succ n ih =>
    intro h
    have hn : n + 1 < 16 := lt_of_lt_of_eq h N_0
    have e := congrArg (fun p => p.2.2) (outsAt0_B m c ⟨n + 1, h⟩ (show ¬ (n + 1) % 16 = 0 by omega))
    simp only [sout0_B_0, Nat.add_sub_cancel] at e
    rw [e, ih]

/-- The block of the projection that a point writes. -/
theorem proj_block (c : Dev nD) (t : Fin cfg0.N) : (outsAt0 m c t.val t.isLt).1
    = k0_pay2 (F := Ideal) (iblk m c 0 t) (iblk m c 1 t) (V m c main_v4) := by
  by_cases h : t.val % 16 = 0
  · rw [outsAt0_A m c t h]
    frame_out
    refine congrArg (k0_pay2 (F := Ideal) _ _) ?_
    rw [View.readCov_eq_canon', Cert.Proof.Dx.canon_whole]
    exact View.ld_unit_zero (funext fun a => by fin_cases a <;> rfl) inb_S1024x3200_S1024x3200_0_0 (V m c main_v4)
  · rw [outsAt0_B m c t h]
    frame_out
    simp only [read_unread_whole, weight m c]

/-- The block of the normed activations that a point writes. -/
theorem nx_block (c : Dev nD) (t : Fin cfg0.N) : (outsAt0 m c t.val t.isLt).2.1
    = k0_pay1 (F := Ideal) (iblk m c 0 t) (iblk m c 1 t) := by
  by_cases h : t.val % 16 = 0
  · rw [outsAt0_A m c t h]
    frame_out
  · rw [outsAt0_B m c t h]
    frame_out

theorem idx : ∀ t : Fin cfg0.N, win0_0.index t = ![t.val, 0] ∧ win0_1.index t = ![0, 0] ∧ win0_2.index t = ![t.val, 0]
    ∧ win0_3.index t = ![t.val, 0] ∧ t.val < 16 :=
  (by decide +kernel : ∀ t : Fin grid0.N, _)

/-- The array row that a block's row is. -/
abbrev rowAt (t : Fin cfg0.N) (a : Fin 512) : Fin 8192 := ⟨t.val * 512 + a.val, by have := (idx t).2.2.2.2; omega⟩

theorem blk0 (c : Dev nD) (t : Fin cfg0.N) (a : Fin 512) (k : Fin 1024) : iblk m c 0 t (ix2 a k)
    = (show FVec Ideal S8192x1024 .f32 from m ((c : Thread nD τ).loc main_arg0)) (ix2 (rowAt t a) k) := by
  blk_ext! [iblk, V, idx t]
theorem blk1 (c : Dev nD) (t : Fin cfg0.N) (k : Fin 1024) : iblk m c 1 t (ix2 0 k)
    = (show FVec Ideal S1x1024 .f32 from m ((c : Thread nD τ).loc main_arg1)) (ix2 0 k) := by
  blk_ext! [iblk, V, idx t]

/-- The weight that the call takes is the argument, padded. -/
theorem weight_eq (c : Dev nD) : V m c main_v4 = Cert.Proof.Dx.padded (m ((c : Thread nD τ).loc main_arg2)) := by
  unfold V hostOps0
  simp only [StableHlo.after_cons, StableHlo.after_nil]
  after_results_simp
  refine Cert.Proof.Dx.concat_congr ?_ ?_ ?_ <;> rfl

/-- The normed activations, over the arguments. -/
def nxOf (x : FVec Ideal S8192x1024 .f32) (g : FVec Ideal S1x1024 .f32) : FVec Ideal S8192x1024 .bf16 := fun i =>
  x i * (rstd fun k => x (ix2 (i 0) k)) * g (ix2 0 (i 1))

/-- The projection, over the arguments. -/
def projOf (x : FVec Ideal S8192x1024 .f32) (g : FVec Ideal S1x1024 .f32) (w : FVec Ideal S1024x3088 .f32) :
    FVec Ideal S8192x3200 .f32 := fun i =>
  ∑ k : Fin 1024, nxOf x g (ix2 (i 0) k) * Cert.Proof.Dx.padded w (ix2 k (i 1))

theorem nx_at (c : Dev nD) (t : Fin cfg0.N) (a : Fin 512) (b : Fin 1024) :
    k0_pay1 (F := Ideal) (iblk m c 0 t) (iblk m c 1 t) (ix2 a b)
      = nxOf (m ((c : Thread nD τ).loc main_arg0)) (m ((c : Thread nD τ).loc main_arg1)) (ix2 (rowAt t a) b) := by
  pointwise [k0_pay1]
  unfold nxOf rstd
  simp only [blk0, blk1]
  rfl

theorem pay2_at (x : FVec Ideal S512x1024 .f32) (g : FVec Ideal S1x1024 .f32) (w : FVec Ideal S1024x3200 .bf16) (a : Fin 512)
    (b : Fin 3200) : k0_pay2 (F := Ideal) x g w (ix2 a b) = ∑ k : Fin 1024, k0_pay1 (F := Ideal) x g (ix2 a k) * w (ix2 k b) := by
  pointwise [k0_pay2]

/-- The normed activations after the run. -/
theorem final_nx (c : Dev nD) : (dats m 0 c).arrAt 3 (cfgs 0).N
    = nxOf (m ((c : Thread nD τ).loc main_arg0)) (m ((c : Thread nD τ).loc main_arg1)) := by
  refine (dats m 0 c).arrAt_eq_of_covers 3 _ (by decide +kernel) fun t _ y => ?_
  blk_simp
  rw [after0_3, nx_block]
  idx_vars y
  rw [nx_at]
  have e : ((View.whole main_v5_1).slice (win0_3.rect t)).emb (ix2 y0 y1) = ix2 (rowAt t y0) y1 := by
    blk_ext [idx t]
  rw [e]

/-- The projection after the run. -/
theorem final_proj (c : Dev nD) : (dats m 0 c).arrAt 2 (cfgs 0).N
    = projOf (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, proj_block, weight_eq]
  idx_vars y
  rw [pay2_at]
  have e : ((View.whole main_v5_0).slice (win0_2.rect t)).emb (ix2 y0 y1) = ix2 (rowAt t y0) y1 := by
    blk_ext [idx t]
  rw [e]
  show _ = ∑ k : Fin 1024, nxOf _ _ (ix2 (rowAt t y0) k) * Cert.Proof.Dx.padded _ (ix2 k y1)
  exact Finset.sum_congr rfl fun k _ => congrArg (fun z : EReal => z * _) (nx_at m c t y0 k)

end Cert.Proof.In

end
-- ==== Proof.InClaim.lean ====
/- The forward norm and in-projection: the kernel's results are the reference's. -/
module

public import proofs.«01_k».proof.Defs
public import proofs.«01_k».proof.Proof.Gen.Kernel5Ideal.Value
public import proofs.«01_k».proof.Proof.Gen.Reference5Ideal.Read
public import proofs.«01_k».proof.Proof.InValue

@[expose] public section

set_option maxRecDepth 16384

noncomputable section

namespace Cert.Proof.In

open Cert.Reference5Ideal Cert.Reference5Ideal.Gen Cert.Reference5Ideal.Read
open Idealize.ShloMosaic Idealize.ShloMosaic.TcCoe Idealize.SL.Sem Cert.Proof.RmsGrad

/-- The reference's normed activations. -/
theorem reference_nx (x : FVec Ideal S8192x1024 .f32) (g : FVec Ideal S1x1024 .f32) (i : Fin 8192) (j : Fin 1024) :
    val_main_v13 (F := Ideal) x g (ix2 i j) = nxOf x g (ix2 i j) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  unfold nxOf rstd
  rfl

/-- The reference's product of the normed activations with the weight. -/
theorem reference_dot (x : FVec Ideal S8192x1024 .f32) (g : FVec Ideal S1x1024 .f32) (w : FVec Ideal S1024x3088 .f32)
    (i : Fin 8192) (j : Fin 3088) :
    val_main_v14 (F := Ideal) x g w (ix2 i j) = ∑ k : Fin 1024, nxOf x g (ix2 i k) * w (ix2 k j) := by
  unfold val_main_v14
  pointwise
  exact Finset.sum_congr rfl fun k _ => congrArg (· * _) (reference_nx x g i k)

/-- The kernel's projection is the reference's: the columns of zeros in the weight make columns of zeros. -/
theorem reference_proj (x : FVec Ideal S8192x1024 .f32) (g : FVec Ideal S1x1024 .f32) (w : FVec Ideal S1024x3088 .f32) :
    val_main_v18 (F := Ideal) x g w = projOf x g w := by
  funext y
  idx_vars y
  show _ = ∑ k : Fin 1024, nxOf x g (ix2 y0 k) * Cert.Proof.Dx.padded w (ix2 k y1)
  simp only [Cert.Proof.Dx.padded_at]
  pointwise [val_main_v18, val_main_v17, val_main_v16, val_main_v15, val_main_cst_2]
  simp only [reference_dot]
  by_cases h : y1.val < 1552
  · simp only [h, ↓reduceDIte]
  · by_cases h' : y1.val < 1664
    · simp only [h, h', ↓reduceDIte, show y1.val - 1552 < 112 by omega, mul_zero, Finset.sum_const_zero]
    · simp only [h, h', ↓reduceDIte, show ¬ y1.val - 1552 < 112 by omega, show 1552 + (y1.val - 1552 - 112) = y1.val - 112 by omega]

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N,
    fun c => (Cert.Kernel5Ideal.Gen.dats m 0 c).arrAt 3 Cert.Kernel5Ideal.cfg0.N, Cert.Kernel5Ideal.Value.run_blocks m g, ?_⟩
  · refine (θ_run _ _ _).mono (fun r h c => ?_) (Cert.Reference5Ideal.Value.run m' g')
    obtain ⟨hp, hn, hargs⟩ := h c
    obtain ⟨e0, e1, e2⟩ := hagree c
    refine ⟨hp.trans ((val_main_v18_eq _ _ _).trans ?_), hn.trans ((val_main_v19_eq _ _).trans ?_), hargs⟩
    · rw [e0, e1, e2]
      exact (reference_proj _ _ _).trans (final_proj m c).symm
    · rw [e0, e1]
      refine Eq.trans (funext fun y => ?_) (final_nx m c).symm
      idx_vars y
      exact reference_nx _ _ y0 y1

end Cert.Proof.In

end
-- ==== Proof.TabSpec.lean ====
/- The bias tables: what an entry is, and where the rolled row's entry comes from. -/
module

public import proofs.«01_k».proof.Proof.BiasBucket
public import proofs.«01_k».proof.Proof.AttnWindow
public import Idealize.ShloMosaic.Lib.Pointwise

@[expose] public section

set_option maxRecDepth 16384

noncomputable section

namespace Cert.Proof.Table

open Idealize.ShloMosaic Cert.Proof.Bias

/-- The word that says a number of steps is in the window. -/
def inBand (s : BitVec 32) : BitVec 1 := IntOp.andi (IntOp.cmpi .sge s 0#32) (IntOp.cmpi .sle s 128#32)

/-- The branches' dilations. -/
def dil : Fin 3 → BitVec 32 := ![1#32, 4#32, 16#32]

theorem bucket_le (n : BitVec 32) : (bucket n).toInt ≤ 31 := by
  unfold bucket
  by_cases h : (IntOp.maxsi n 0#32).toInt < 16
  · have e : IntOp.cmpi .slt (IntOp.maxsi n 0#32) 16#32 = 1#1 := by simp [IntOp.cmpi, BitVec.slt, h]
    rw [e]
    show (IntOp.maxsi n 0#32).toInt ≤ 31
    omega
  · have e : IntOp.cmpi .slt (IntOp.maxsi n 0#32) 16#32 = 0#1 := by simp [IntOp.cmpi, BitVec.slt, h]
    rw [e]
    show (IntOp.minsi _ _).toInt ≤ 31
    rw [toInt_minsi]
    exact min_le_right _ _

theorem bucket_toInt (n : BitVec 32) : (bucket n).toInt = (bucket n).toNat := by
  have h0 := bucket_nonneg n
  rw [BitVec.toInt_eq_toNat_cond] at h0 ⊢
  split at h0 <;> rename_i h
  · rw [if_pos h]
  · have := (bucket n).isLt
    omega

theorem bucket_lt (n : BitVec 32) : (bucket n).toNat < 32 := by
  have h1 := bucket_le n
  rw [bucket_toInt] at h1
  omega

/-- A table's entry: the bias of the distance's bucket inside the window, `⊥` outside. -/
def entry (w : (⟨2, ![32, 8]⟩ : Shape).Idx → EReal) (d : Fin 3) (h : Fin 8) (s : BitVec 32) : EReal :=
  Scalar.select (inBand s) (w (ix2 ⟨(bucket (s * dil d)).toNat, bucket_lt _⟩ h)) ⊥

/-- The steps between a query's place and a key's. -/
def steps (a : Fin 128) (j : Fin 256) : BitVec 32 := 128#32 + BitVec.ofNat 32 a.val - BitVec.ofNat 32 j.val

/-- The place in the unrolled row of a query's and key's entry. -/
def source (a : Fin 128) (j : Fin 256) : Fin 256 := ⟨(j.val + 256 - a.val % 256) % 256, Nat.mod_lt _ (by decide)⟩

theorem row_band : ∀ k : Fin 256, inBand (128#32 - BitVec.ofNat 32 k.val) = if k.val ≤ 128 then 1#1 else 0#1 := by
  decide +kernel

theorem steps_band (a : Fin 128) (j : Fin 256) : inBand (steps a j) = if Attn.Win a j then 1#1 else 0#1 := Attn.window_bits a j

theorem shift (x y : BitVec 32) : 128#32 - x = 128#32 + y - (x + y) := by bv_omega

theorem select_zero {α : Type} (x y : α) : Scalar.select 0#1 x y = y := rfl

theorem select_one {α : Type} (x y : α) : Scalar.select 1#1 x y = x := rfl

theorem turn (a : Fin 128) (j : Fin 256) : inBand (128#32 - BitVec.ofNat 32 (source a j).val) = inBand (steps a j)
    ∧ (inBand (steps a j) = 1#1 → 128#32 - BitVec.ofNat 32 (source a j).val = steps a j) := by
  have ha := a.isLt
  have hj := j.isLt
  have hs : (source a j).val = (j.val + 256 - a.val % 256) % 256 := rfl
  rw [row_band, steps_band]
  by_cases h : Attn.Win a j
  · have hw : a.val ≤ j.val ∧ j.val ≤ a.val + 128 := h
    have e : (source a j).val = j.val - a.val := by omega
    refine ⟨by rw [if_pos h, if_pos (by omega)], fun _ => ?_⟩
    unfold steps
    have ej : BitVec.ofNat 32 j.val = BitVec.ofNat 32 (j.val - a.val) + BitVec.ofNat 32 a.val := by
      rw [← BitVec.ofNat_add, Nat.sub_add_cancel hw.1]
    rw [e, ej]
    exact shift _ _
  · have hw : ¬(a.val ≤ j.val ∧ j.val ≤ a.val + 128) := h
    refine ⟨by rw [if_neg h, if_neg (by omega)], fun h1 => ?_⟩
    rw [if_neg h] at h1
    exact absurd h1 (by decide)

/-- Where the rolled row wraps both places lie outside the window; elsewhere the steps are the same. -/
theorem entry_turn (w : (⟨2, ![32, 8]⟩ : Shape).Idx → EReal) (d : Fin 3) (h : Fin 8) (a : Fin 128) (j : Fin 256) :
    entry w d h (128#32 - BitVec.ofNat 32 (source a j).val) = entry w d h (steps a j) := by
  obtain ⟨e, e'⟩ := turn a j
  rcases BitVec.eq_zero_or_eq_one (inBand (steps a j)) with hz | ho
  · unfold entry
    rw [e, hz, select_zero, select_zero]
  · rw [e' ho]

end Cert.Proof.Table

end
-- ==== Proof.TabIds.lean ====
/- The bias tables: the buckets the kernel compares with, read from the host's lines. -/
module

public import proofs.«01_k».proof.Proof.TabSpec
public import proofs.«01_k».proof.Proof.Gen.Kernel6Ideal.Value
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Proof.Table

open Cert.Kernel6Ideal Cert.Kernel6Ideal.Gen Idealize.ShloMosaic Idealize.ShloMosaic.TcCoe Idealize.SL.Sem

variable (m : (ℓ : Loc nD τ sig) → Buf (Elt Ideal) ℓ)

/-- What a buffer holds when the three dilations' rows are joined. -/
def atJoin (c : Dev nD) (b : Ref sig .tc) : b.ty.Contents (Elt Ideal) :=
  StableHlo.upto [hostOps0, hostOps0_1, hostOps0_2, hostOps0_3, hostOps0_4, hostOps0_5, hostOps0_6, hostOps0_7, hostOps0_8, hostOps0_9, hostOps0_10, hostOps0_11, hostOps0_12].flatten (fun b => m (c, b)) 119 (Proc.tc.devRef b)

theorem v82_eq (c : Dev nD) : V m c main_v82 =
    broadcastInDim S3x8x256 ![0, 1, 2] bcast_S3x1x256_S3x8x256_0_1_2 (broadcastInDim S3x1x256 ![0, 2] bcast_S3x256_S3x1x256_0_2
      (concatenate S3x256 0 [⟨S1x256, atJoin m c main_v77⟩, ⟨S1x256, atJoin m c main_v78⟩, ⟨S1x256, atJoin m c main_v79⟩]
        concatenates_S1x256_S1x256_S1x256_S3x256_d0)) := by
  unfold V
  after_reads_simp
  rfl

/-- One dilation's row: the bucket of each number of steps, with the word −1 outside the window. -/
def rowWord (q : BitVec 32) (k : Fin 256) : BitVec 32 :=
  Scalar.select (inBand (128#32 - BitVec.ofNat 32 k.val)) (Bias.bucket ((128#32 - BitVec.ofNat 32 k.val) * q)) 4294967295#32

theorem v77_eq (c : Dev nD) : atJoin m c main_v77 = fun i : S1x256.Idx => rowWord 1#32 (i 1) := by
  unfold atJoin
  after_reads_simp
  rfl

theorem v78_eq (c : Dev nD) : atJoin m c main_v78 = fun i : S1x256.Idx => rowWord 4#32 (i 1) := by
  unfold atJoin
  after_reads_simp
  rfl

theorem v79_eq (c : Dev nD) : atJoin m c main_v79 = fun i : S1x256.Idx => rowWord 16#32 (i 1) := by
  unfold atJoin
  after_reads_simp
  rfl

theorem ids_at (c : Dev nD) (d : Fin 3) (r : Fin 8) (k : Fin 256) :
    (V m c main_v82 : Vec Ideal S3x8x256 .i32) (ix3 d r k) = rowWord (dil d) k := by
  rw [v82_eq, v77_eq, v78_eq, v79_eq]
  fin_cases d
  · pointwise
    rfl
  · pointwise
    rfl
  · pointwise
    rfl

end Cert.Proof.Table

end
-- ==== Proof.TabStores.lean ====
/- The bias tables: what one grid point's eight stores leave. -/
module

public import proofs.«01_k».proof.Proof.TabSpec
public import proofs.«01_k».proof.Proof.Gen.Kernel6Ideal.Value
public import Idealize.ShloMosaic.Lib.Pointwise

@[expose] public section

set_option maxRecDepth 16384
set_option maxHeartbeats 4000000

noncomputable section

namespace Cert.Proof.Table

open Cert.Kernel6Ideal Cert.Kernel6Ideal.Gen Idealize.ShloMosaic Idealize.ShloMosaic.TcCoe Idealize.SL.Sem

theorem mask_eq : (Named.named κ "mask" 0xF149F2CA#32 : Ideal .f32) = (⊥ : EReal) := rfl

/-- A row after the first `n` buckets: each place whose bucket is among them holds that bucket's bias. -/
def filled (ids : IVec S8x256 32) (r : ℕ → EReal) : ℕ → FVec Ideal S8x256 .f32
  | 0 => select (cmpi .slt ids (broadcast S8x256 0#32)) (broadcast S8x256 (Named.named κ "mask" 0xF149F2CA#32 : Ideal .f32))
      (broadcast S8x256 (Scalar.ofBits (F := Ideal) .f32 0x00000000#32))
  | n + 1 => select (cmpi .eq ids (broadcast S8x256 (BitVec.ofNat 32 n))) (broadcast S8x256 (r n)) (filled ids r n)

theorem filled_at (ids : IVec S8x256 32) (r : ℕ → EReal) (y : S8x256.Idx) : ∀ n : ℕ, n ≤ 32 →
    filled ids r n y = if (ids y).toNat < n then r (ids y).toNat else filled ids r 0 y
  | 0, _ => by rw [if_neg (Nat.not_lt_zero _)]
  | n + 1, hn => by
    have ih := filled_at ids r y n (by omega)
    show Scalar.select (IntOp.cmpi .eq (ids y) (BitVec.ofNat 32 n)) (r n) (filled ids r n y) = _
    have hb : (BitVec.ofNat 32 n).toNat = n := by rw [BitVec.toNat_ofNat]; exact Nat.mod_eq_of_lt (by omega)
    by_cases h : ids y = BitVec.ofNat 32 n
    · have hn' : (ids y).toNat = n := (congrArg BitVec.toNat h).trans hb
      rw [if_pos (by omega), hn', h]
      simp [IntOp.cmpi, Scalar.select]
    · have hne : (ids y).toNat ≠ n := fun e => h (BitVec.eq_of_toNat_eq (e.trans hb.symm))
      have e : IntOp.cmpi .eq (ids y) (BitVec.ofNat 32 n) = 0#1 := by
        simp [IntOp.cmpi, beq_false_of_ne h]
      rw [e]
      show filled ids r n y = _
      rw [ih]
      by_cases hl : (ids y).toNat < n
      · rw [if_pos hl, if_pos (by omega)]
      · rw [if_neg hl, if_neg (by omega)]

/-- A vector's first row. -/
def firstRow (v : FVec Ideal S8x256 .f32) : FVec Ideal S1x256 .f32 :=
  shapeCast S1x256 (extractStridedSlice S1x256 ![0, 0] v slices_S8x256_o0_0_S1x256) shapeCasts_S1x256_S1x256

/-- A row over every query, each query's rolled by its place. -/
def turned (r : FVec Ideal S1x256 .f32) : FVec Ideal S1x1x128x256 .f32 :=
  shapeCast S1x1x128x256 (dynamicRotate 1 0#32 (some (1, 0)) (broadcastTo S128x256 r broadcasts_S1x256_S128x256) rotates_S128x256_d1s1a0)
    shapeCasts_S128x256_S1x1x128x256

theorem rolled (x : FVec Ideal S128x256 .f32) (a : Fin 128) (j : Fin 256) :
    dynamicRotate 1 0#32 (some (1, 0)) x rotates_S128x256_d1s1a0 (ix2 a j) = x (ix2 a (source a j)) := by
  unfold dynamicRotate
  refine congrArg x (funext fun b => Fin.ext ?_)
  fin_cases b
  · rfl
  · show (j.val + 256 - (0 + 1 * a.val) % 256) % 256 = (j.val + 256 - a.val % 256) % 256
    rw [Nat.zero_add, Nat.one_mul]

theorem turned_at (v : FVec Ideal S8x256 .f32) (a : Fin 128) (j : Fin 256) : turned (firstRow v) (ix4 0 0 a j) = v (ix2 0 (source a j)) := by
  unfold turned firstRow
  refine (shapeCast_apply _ shapeCasts_S128x256_S1x1x128x256 _ (ix2 a j) ?_).trans ((rolled _ a j).trans ?_)
  · rw [Shape.rowMajor_val_two, Shape.rowMajor_val_four]
    simp
  · pointwise

/-- A store holds `G` where it writes. -/
def Holds (G : S1x8x128x256.Idx → EReal) (p : View.Piece (Elt Ideal) S1x8x128x256 .f32) : Prop := ∀ z : p.1.shape.Idx, p.2 z = G (p.1.emb z)

theorem holds_canon {G : S1x8x128x256.Idx → EReal} : ∀ {L : List (View.Piece (Elt Ideal) S1x8x128x256 .f32)}, (∀ p ∈ L, Holds G p) →
    ∀ y : S1x8x128x256.Idx, (∃ p ∈ L, y ∈ p.1.set) → View.canon L y = G y
  | [], _, y, h => by obtain ⟨p, hp, _⟩ := h; simp at hp
  | p :: L, hL, y, h => by
    by_cases hm : y ∈ p.1.set
    · obtain ⟨x, rfl⟩ := p.1.exists_idx_of_mem hm
      exact (View.canon_cons_emb _ _ _ x).trans (hL p List.mem_cons_self x)
    · refine (View.canon_cons_of_not_mem _ _ hm).trans (holds_canon (fun q hq => hL q (List.mem_cons_of_mem _ hq)) y ?_)
      obtain ⟨q, hq, hy⟩ := h
      rcases List.mem_cons.1 hq with rfl | hq
      · exact absurd hy hm
      · exact ⟨q, hq, hy⟩

/-- One head's biases by bucket. -/
def col (x0 : Vec Ideal S32x8 .f32) (h : Fin 8) (n : ℕ) : EReal := if hn : n < 32 then x0 (ix2 ⟨n, hn⟩ h) else 0

/-- The tile of every head. -/
def tile (ids : IVec S8x256 32) (x0 : Vec Ideal S32x8 .f32) (y : S1x8x128x256.Idx) : EReal :=
  filled ids (col x0 (y 1)) 32 (ix2 0 (source (y 2) (y 3)))

variable {c : Dev nD} {i : grid0.Coords} {arg1 : Memref sig .tc .smem S32x8 .f32} {harg1 : arg1.IsWhole}
  {arg2 : Memref sig .tc .vmem S1x8x256 .i32} {harg2 : arg2.IsWhole} {arg3 : Memref sig .tc .vmem S1x8x128x256 .f32} {harg3 : arg3.IsWhole}
  {x0 : Vec Ideal S32x8 .f32} {x1 : Vec Ideal S1x8x256 .i32}

theorem holds_at {ids : IVec S8x256 32} {h : ℕ} {inb} {P : FVec Ideal S1x1x128x256 .f32} {r : FVec Ideal S1x256 .f32} {v : FVec Ideal S8x256 .f32} (hh : h < 8)
    (hP : P = turned r) (hr : r = firstRow v) (hv : v = filled ids (col x0 ⟨h, hh⟩) 32) :
    Holds (tile ids x0) ⟨Rect.unit ![0, h, 0, 0] S1x1x128x256.size inb, P⟩ := fun z => by
  obtain ⟨a, j, rfl⟩ : ∃ (a : Fin 128) (j : Fin 256), z = ix4 0 0 a j := ⟨z 2, z 3, funext fun x => by
    fin_cases x
    · exact Subsingleton.elim (α := Fin 1) _ _
    · exact Subsingleton.elim (α := Fin 1) _ _
    · rfl
    · rfl⟩
  have e : (Rect.emb (s := S1x8x128x256) (Rect.unit ![0, h, 0, 0] S1x1x128x256.size inb)) (ix4 0 0 a j) = ix4 0 ⟨h, hh⟩ a j := by
    funext x
    refine Fin.ext ?_
    fin_cases x <;> simp
  refine Eq.trans ?_ (congrArg (tile ids x0) e).symm
  show P (ix4 0 0 a j) = filled ids (col x0 ⟨h, hh⟩) 32 (ix2 0 (source a j))
  rw [hP, hr, turned_at, hv]

/-- One bucket more. -/
theorem fill {ids : IVec S8x256 32} {n h : ℕ} {inb} {P v : FVec Ideal S8x256 .f32}
    {z : (Rect.unit (s := S32x8) ![n, h] S1x1.size inb).toLoadRect.shape.Idx} (hn : n < 32) (hh : h < 8)
    (hP : P = select (cmpi .eq ids (broadcast S8x256 (BitVec.ofNat 32 n)))
      (broadcast S8x256 (View.readAt (Elt Ideal) arg1.view (Rect.unit (s := S32x8) ![n, h] S1x1.size inb).toLoadRect (harg1.unread x0) z)) v)
    (hv : v = filled ids (col x0 ⟨h, hh⟩) n) : P = filled ids (col x0 ⟨h, hh⟩) (n + 1) := by
  have e : View.readAt (Elt Ideal) arg1.view (Rect.unit (s := S32x8) ![n, h] S1x1.size inb).toLoadRect (harg1.unread x0) z = col x0 ⟨h, hh⟩ n := by
    rw [View.readAt_apply, harg1.read_unread]
    unfold col
    rw [dif_pos hn]
    have h0 : (z 0).val < 1 := (z 0).isLt
    have h1 : (z 1).val < 1 := (z 1).isLt
    refine congrArg x0 (funext fun x => Fin.ext ?_)
    fin_cases x
    · show n + 1 * (z 0).val = n
      omega
    · show h + 1 * (z 1).val = h
      omega
  rw [hP, e, hv]
  rfl

end Cert.Proof.Table

end
-- ==== Proof.TabTile.lean ====
/- The bias tables: the eight stores of a grid point. -/
module

public import proofs.«01_k».proof.Proof.TabStores

@[expose] public section

set_option maxRecDepth 16384
set_option maxHeartbeats 40000000

noncomputable section

namespace Cert.Proof.Table

open Cert.Kernel6Ideal Cert.Kernel6Ideal.Gen Idealize.ShloMosaic Idealize.ShloMosaic.TcCoe Idealize.SL.Sem

variable (c : Dev nD) (i : grid0.Coords) (arg1 : Memref sig .tc .smem S32x8 .f32) (harg1 : arg1.IsWhole)
  (arg2 : Memref sig .tc .vmem S1x8x256 .i32) (harg2 : arg2.IsWhole) (arg3 : Memref sig .tc .vmem S1x8x128x256 .f32) (harg3 : arg3.IsWhole)
  (x0 : Vec Ideal S32x8 .f32) (x1 : Vec Ideal S1x8x256 .i32)

/-- The buckets the body reads. -/
def read : IVec S8x256 32 :=
  k0_pay2 (F := Ideal) (View.readAt (Elt Ideal) arg2.view (Rect.unit (s := S1x8x256) ![0, 0, 0] S1x8x256.size inb_S1x8x256_S1x8x256_0_0_0).toLoadRect (harg2.unread x1))

/-- Every store of a list holds `G`. -/
inductive All (G : S1x8x128x256.Idx → EReal) : List (View.Piece (Elt Ideal) S1x8x128x256 .f32) → Prop
  | nil : All G []
  | cons {p L} : Holds G p → All G L → All G (p :: L)

theorem All.holds {G : S1x8x128x256.Idx → EReal} {L : List (View.Piece (Elt Ideal) S1x8x128x256 .f32)} (h : All G L) : ∀ p ∈ L, Holds G p := by
  induction h with
  | nil => intro p hp; simp at hp
  | cons hp _ ih =>
    intro q hq
    rcases List.mem_cons.1 hq with rfl | hq
    · exact hp
    · exact ih q hq

theorem stores : All (tile (read arg2 harg2 x1) x0) (kernelRun0_A (F := Ideal) c i arg1 harg1 arg2 harg2 arg3 harg3 x0 x1).1 := by
  iterate 8
    refine All.cons (holds_at (by decide) rfl rfl ?_) ?_
    · iterate 32
        refine fill (arg1 := arg1) (harg1 := harg1) (by decide) (by decide) rfl ?_
      rfl
  exact All.nil

theorem left : out0_A_2 (F := Ideal) c i arg1 harg1 arg2 harg2 arg3 harg3 x0 x1 = tile (read arg2 harg2 x1) x0 := by
  funext y
  refine (congrFun (View.read_writes_junk_eq_canon _ _) y).trans ?_
  exact holds_canon (stores c i arg1 harg1 arg2 harg2 arg3 harg3 x0 x1).holds y (cover0_A_2 c i arg1 harg1 arg2 harg2 arg3 harg3 x0 x1 y)

theorem read_at (r : Fin 8) (k : Fin 256) : read arg2 harg2 x1 (ix2 r k) = x1 (ix3 0 r k) := by
  unfold read
  pointwise [k0_pay2]
  rw [View.readAt_apply, harg2.read_unread]
  exact congrArg x1 (funext fun x => Fin.ext (by fin_cases x <;> simp <;> rfl))

end Cert.Proof.Table

end
-- ==== Proof.TabReference.lean ====
/- The bias tables: the reference's entries. -/
module

public import proofs.«01_k».proof.Proof.TabSpec
public import proofs.«01_k».proof.Proof.Gen.Reference6Ideal.Read
public import Idealize.ShloMosaic.Lib.Pointwise

@[expose] public section

set_option maxRecDepth 16384
set_option maxHeartbeats 4000000

noncomputable section

namespace Cert.Proof.Table

open Cert.Reference6Ideal Cert.Reference6Ideal.Read Idealize.ShloMosaic

/-- The look-up of a bias by bucket. -/
abbrev look : GatherDims S32x8 S3x128x256x1 S3x128x256x8 := gather_S32x8_S3x128x256x1_S3x128x256x8_3_0_n_n_0_3_18

theorem look_0 (idx : IVec S3x128x256x1 32) (d : Fin 3) (a : Fin 128) (j : Fin 256) (h : Fin 8) :
    look.start (ix4 d a j h) idx 0 + look.batchCoord (ix4 d a j h) 0 + look.offCoord (ix4 d a j h) 0 = min (idx (ix4 d a j 0)).toInt.toNat 31 := by
  have e : look.siIdx (ix4 d a j h) ⟨0, by decide⟩ = ix4 d a j 0 := by
    funext x
    fin_cases x <;> rfl
  exact congrArg (fun z => min (idx z).toInt.toNat 31) e

theorem look_1 (idx : IVec S3x128x256x1 32) (d : Fin 3) (a : Fin 128) (j : Fin 256) (h : Fin 8) :
    look.start (ix4 d a j h) idx 1 + look.batchCoord (ix4 d a j h) 1 + look.offCoord (ix4 d a j h) 1 = h.val := by
  show 0 + 0 + h.val = h.val
  omega

theorem gather_at (x : FVec Ideal S32x8 .f32) (idx : IVec S3x128x256x1 32) (d : Fin 3) (a : Fin 128) (j : Fin 256) (h : Fin 8) (n : Fin 32)
    (hn : (idx (ix4 d a j 0)).toInt = n.val) : Host.gather look x idx (ix4 d a j h) = x (ix2 n h) := by
  unfold Host.gather
  refine congrArg x (funext fun b => Fin.ext ?_)
  have hlt := n.isLt
  fin_cases b
  · refine (look_0 idx d a j h).trans ?_
    rw [hn]
    show min (Int.toNat n.val) 31 = n.val
    omega
  · exact look_1 idx d a j h

theorem wrap (w : BitVec 32) (h : 0 ≤ w.toInt) : Scalar.select (IntOp.cmpi .slt w 0#32) (w + 32#32) w = w := by
  have e : IntOp.cmpi .slt w 0#32 = 0#1 := by simp [IntOp.cmpi, BitVec.slt, not_lt.2 h]
  rw [e]
  rfl

variable (w : Vec Ideal S32x8 .f32)

/-- A look-up at wrapped buckets is the bias of the bucket. -/
theorem gather_bucket (q : BitVec 32) (idx : IVec S3x128x256x1 32) (d : Fin 3) (a : Fin 128) (j : Fin 256) (h : Fin 8)
    (hidx : idx (ix4 d a j 0) = Scalar.select (IntOp.cmpi .slt (Bias.bucket q) 0#32) (Bias.bucket q + 32#32) (Bias.bucket q)) :
    Host.gather look w idx (ix4 d a j h) = w (ix2 ⟨(Bias.bucket q).toNat, bucket_lt q⟩ h) := by
  refine gather_at w idx d a j h _ ?_
  rw [hidx, wrap _ (Bias.bucket_nonneg q)]
  exact bucket_toInt q

/-- The distance of an entry: the steps back times the dilation. -/
theorem dist_at (d : Fin 3) (a : Fin 128) (j : Fin 256) : val_main_v19 (F := Ideal) (ix3 d a j) = steps a j * dil d := by
  unfold val_main_v19
  fin_cases d
  · pointwise
    rfl
  · pointwise
    rfl
  · pointwise
    rfl

theorem bucket_at (i : S3x128x256.Idx) : val_main_v39 (F := Ideal) i = Bias.bucket (val_main_v19 (F := Ideal) i) := by
  rw [val_main_v39_apply, val_main_v38_apply, val_main_v36_apply, val_main_v34_apply, val_main_v32_apply, val_main_v31_apply, val_main_v29_apply,
    val_main_v27_apply, val_main_v26_apply, val_main_v24_apply, val_main_v23_apply, val_main_v21_apply]
  generalize val_main_v19 (F := Ideal) i = q
  rfl

theorem index_at (d : Fin 3) (a : Fin 128) (j : Fin 256) : val_main_v45 (F := Ideal) (ix4 d a j 0)
    = Scalar.select (IntOp.cmpi .slt (Bias.bucket (steps a j * dil d)) 0#32) (Bias.bucket (steps a j * dil d) + 32#32) (Bias.bucket (steps a j * dil d)) := by
  have e : val_main_v39 (F := Ideal) (ix3 d a j) = Bias.bucket (steps a j * dil d) := by rw [bucket_at, dist_at]
  have ei : idx_main_v45 (ix4 d a j 0) = ix3 d a j := funext fun x => by fin_cases x <;> rfl
  rw [val_main_v45_apply, ei, val_main_v44_apply, val_main_v41_apply, val_main_v43_apply, e]
  generalize Bias.bucket (steps a j * dil d) = q
  rfl

theorem band_at (a : Fin 128) (j : Fin 256) : val_main_v9 (F := Ideal) (ix2 a j) = inBand (steps a j) := by
  rw [val_main_v9_apply, val_main_v6_apply, val_main_v8_apply]
  have e : val_main_v4 (F := Ideal) (ix2 a j) = steps a j := rfl
  rw [e]
  generalize steps a j = q
  rfl

theorem reference_at (d : Fin 3) (h : Fin 8) (a : Fin 128) (j : Fin 256) : val_main_v48 (F := Ideal) w (ix4 d h a j) = entry w d h (steps a j) := by
  have e1 : idx_main_call1_v1 (ix4 d h a j) = ix2 a j := funext fun x => by fin_cases x <;> rfl
  have e2 : idx_main_v47 (ix4 d h a j) = ix4 d a j h := funext fun x => by fin_cases x <;> rfl
  have eg : val_main_v46 (F := Ideal) w (ix4 d a j h) = w (ix2 ⟨(Bias.bucket (steps a j * dil d)).toNat, bucket_lt _⟩ h) :=
    gather_bucket w (steps a j * dil d) (val_main_v45 (F := Ideal)) d a j h (index_at d a j)
  have el : val_main_call1_v2 (F := Ideal) (ix4 d h a j) = (⊥ : EReal) := by
    rw [val_main_call1_v2_apply, val_main_call1_v0_apply, val_main_cst_14_apply]
    exact Attn.low_eq
  rw [val_main_v48_apply, val_main_call1_v1_apply, e1, val_main_v47_apply, e2, eg, el, band_at]
  unfold entry
  exact rfl

end Cert.Proof.Table

end
-- ==== Proof.TabClaim.lean ====
/- The bias tables: kernel and reference give the same array. -/
module

public import proofs.«01_k».proof.Defs
public import proofs.«01_k».proof.Proof.TabIds
public import proofs.«01_k».proof.Proof.TabTile
public import proofs.«01_k».proof.Proof.TabReference

@[expose] public section

set_option maxRecDepth 16384
set_option maxHeartbeats 4000000

noncomputable section

namespace Cert.Proof.Table

open Cert.Kernel6Ideal Cert.Kernel6Ideal.Gen Idealize.ShloMosaic Idealize.ShloMosaic.TcCoe Idealize.SL.Sem

variable (m : (ℓ : Loc nD τ sig) → Buf (Elt Ideal) ℓ)

/-- The biases given. -/
abbrev given (c : Dev nD) : Vec Ideal S32x8 .f32 := m ((c : Thread nD τ).loc main_arg0)

theorem idx : ∀ t : Fin cfg0.N, win0_0.index t = ![0, 0] ∧ win0_1.index t = ![t.val, 0, 0] ∧ win0_2.index t = ![t.val, 0, 0, 0] ∧ t.val < 3 :=
  (by decide +kernel : ∀ t : Fin grid0.N, _)

theorem blk0 (c : Dev nD) (t : Fin cfg0.N) : iblk m c 0 t = given m c := by
  funext y
  idx_vars y
  blk_ext! [iblk, V, idx t]

/-- The buckets of every dilation. -/
abbrev rows (c : Dev nD) : Vec Ideal S3x8x256 .i32 := V m c main_v82

theorem blk1 (c : Dev nD) (t : Fin cfg0.N) (ht : t.val < 3) (r : Fin 8) (k : Fin 256) :
    (iblk m c 1 t : Vec Ideal S1x8x256 .i32) (ix3 0 r k) = rows m c (ix3 ⟨t.val, ht⟩ r k) := by
  unfold rows
  blk_ext! [iblk, idx t]

/-- A filled place whose word is a dilation's row word is the table's entry. -/
theorem filled_entry (ids : IVec S8x256 32) (w : Vec Ideal S32x8 .f32) (d : Fin 3) (h : Fin 8) (y : S8x256.Idx) (k : Fin 256)
    (hy : ids y = rowWord (dil d) k) : filled ids (col w h) 32 y = entry w d h (128#32 - BitVec.ofNat 32 k.val) := by
  rw [filled_at ids _ y 32 le_rfl]
  unfold rowWord at hy
  unfold entry
  rcases BitVec.eq_zero_or_eq_one (inBand (128#32 - BitVec.ofNat 32 k.val)) with hz | ho
  · rw [hz, select_zero] at hy
    rw [hz, select_zero, hy, if_neg (by decide)]
    show Scalar.select (IntOp.cmpi .slt (ids y) 0#32) (Named.named κ "mask" 0xF149F2CA#32 : Ideal .f32) _ = _
    rw [hy, mask_eq]
    rfl
  · rw [ho, select_one] at hy
    rw [ho, select_one, hy, if_pos (bucket_lt _)]
    exact dif_pos (bucket_lt _)

theorem point (c : Dev nD) (t : Fin cfg0.N) (ht : t.val < 3) (h : Fin 8) (a : Fin 128) (j : Fin 256) :
    outsAt0 m c t (ix4 0 h a j) = entry (given m c) ⟨t.val, ht⟩ h (steps a j) := by
  rw [outsAt0, left, blk0, ← entry_turn]
  exact filled_entry _ _ _ _ _ _ ((read_at ..).trans ((blk1 m c t ht 0 _).trans (ids_at m c _ 0 _)))

/-- The kernel's array is the reference's. -/
theorem final_eq (c : Dev nD) : (dats m 0 c).arrAt 2 (cfgs 0).N = Cert.Reference6Ideal.Read.val_main_v48 (F := Ideal) (given m c) := by
  refine (dats m 0 c).arrAt_eq_of_covers 2 _ (by decide +kernel) fun t _ y => ?_
  blk_simp
  rw [after0_2]
  idx_vars y
  have ht := (idx t).2.2.2
  have e : (win0_2.blk t).view.emb (ix4 0 y1 y2 y3) = ix4 ⟨t.val, ht⟩ y1 y2 y3 := by
    blk_ext [idx t]
  have e' : (ix4 y0 y1 y2 y3 : S1x8x128x256.Idx) = ix4 0 y1 y2 y3 := by
    rw [Subsingleton.elim (α := Fin 1) y0 0]
  rw [e', e]
  exact (point m c t ht y1 y2 y3).trans (reference_at (given m c) ⟨t.val, ht⟩ y1 y2 y3).symm

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => (dats m 0 c).arrAt 2 cfg0.N, Cert.Kernel6Ideal.Value.run_blocks m g, ?_⟩
  refine (θ_run _ _ _).mono (fun r h c => ?_) (Cert.Reference6Ideal.Value.run m' g')
  obtain ⟨h0, hargs⟩ := h c
  refine ⟨h0.trans ((Cert.Reference6Ideal.Read.val_main_v48_eq _ _).trans ?_), hargs⟩
  exact (congrArg (Cert.Reference6Ideal.Read.val_main_v48 (F := Ideal)) (hagree c)).trans (final_eq m c).symm

end Cert.Proof.Table

end
-- ==== Proof.lean ====
/- The claims, assembled: the generated frames of the kernel, the reference's run, and each pair's equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_args
public import proofs.«01_k».proof.Proof.DxClaim
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.PostClaim
public import proofs.«01_k».proof.Proof.Gen.Kernel3.Frame
public import proofs.«01_k».proof.Proof.AttnRun
public import proofs.«01_k».proof.Proof.AttnClaim
public import proofs.«01_k».proof.Proof.BiasClaim
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.InClaim
public import proofs.«01_k».proof.Proof.TabClaim
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_args.Gen.facts, Cert.Proof.Post.preFacts, Cert.Proof.Attn.preFacts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => (θ_run _ _ _).mono (fun r h => ⟨fun c => (h c).2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2.2.2.2.2.2.2.2.2.2, sem_eq_zero_of_no_sems (by decide) r.2⟩) (Cert.Reference2Ideal.Value.run m ρ),
  fun m ρ _ => (θ_run _ _ _).mono (fun r h => ⟨fun c => (h c).2.2.2.2.2.2.2.2.2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => Cert.Kernel3Ideal.Gen.frame m ρ,
  fun m ρ _ => (θ_run _ _ _).mono (fun r h => ⟨fun c => (h c).2.2, sem_eq_zero_of_no_sems (by decide) r.2⟩) (Cert.Reference3Ideal.Value.run m ρ),
  fun m ρ _ => (θ_run _ _ _).mono (fun r h => ⟨fun c => (h c).2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  trivial,
  Cert.Proof.Dx.algebraic,
  trivial,
  Cert.Proof.Post.algebraic,
  Idealize.ShloMosaic.IdealRules.named_const.statement Cert.Kernel3Ideal.κ "mask" .f32 0xF149F2CA#32 ⊥ rfl,
  Cert.Proof.Attn.algebraic,
  trivial,
  Cert.Proof.Bias.algebraic,
  trivial,
  Cert.Proof.In.algebraic,
  Idealize.ShloMosaic.IdealRules.named_const.statement Cert.Kernel6Ideal.κ "mask" .f32 0xF149F2CA#32 ⊥ rfl,
  Cert.Proof.Table.algebraic⟩

end Cert.Proof

end
